-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_and_unbiased [hPre_real_and_unbiased : Cert.Pre_real_and_unbiased.Facts] (m : (ℓ : Loc Cert.KernelIdeal.nD Cert.KernelIdeal.τ Cert.KernelIdeal.sig) → Buf (Elt Ideal) ℓ) : Prop :=
  ∀ c : Dev Cert.KernelIdeal.nD,
    (Cert.Pre_real_and_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_and_unbiased [hPre_real_and_unbiased : Cert.Pre_real_and_unbiased.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_and_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_real_and_unbiased [hKernelIdeal : Cert.KernelIdeal.Facts] [hPre_real_and_unbiased : Cert.Pre_real_and_unbiased.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_and_unbiased m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_real_and_unbiased [hReferenceIdeal : Cert.ReferenceIdeal.Facts] [hPre_real_and_unbiased : Cert.Pre_real_and_unbiased.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_and_unbiased m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "inv_3" .f32 0x3EAAAAAB#32 ((1 / 3 : ℝ) : EReal)
  ∧ IdealRules.named_const.Statement Cert.KernelIdeal.κ "inv_7" .f32 0x3E124925#32 ((1 / 7 : ℝ) : EReal)
  ∧ IdealRules.named_const.Statement Cert.KernelIdeal.κ "inv_15" .f32 0x3D888889#32 ((1 / 15 : ℝ) : EReal)
  ∧ IdealRules.named_const.Statement Cert.KernelIdeal.κ "inv_31" .f32 0x3D042108#32 ((1 / 31 : ℝ) : EReal)
  ∧ IdealRules.named_const.Statement Cert.KernelIdeal.κ "inv_63" .f32 0x3C820821#32 ((1 / 63 : ℝ) : EReal)
  ∧ IdealRules.named_const.Statement Cert.KernelIdeal.κ "inv_127" .f32 0x3C010204#32 ((1 / 127 : ℝ) : EReal)
  ∧ IdealRules.named_const.Statement Cert.KernelIdeal.κ "inv_255" .f32 0x3B808081#32 ((1 / 255 : ℝ) : EReal)
  ∧ IdealRules.named_const.Statement Cert.KernelIdeal.κ "inv_511" .f32 0x3B004020#32 ((1 / 511 : ℝ) : EReal)
  ∧ IdealRules.named_const.Statement Cert.KernelIdeal.κ "inv_1023" .f32 0x3A802008#32 ((1 / 1023 : ℝ) : EReal)

def algebraic_KernelIdeal_ReferenceIdeal_pre_real_and_unbiased [hKernelIdeal : Cert.KernelIdeal.Facts] [hReferenceIdeal : Cert.ReferenceIdeal.Facts] [hPre_real_and_unbiased : Cert.Pre_real_and_unbiased.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_and_unbiased m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v829) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_real_and_unbiased : Cert.Pre_real_and_unbiased.Facts),
    quiescent_Kernel (hKernel := hKernel)
    ∧ quiescent_KernelIdeal (hKernelIdeal := hKernelIdeal)
    ∧ quiescent_KernelIdeal_pre_real_and_unbiased (hKernelIdeal := hKernelIdeal) (hPre_real_and_unbiased := hPre_real_and_unbiased)
    ∧ quiescent_ReferenceIdeal (hReferenceIdeal := hReferenceIdeal)
    ∧ quiescent_ReferenceIdeal_pre_real_and_unbiased (hReferenceIdeal := hReferenceIdeal) (hPre_real_and_unbiased := hPre_real_and_unbiased)
    ∧ preserves_Kernel_KernelIdeal
    ∧ algebraic_KernelIdeal_ReferenceIdeal_pre_real_and_unbiased (hKernelIdeal := hKernelIdeal) (hReferenceIdeal := hReferenceIdeal) (hPre_real_and_unbiased := hPre_real_and_unbiased)
-- ==== Pre_real_and_unbiased.lean ====
abbrev S128x1x128 : Shape := ⟨3, ![128, 1, 128]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x16 : Shape := ⟨2, ![256, 16]⟩
abbrev S16 : Shape := ⟨1, ![16]⟩
abbrev S144x144 : Shape := ⟨2, ![144, 144]⟩
abbrev S144 : Shape := ⟨1, ![144]⟩
abbrev S144x256 : Shape := ⟨2, ![144, 256]⟩
abbrev S144x128 : Shape := ⟨2, ![144, 128]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bcast_S_S256 : S_.BroadcastsInDim S256 (![] : Fin 0 → Fin S256.rank)
  reducesTo_S256_S_d0 : S256.ReducesTo [0] S_
  bcast_S_S144 : S_.BroadcastsInDim S144 (![] : Fin 0 → Fin S144.rank)
  reducesTo_S144_S_d0 : S144.ReducesTo [0] S_
  bcast_S_S128x1x128 : S_.BroadcastsInDim S128x1x128 (![] : Fin 0 → Fin S128x1x128.rank)
  reducesTo_S128x1x128_S_d0_1_2 : S128x1x128.ReducesTo [0, 1, 2] S_
  bcast_S_S128x128 : S_.BroadcastsInDim S128x128 (![] : Fin 0 → Fin S128x128.rank)
  reducesTo_S128x128_S_d0_1 : S128x128.ReducesTo [0, 1] S_
  bcast_S_S256x256 : S_.BroadcastsInDim S256x256 (![] : Fin 0 → Fin S256x256.rank)
  reducesTo_S256x256_S_d0_1 : S256x256.ReducesTo [0, 1] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S144x144 : S_.BroadcastsInDim S144x144 (![] : Fin 0 → Fin S144x144.rank)
  reducesTo_S144x144_S_d0_1 : S144x144.ReducesTo [0, 1] S_
  bcast_S_S144x256 : S_.BroadcastsInDim S144x256 (![] : Fin 0 → Fin S144x256.rank)
  reducesTo_S144x256_S_d0_1 : S144x256.ReducesTo [0, 1] S_
  bcast_S_S144x128 : S_.BroadcastsInDim S144x128 (![] : Fin 0 → Fin S144x128.rank)
  reducesTo_S144x128_S_d0_1 : S144x128.ReducesTo [0, 1] S_

variable [Facts]

def fn_part4 {F : FTy → Type} [FloatOps F] (main_arg13 : FVec F S144x144 .f32) (main_arg15 : FVec F S144x128 .f32) (main_v63 : IVec S_ 1) (main_v66 : IVec S144x256 1) : IVec S_ 1 :=
  let main_c_27 : IVec S_ 1 := constantI S_ 1 1#1
  let main_v67 : IVec S_ 1 := (fun x v => Host.reduce IntOp.andi x v reducesTo_S144x256_S_d0_1 h_S_) main_v66 main_c_27
  let main_v68 : IVec S_ 1 := andi main_v63 main_v67
  let main_v69 : FVec F S144x144 .f32 := Host.absf main_arg13
  let main_cst_28 : FVec F S_ .f32 := constant S_ .f32 0x7F800000#32
  let main_v70 : FVec F S144x144 .f32 := broadcastInDim S144x144 ![] bcast_S_S144x144 main_cst_28
  let main_v71 : IVec S144x144 1 := cmpf .olt main_v69 main_v70
  let main_c_29 : IVec S_ 1 := constantI S_ 1 1#1
  let main_v72 : IVec S_ 1 := (fun x v => Host.reduce IntOp.andi x v reducesTo_S144x144_S_d0_1 h_S_) main_v71 main_c_29
  let main_v73 : IVec S_ 1 := andi main_v68 main_v72
  let main_v74 : FVec F S144x128 .f32 := Host.absf main_arg15
  let main_cst_30 : FVec F S_ .f32 := constant S_ .f32 0x7F800000#32
  let main_v75 : FVec F S144x128 .f32 := broadcastInDim S144x128 ![] bcast_S_S144x128 main_cst_30
  let main_v76 : IVec S144x128 1 := cmpf .olt main_v74 main_v75
  let main_c_31 : IVec S_ 1 := constantI S_ 1 1#1
  let main_v77 : IVec S_ 1 := (fun x v => Host.reduce IntOp.andi x v reducesTo_S144x128_S_d0_1 h_S_) main_v76 main_c_31
  let main_v78 : IVec S_ 1 := andi main_v73 main_v77
  main_v78

def fn_part3 {F : FTy → Type} [FloatOps F] (main_arg9 : FVec F S144x144 .f32) (main_arg10 : FVec F S144 .f32) (main_arg11 : FVec F S144x256 .f32) (main_arg13 : FVec F S144x144 .f32) (main_arg15 : FVec F S144x128 .f32) (main_v48 : IVec S_ 1) (main_v49 : FVec F S16 .f32) : IVec S_ 1 :=
  let main_cst_20 : FVec F S_ .f32 := constant S_ .f32 0x7F800000#32
  let main_v50 : FVec F S16 .f32 := broadcastInDim S16 ![] bcast_S_S16 main_cst_20
  let main_v51 : IVec S16 1 := cmpf .olt main_v49 main_v50
  let main_c_21 : IVec S_ 1 := constantI S_ 1 1#1
  let main_v52 : IVec S_ 1 := (fun x v => Host.reduce IntOp.andi x v reducesTo_S16_S_d0 h_S_) main_v51 main_c_21
  let main_v53 : IVec S_ 1 := andi main_v48 main_v52
  let main_v54 : FVec F S144x144 .f32 := Host.absf main_arg9
  let main_cst_22 : FVec F S_ .f32 := constant S_ .f32 0x7F800000#32
  let main_v55 : FVec F S144x144 .f32 := broadcastInDim S144x144 ![] bcast_S_S144x144 main_cst_22
  let main_v56 : IVec S144x144 1 := cmpf .olt main_v54 main_v55
  let main_c_23 : IVec S_ 1 := constantI S_ 1 1#1
  let main_v57 : IVec S_ 1 := (fun x v => Host.reduce IntOp.andi x v reducesTo_S144x144_S_d0_1 h_S_) main_v56 main_c_23
  let main_v58 : IVec S_ 1 := andi main_v53 main_v57
  let main_v59 : FVec F S144 .f32 := Host.absf main_arg10
  let main_cst_24 : FVec F S_ .f32 := constant S_ .f32 0x7F800000#32
  let main_v60 : FVec F S144 .f32 := broadcastInDim S144 ![] bcast_S_S144 main_cst_24
  let main_v61 : IVec S144 1 := cmpf .olt main_v59 main_v60
  let main_c_25 : IVec S_ 1 := constantI S_ 1 1#1
  let main_v62 : IVec S_ 1 := (fun x v => Host.reduce IntOp.andi x v reducesTo_S144_S_d0 h_S_) main_v61 main_c_25
  let main_v63 : IVec S_ 1 := andi main_v58 main_v62
  let main_v64 : FVec F S144x256 .f32 := Host.absf main_arg11
  let main_cst_26 : FVec F S_ .f32 := constant S_ .f32 0x7F800000#32
  let main_v65 : FVec F S144x256 .f32 := broadcastInDim S144x256 ![] bcast_S_S144x256 main_cst_26
  let main_v66 : IVec S144x256 1 := cmpf .olt main_v64 main_v65
  fn_part4 (F := F) main_arg13 main_arg15 main_v63 main_v66

def fn_part2 {F : FTy → Type} [FloatOps F] (main_arg5 : FVec F S256x256 .f32) (main_arg6 : FVec F S256 .f32) (main_arg7 : FVec F S256x16 .f32) (main_arg8 : FVec F S16 .f32) (main_arg9 : FVec F S144x144 .f32) (main_arg10 : FVec F S144 .f32) (main_arg11 : FVec F S144x256 .f32) (main_arg13 : FVec F S144x144 .f32) (main_arg15 : FVec F S144x128 .f32) (main_v28 : IVec S_ 1) (main_v31 : IVec S128x128 1) (main_c_13 : IVec S_ 1) : IVec S_ 1 :=
  let main_v32 : IVec S_ 1 := (fun x v => Host.reduce IntOp.andi x v reducesTo_S128x128_S_d0_1 h_S_) main_v31 main_c_13
  let main_v33 : IVec S_ 1 := andi main_v28 main_v32
  let main_v34 : FVec F S256x256 .f32 := Host.absf main_arg5
  let main_cst_14 : FVec F S_ .f32 := constant S_ .f32 0x7F800000#32
  let main_v35 : FVec F S256x256 .f32 := broadcastInDim S256x256 ![] bcast_S_S256x256 main_cst_14
  let main_v36 : IVec S256x256 1 := cmpf .olt main_v34 main_v35
  let main_c_15 : IVec S_ 1 := constantI S_ 1 1#1
  let main_v37 : IVec S_ 1 := (fun x v => Host.reduce IntOp.andi x v reducesTo_S256x256_S_d0_1 h_S_) main_v36 main_c_15
  let main_v38 : IVec S_ 1 := andi main_v33 main_v37
  let main_v39 : FVec F S256 .f32 := Host.absf main_arg6
  let main_cst_16 : FVec F S_ .f32 := constant S_ .f32 0x7F800000#32
  let main_v40 : FVec F S256 .f32 := broadcastInDim S256 ![] bcast_S_S256 main_cst_16
  let main_v41 : IVec S256 1 := cmpf .olt main_v39 main_v40
  let main_c_17 : IVec S_ 1 := constantI S_ 1 1#1
  let main_v42 : IVec S_ 1 := (fun x v => Host.reduce IntOp.andi x v reducesTo_S256_S_d0 h_S_) main_v41 main_c_17
  let main_v43 : IVec S_ 1 := andi main_v38 main_v42
  let main_v44 : FVec F S256x16 .f32 := Host.absf main_arg7
  let main_cst_18 : FVec F S_ .f32 := constant S_ .f32 0x7F800000#32
  let main_v45 : FVec F S256x16 .f32 := broadcastInDim S256x16 ![] bcast_S_S256x16 main_cst_18
  let main_v46 : IVec S256x16 1 := cmpf .olt main_v44 main_v45
  let main_c_19 : IVec S_ 1 := constantI S_ 1 1#1
  let main_v47 : IVec S_ 1 := (fun x v => Host.reduce IntOp.andi x v reducesTo_S256x16_S_d0_1 h_S_) main_v46 main_c_19
  let main_v48 : IVec S_ 1 := andi main_v43 main_v47
  let main_v49 : FVec F S16 .f32 := Host.absf main_arg8
  fn_part3 (F := F) main_arg9 main_arg10 main_arg11 main_arg13 main_arg15 main_v48 main_v49

def fn_part1 {F : FTy → Type} [FloatOps F] (main_arg0 : FVec F S128x1x128 .f32) (main_arg1 : FVec F S128x128 .f32) (main_arg3 : FVec F S128x128 .f32) (main_arg5 : FVec F S256x256 .f32) (main_arg6 : FVec F S256 .f32) (main_arg7 : FVec F S256x16 .f32) (main_arg8 : FVec F S16 .f32) (main_arg9 : FVec F S144x144 .f32) (main_arg10 : FVec F S144 .f32) (main_arg11 : FVec F S144x256 .f32) (main_arg13 : FVec F S144x144 .f32) (main_arg15 : FVec F S144x128 .f32) (main_arg16 : FVec F S128 .f32) (main_v14 : IVec S_ 1) (main_cst_6 : FVec F S_ .f32) : IVec S_ 1 :=
  let main_v15 : FVec F S128 .f32 := broadcastInDim S128 ![] bcast_S_S128 main_cst_6
  let main_v16 : IVec S128 1 := cmpf .oeq main_arg16 main_v15
  let main_c_7 : IVec S_ 1 := constantI S_ 1 1#1
  let main_v17 : IVec S_ 1 := (fun x v => Host.reduce IntOp.andi x v reducesTo_S128_S_d0 h_S_) main_v16 main_c_7
  let main_v18 : IVec S_ 1 := andi main_v14 main_v17
  let main_v19 : FVec F S128x1x128 .f32 := Host.absf main_arg0
  let main_cst_8 : FVec F S_ .f32 := constant S_ .f32 0x7F800000#32
  let main_v20 : FVec F S128x1x128 .f32 := broadcastInDim S128x1x128 ![] bcast_S_S128x1x128 main_cst_8
  let main_v21 : IVec S128x1x128 1 := cmpf .olt main_v19 main_v20
  let main_c_9 : IVec S_ 1 := constantI S_ 1 1#1
  let main_v22 : IVec S_ 1 := (fun x v => Host.reduce IntOp.andi x v reducesTo_S128x1x128_S_d0_1_2 h_S_) main_v21 main_c_9
  let main_v23 : IVec S_ 1 := andi main_v18 main_v22
  let main_v24 : FVec F S128x128 .f32 := Host.absf main_arg1
  let main_cst_10 : FVec F S_ .f32 := constant S_ .f32 0x7F800000#32
  let main_v25 : FVec F S128x128 .f32 := broadcastInDim S128x128 ![] bcast_S_S128x128 main_cst_10
  let main_v26 : IVec S128x128 1 := cmpf .olt main_v24 main_v25
  let main_c_11 : IVec S_ 1 := constantI S_ 1 1#1
  let main_v27 : IVec S_ 1 := (fun x v => Host.reduce IntOp.andi x v reducesTo_S128x128_S_d0_1 h_S_) main_v26 main_c_11
  let main_v28 : IVec S_ 1 := andi main_v23 main_v27
  let main_v29 : FVec F S128x128 .f32 := Host.absf main_arg3
  let main_cst_12 : FVec F S_ .f32 := constant S_ .f32 0x7F800000#32
  let main_v30 : FVec F S128x128 .f32 := broadcastInDim S128x128 ![] bcast_S_S128x128 main_cst_12
  let main_v31 : IVec S128x128 1 := cmpf .olt main_v29 main_v30
  let main_c_13 : IVec S_ 1 := constantI S_ 1 1#1
  fn_part2 (F := F) main_arg5 main_arg6 main_arg7 main_arg8 main_arg9 main_arg10 main_arg11 main_arg13 main_arg15 main_v28 main_v31 main_c_13

def fn {F : FTy → Type} [FloatOps F] (main_arg0 : FVec F S128x1x128 .f32) (main_arg1 : FVec F S128x128 .f32) (main_arg2 : FVec F S128 .f32) (main_arg3 : FVec F S128x128 .f32) (main_arg4 : FVec F S128 .f32) (main_arg5 : FVec F S256x256 .f32) (main_arg6 : FVec F S256 .f32) (main_arg7 : FVec F S256x16 .f32) (main_arg8 : FVec F S16 .f32) (main_arg9 : FVec F S144x144 .f32) (main_arg10 : FVec F S144 .f32) (main_arg11 : FVec F S144x256 .f32) (main_arg12 : FVec F S256 .f32) (main_arg13 : FVec F S144x144 .f32) (main_arg14 : FVec F S144 .f32) (main_arg15 : FVec F S144x128 .f32) (main_arg16 : FVec F S128 .f32) : IVec S_ 1 :=
  let main_cst : FVec F S_ .f32 := constant S_ .f32 0x00000000#32
  let main_v0 : FVec F S128 .f32 := broadcastInDim S128 ![] bcast_S_S128 main_cst
  let main_v1 : IVec S128 1 := cmpf .oeq main_arg2 main_v0
  let main_c : IVec S_ 1 := constantI S_ 1 1#1
  let main_v2 : IVec S_ 1 := (fun x v => Host.reduce IntOp.andi x v reducesTo_S128_S_d0 h_S_) main_v1 main_c
  let main_cst_0 : FVec F S_ .f32 := constant S_ .f32 0x00000000#32
  let main_v3 : FVec F S128 .f32 := broadcastInDim S128 ![] bcast_S_S128 main_cst_0
  let main_v4 : IVec S128 1 := cmpf .oeq main_arg4 main_v3
  let main_c_1 : IVec S_ 1 := constantI S_ 1 1#1
  let main_v5 : IVec S_ 1 := (fun x v => Host.reduce IntOp.andi x v reducesTo_S128_S_d0 h_S_) main_v4 main_c_1
  let main_v6 : IVec S_ 1 := andi main_v2 main_v5
  let main_cst_2 : FVec F S_ .f32 := constant S_ .f32 0x00000000#32
  let main_v7 : FVec F S256 .f32 := broadcastInDim S256 ![] bcast_S_S256 main_cst_2
  let main_v8 : IVec S256 1 := cmpf .oeq main_arg12 main_v7
  let main_c_3 : IVec S_ 1 := constantI S_ 1 1#1
  let main_v9 : IVec S_ 1 := (fun x v => Host.reduce IntOp.andi x v reducesTo_S256_S_d0 h_S_) main_v8 main_c_3
  let main_v10 : IVec S_ 1 := andi main_v6 main_v9
  let main_cst_4 : FVec F S_ .f32 := constant S_ .f32 0x00000000#32
  let main_v11 : FVec F S144 .f32 := broadcastInDim S144 ![] bcast_S_S144 main_cst_4
  let main_v12 : IVec S144 1 := cmpf .oeq main_arg14 main_v11
  let main_c_5 : IVec S_ 1 := constantI S_ 1 1#1
  let main_v13 : IVec S_ 1 := (fun x v => Host.reduce IntOp.andi x v reducesTo_S144_S_d0 h_S_) main_v12 main_c_5
  let main_v14 : IVec S_ 1 := andi main_v10 main_v13
  let main_cst_6 : FVec F S_ .f32 := constant S_ .f32 0x00000000#32
  fn_part1 (F := F) main_arg0 main_arg1 main_arg3 main_arg5 main_arg6 main_arg7 main_arg8 main_arg9 main_arg10 main_arg11 main_arg13 main_arg15 main_arg16 main_v14 main_cst_6
-- ==== Kernel.lean ====
abbrev S128x1x128 : Shape := ⟨3, ![128, 1, 128]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x16 : Shape := ⟨2, ![256, 16]⟩
abbrev S16 : Shape := ⟨1, ![16]⟩
abbrev S144x144 : Shape := ⟨2, ![144, 144]⟩
abbrev S144 : Shape := ⟨1, ![144]⟩
abbrev S144x256 : Shape := ⟨2, ![144, 256]⟩
abbrev S144x128 : Shape := ⟨2, ![144, 128]⟩
abbrev S512 : Shape := ⟨1, ![512]⟩
abbrev S16x144 : Shape := ⟨2, ![16, 144]⟩
abbrev S256x144 : Shape := ⟨2, ![256, 144]⟩
abbrev S256x288 : Shape := ⟨2, ![256, 288]⟩
abbrev S288 : Shape := ⟨1, ![288]⟩
abbrev S1x256 : Shape := ⟨2, ![1, 256]⟩
abbrev S1x288 : Shape := ⟨2, ![1, 288]⟩
abbrev S128x144 : Shape := ⟨2, ![128, 144]⟩
abbrev S65536x8 : Shape := ⟨2, ![65536, 8]⟩
abbrev S32x128 : Shape := ⟨2, ![32, 128]⟩
abbrev S16384x8 : Shape := ⟨2, ![16384, 8]⟩
abbrev S32736x128 : Shape := ⟨2, ![32736, 128]⟩
abbrev S32x144 : Shape := ⟨2, ![32, 144]⟩
abbrev S32x256 : Shape := ⟨2, ![32, 256]⟩
abbrev S32x288 : Shape := ⟨2, ![32, 288]⟩
abbrev S1x32x144 : Shape := ⟨3, ![1, 32, 144]⟩
abbrev S64x128 : Shape := ⟨2, ![64, 128]⟩
abbrev S2x32x144 : Shape := ⟨3, ![2, 32, 144]⟩
abbrev S64x144 : Shape := ⟨2, ![64, 144]⟩
abbrev S96x144 : Shape := ⟨2, ![96, 144]⟩
abbrev S96x128 : Shape := ⟨2, ![96, 128]⟩
abbrev S64x256 : Shape := ⟨2, ![64, 256]⟩
abbrev S4x32x144 : Shape := ⟨3, ![4, 32, 144]⟩
abbrev S224x144 : Shape := ⟨2, ![224, 144]⟩
abbrev S224x128 : Shape := ⟨2, ![224, 128]⟩
abbrev S128x256 : Shape := ⟨2, ![128, 256]⟩
abbrev S256x128 : Shape := ⟨2, ![256, 128]⟩
abbrev S6x32x144 : Shape := ⟨3, ![6, 32, 144]⟩
abbrev S8x32x144 : Shape := ⟨3, ![8, 32, 144]⟩
abbrev S192x144 : Shape := ⟨2, ![192, 144]⟩
abbrev S480x144 : Shape := ⟨2, ![480, 144]⟩
abbrev S480x128 : Shape := ⟨2, ![480, 128]⟩
abbrev S512x128 : Shape := ⟨2, ![512, 128]⟩
abbrev S14x32x144 : Shape := ⟨3, ![14, 32, 144]⟩
abbrev S16x32x144 : Shape := ⟨3, ![16, 32, 144]⟩
abbrev S448x144 : Shape := ⟨2, ![448, 144]⟩
abbrev S512x144 : Shape := ⟨2, ![512, 144]⟩
abbrev S992x144 : Shape := ⟨2, ![992, 144]⟩
abbrev S992x128 : Shape := ⟨2, ![992, 128]⟩
abbrev S512x256 : Shape := ⟨2, ![512, 256]⟩
abbrev S1024x128 : Shape := ⟨2, ![1024, 128]⟩
abbrev S30x32x144 : Shape := ⟨3, ![30, 32, 144]⟩
abbrev S32x32x144 : Shape := ⟨3, ![32, 32, 144]⟩
abbrev S960x144 : Shape := ⟨2, ![960, 144]⟩
abbrev S1024x144 : Shape := ⟨2, ![1024, 144]⟩
abbrev S2016x144 : Shape := ⟨2, ![2016, 144]⟩
abbrev S2016x128 : Shape := ⟨2, ![2016, 128]⟩
abbrev S1024x256 : Shape := ⟨2, ![1024, 256]⟩
abbrev S2048x128 : Shape := ⟨2, ![2048, 128]⟩
abbrev S62x32x144 : Shape := ⟨3, ![62, 32, 144]⟩
abbrev S64x32x144 : Shape := ⟨3, ![64, 32, 144]⟩
abbrev S1984x144 : Shape := ⟨2, ![1984, 144]⟩
abbrev S2048x144 : Shape := ⟨2, ![2048, 144]⟩
abbrev S4064x144 : Shape := ⟨2, ![4064, 144]⟩
abbrev S4064x128 : Shape := ⟨2, ![4064, 128]⟩
abbrev S2048x256 : Shape := ⟨2, ![2048, 256]⟩
abbrev S4096x128 : Shape := ⟨2, ![4096, 128]⟩
abbrev S126x32x144 : Shape := ⟨3, ![126, 32, 144]⟩
abbrev S128x32x144 : Shape := ⟨3, ![128, 32, 144]⟩
abbrev S4032x144 : Shape := ⟨2, ![4032, 144]⟩
abbrev S4096x144 : Shape := ⟨2, ![4096, 144]⟩
abbrev S8160x144 : Shape := ⟨2, ![8160, 144]⟩
abbrev S8160x128 : Shape := ⟨2, ![8160, 128]⟩
abbrev S4096x256 : Shape := ⟨2, ![4096, 256]⟩
abbrev S8192x128 : Shape := ⟨2, ![8192, 128]⟩
abbrev S254x32x144 : Shape := ⟨3, ![254, 32, 144]⟩
abbrev S256x32x144 : Shape := ⟨3, ![256, 32, 144]⟩
abbrev S8128x144 : Shape := ⟨2, ![8128, 144]⟩
abbrev S8192x144 : Shape := ⟨2, ![8192, 144]⟩
abbrev S16352x144 : Shape := ⟨2, ![16352, 144]⟩
abbrev S16352x128 : Shape := ⟨2, ![16352, 128]⟩
abbrev S8192x256 : Shape := ⟨2, ![8192, 256]⟩
abbrev S16384x128 : Shape := ⟨2, ![16384, 128]⟩
abbrev S510x32x144 : Shape := ⟨3, ![510, 32, 144]⟩
abbrev S512x32x144 : Shape := ⟨3, ![512, 32, 144]⟩
abbrev S16320x144 : Shape := ⟨2, ![16320, 144]⟩
abbrev S16384x144 : Shape := ⟨2, ![16384, 144]⟩
abbrev S32736x144 : Shape := ⟨2, ![32736, 144]⟩
abbrev S144x8 : Shape := ⟨2, ![144, 8]⟩
abbrev S4x512x32x8 : Shape := ⟨4, ![4, 512, 32, 8]⟩
abbrev S_ : Shape := ⟨0, ![]⟩
abbrev S512x1 : Shape := ⟨2, ![512, 1]⟩
abbrev S512x2 : Shape := ⟨2, ![512, 2]⟩
abbrev S4x512x32x3 : Shape := ⟨4, ![4, 512, 32, 3]⟩
abbrev S4x32x512x3 : Shape := ⟨4, ![4, 32, 512, 3]⟩
abbrev S128x512x3 : Shape := ⟨3, ![128, 512, 3]⟩

abbrev nBuf : Space → Nat
  | .hbm => 49
  | .vmem => 16
  | .smem => 0
  | _ => 0

abbrev bufTy : (tb : Table) → Fin (tcTables nBuf tb) → BufTy
  | .hbm, ⟨0, _⟩ => ⟨S128x1x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S256x256, .f32⟩
  | .hbm, ⟨6, _⟩ => ⟨S256, .f32⟩
  | .hbm, ⟨7, _⟩ => ⟨S256x16, .f32⟩
  | .hbm, ⟨8, _⟩ => ⟨S16, .f32⟩
  | .hbm, ⟨9, _⟩ => ⟨S144x144, .f32⟩
  | .hbm, ⟨10, _⟩ => ⟨S144, .f32⟩
  | .hbm, ⟨11, _⟩ => ⟨S144x256, .f32⟩
  | .hbm, ⟨12, _⟩ => ⟨S256, .f32⟩
  | .hbm, ⟨13, _⟩ => ⟨S144x144, .f32⟩
  | .hbm, ⟨14, _⟩ => ⟨S144, .f32⟩
  | .hbm, ⟨15, _⟩ => ⟨S144x128, .f32⟩
  | .hbm, ⟨16, _⟩ => ⟨S128, .f32⟩
  | .hbm, ⟨17, _⟩ => ⟨S512, .i32⟩
  | .hbm, ⟨18, _⟩ => ⟨S512, .i1⟩
  | .hbm, ⟨19, _⟩ => ⟨S128x128, .f32⟩
  | .hbm, ⟨20, _⟩ => ⟨S16x144, .f32⟩
  | .hbm, ⟨21, _⟩ => ⟨S256x144, .f32⟩
  | .hbm, ⟨22, _⟩ => ⟨S16x144, .f32⟩
  | .hbm, ⟨23, _⟩ => ⟨S256x144, .f32⟩
  | .hbm, ⟨24, _⟩ => ⟨S256x288, .f32⟩
  | .hbm, ⟨25, _⟩ => ⟨S16x144, .f32⟩
  | .hbm, ⟨26, _⟩ => ⟨S144, .f32⟩
  | .hbm, ⟨27, _⟩ => ⟨S144, .f32⟩
  | .hbm, ⟨28, _⟩ => ⟨S16x144, .f32⟩
  | .hbm, ⟨29, _⟩ => ⟨S144, .f32⟩
  | .hbm, ⟨30, _⟩ => ⟨S144, .f32⟩
  | .hbm, ⟨31, _⟩ => ⟨S288, .f32⟩
  | .hbm, ⟨32, _⟩ => ⟨S1x256, .f32⟩
  | .hbm, ⟨33, _⟩ => ⟨S1x288, .f32⟩
  | .hbm, ⟨34, _⟩ => ⟨S128x144, .f32⟩
  | .hbm, ⟨35, _⟩ => ⟨S128x144, .f32⟩
  | .hbm, ⟨36, _⟩ => ⟨S65536x8, .f32⟩
  | .hbm, ⟨37, _⟩ => ⟨S4x512x32x8, .f32⟩
  | .hbm, ⟨38, _⟩ => ⟨S_, .i32⟩
  | .hbm, ⟨39, _⟩ => ⟨S512, .i32⟩
  | .hbm, ⟨40, _⟩ => ⟨S512, .i32⟩
  | .hbm, ⟨41, _⟩ => ⟨S512, .i32⟩
  | .hbm, ⟨42, _⟩ => ⟨S512x1, .i32⟩
  | .hbm, ⟨43, _⟩ => ⟨S_, .i32⟩
  | .hbm, ⟨44, _⟩ => ⟨S512x1, .i32⟩
  | .hbm, ⟨45, _⟩ => ⟨S512x2, .i32⟩
  | .hbm, ⟨46, _⟩ => ⟨S4x512x32x3, .f32⟩
  | .hbm, ⟨47, _⟩ => ⟨S4x32x512x3, .f32⟩
  | .hbm, ⟨48, _⟩ => ⟨S128x512x3, .f32⟩
  | .local _ .vmem, ⟨0, _⟩ => ⟨S32x128, .f32⟩
  | .local _ .vmem, ⟨1, _⟩ => ⟨S32x128, .f32⟩
  | .local _ .vmem, ⟨2, _⟩ => ⟨S128x128, .f32⟩
  | .local _ .vmem, ⟨3, _⟩ => ⟨S128x128, .f32⟩
  | .local _ .vmem, ⟨4, _⟩ => ⟨S256x256, .f32⟩
  | .local _ .vmem, ⟨5, _⟩ => ⟨S1x256, .f32⟩
  | .local _ .vmem, ⟨6, _⟩ => ⟨S256x288, .f32⟩
  | .local _ .vmem, ⟨7, _⟩ => ⟨S1x288, .f32⟩
  | .local _ .vmem, ⟨8, _⟩ => ⟨S128x144, .f32⟩
  | .local _ .vmem, ⟨9, _⟩ => ⟨S144x256, .f32⟩
  | .local _ .vmem, ⟨10, _⟩ => ⟨S128x144, .f32⟩
  | .local _ .vmem, ⟨11, _⟩ => ⟨S144x128, .f32⟩
  | .local _ .vmem, ⟨12, _⟩ => ⟨S16384x8, .f32⟩
  | .local _ .vmem, ⟨13, _⟩ => ⟨S16384x8, .f32⟩
  | .local _ .vmem, ⟨14, _⟩ => ⟨S32736x128, .f32⟩
  | .local _ .vmem, ⟨15, _⟩ => ⟨S32736x128, .f32⟩
  | _, _ => ⟨S128x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_c_0 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S144x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x144 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S144x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S16384x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "inv_1023" => some ((1 / 1023 : ℝ) : EReal)
  | "inv_127" => some ((1 / 127 : ℝ) : EReal)
  | "inv_15" => some ((1 / 15 : ℝ) : EReal)
  | "inv_255" => some ((1 / 255 : ℝ) : EReal)
  | "inv_3" => some ((1 / 3 : ℝ) : EReal)
  | "inv_31" => some ((1 / 31 : ℝ) : EReal)
  | "inv_511" => some ((1 / 511 : ℝ) : EReal)
  | "inv_63" => some ((1 / 63 : ℝ) : EReal)
  | "inv_7" => some ((1 / 7 : ℝ) : EReal)
  | _ => none
-- ==== ReferenceIdeal.lean ====
abbrev S128x1x128 : Shape := ⟨3, ![128, 1, 128]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x16 : Shape := ⟨2, ![256, 16]⟩
abbrev S16 : Shape := ⟨1, ![16]⟩
abbrev S144x144 : Shape := ⟨2, ![144, 144]⟩
abbrev S144 : Shape := ⟨1, ![144]⟩
abbrev S144x256 : Shape := ⟨2, ![144, 256]⟩
abbrev S144x128 : Shape := ⟨2, ![144, 128]⟩
abbrev S1x1x128 : Shape := ⟨3, ![1, 1, 128]⟩
abbrev S_ : Shape := ⟨0, ![]⟩
abbrev S128x256 : Shape := ⟨2, ![128, 256]⟩
abbrev S1x256 : Shape := ⟨2, ![1, 256]⟩
abbrev S128x16 : Shape := ⟨2, ![128, 16]⟩
abbrev S1x16 : Shape := ⟨2, ![1, 16]⟩
abbrev S128x1x16 : Shape := ⟨3, ![128, 1, 16]⟩
abbrev S128x1x144 : Shape := ⟨3, ![128, 1, 144]⟩
abbrev S1x1x144 : Shape := ⟨3, ![1, 1, 144]⟩
abbrev S128x1x256 : Shape := ⟨3, ![128, 1, 256]⟩
abbrev S1x1x256 : Shape := ⟨3, ![1, 1, 256]⟩
abbrev S128x2x128 : Shape := ⟨3, ![128, 2, 128]⟩
abbrev S128x3x128 : Shape := ⟨3, ![128, 3, 128]⟩
abbrev S128x3x16 : Shape := ⟨3, ![128, 3, 16]⟩
abbrev S128x3x144 : Shape := ⟨3, ![128, 3, 144]⟩
abbrev S128x1x1x144 : Shape := ⟨4, ![128, 1, 1, 144]⟩
abbrev S128x1x2x144 : Shape := ⟨4, ![128, 1, 2, 144]⟩
abbrev S128x2x144 : Shape := ⟨3, ![128, 2, 144]⟩
abbrev S128x2x16 : Shape := ⟨3, ![128, 2, 16]⟩
abbrev S128x2x256 : Shape := ⟨3, ![128, 2, 256]⟩
abbrev S128x4x128 : Shape := ⟨3, ![128, 4, 128]⟩
abbrev S128x7x128 : Shape := ⟨3, ![128, 7, 128]⟩
abbrev S128x7x16 : Shape := ⟨3, ![128, 7, 16]⟩
abbrev S128x7x144 : Shape := ⟨3, ![128, 7, 144]⟩
abbrev S128x3x1x144 : Shape := ⟨4, ![128, 3, 1, 144]⟩
abbrev S128x3x2x144 : Shape := ⟨4, ![128, 3, 2, 144]⟩
abbrev S128x6x144 : Shape := ⟨3, ![128, 6, 144]⟩
abbrev S128x4x144 : Shape := ⟨3, ![128, 4, 144]⟩
abbrev S128x4x16 : Shape := ⟨3, ![128, 4, 16]⟩
abbrev S128x4x256 : Shape := ⟨3, ![128, 4, 256]⟩
abbrev S128x8x128 : Shape := ⟨3, ![128, 8, 128]⟩
abbrev S128x15x128 : Shape := ⟨3, ![128, 15, 128]⟩
abbrev S128x15x16 : Shape := ⟨3, ![128, 15, 16]⟩
abbrev S128x15x144 : Shape := ⟨3, ![128, 15, 144]⟩
abbrev S128x7x1x144 : Shape := ⟨4, ![128, 7, 1, 144]⟩
abbrev S128x7x2x144 : Shape := ⟨4, ![128, 7, 2, 144]⟩
abbrev S128x14x144 : Shape := ⟨3, ![128, 14, 144]⟩
abbrev S128x8x144 : Shape := ⟨3, ![128, 8, 144]⟩
abbrev S128x8x16 : Shape := ⟨3, ![128, 8, 16]⟩
abbrev S128x8x256 : Shape := ⟨3, ![128, 8, 256]⟩
abbrev S128x16x128 : Shape := ⟨3, ![128, 16, 128]⟩
abbrev S128x31x128 : Shape := ⟨3, ![128, 31, 128]⟩
abbrev S128x31x16 : Shape := ⟨3, ![128, 31, 16]⟩
abbrev S128x31x144 : Shape := ⟨3, ![128, 31, 144]⟩
abbrev S128x15x1x144 : Shape := ⟨4, ![128, 15, 1, 144]⟩
abbrev S128x15x2x144 : Shape := ⟨4, ![128, 15, 2, 144]⟩
abbrev S128x30x144 : Shape := ⟨3, ![128, 30, 144]⟩
abbrev S128x16x144 : Shape := ⟨3, ![128, 16, 144]⟩
abbrev S128x16x16 : Shape := ⟨3, ![128, 16, 16]⟩
abbrev S128x16x256 : Shape := ⟨3, ![128, 16, 256]⟩
abbrev S128x32x128 : Shape := ⟨3, ![128, 32, 128]⟩
abbrev S128x63x128 : Shape := ⟨3, ![128, 63, 128]⟩
abbrev S128x63x16 : Shape := ⟨3, ![128, 63, 16]⟩
abbrev S128x63x144 : Shape := ⟨3, ![128, 63, 144]⟩
abbrev S128x31x1x144 : Shape := ⟨4, ![128, 31, 1, 144]⟩
abbrev S128x31x2x144 : Shape := ⟨4, ![128, 31, 2, 144]⟩
abbrev S128x62x144 : Shape := ⟨3, ![128, 62, 144]⟩
abbrev S128x32x144 : Shape := ⟨3, ![128, 32, 144]⟩
abbrev S128x32x16 : Shape := ⟨3, ![128, 32, 16]⟩
abbrev S128x32x256 : Shape := ⟨3, ![128, 32, 256]⟩
abbrev S128x64x128 : Shape := ⟨3, ![128, 64, 128]⟩
abbrev S128x127x128 : Shape := ⟨3, ![128, 127, 128]⟩
abbrev S128x127x16 : Shape := ⟨3, ![128, 127, 16]⟩
abbrev S128x127x144 : Shape := ⟨3, ![128, 127, 144]⟩
abbrev S128x63x1x144 : Shape := ⟨4, ![128, 63, 1, 144]⟩
abbrev S128x63x2x144 : Shape := ⟨4, ![128, 63, 2, 144]⟩
abbrev S128x126x144 : Shape := ⟨3, ![128, 126, 144]⟩
abbrev S128x64x144 : Shape := ⟨3, ![128, 64, 144]⟩
abbrev S128x64x16 : Shape := ⟨3, ![128, 64, 16]⟩
abbrev S128x64x256 : Shape := ⟨3, ![128, 64, 256]⟩
abbrev S128x128x128 : Shape := ⟨3, ![128, 128, 128]⟩
abbrev S128x255x128 : Shape := ⟨3, ![128, 255, 128]⟩
abbrev S128x255x16 : Shape := ⟨3, ![128, 255, 16]⟩
abbrev S128x255x144 : Shape := ⟨3, ![128, 255, 144]⟩
abbrev S128x127x1x144 : Shape := ⟨4, ![128, 127, 1, 144]⟩
abbrev S128x127x2x144 : Shape := ⟨4, ![128, 127, 2, 144]⟩
abbrev S128x254x144 : Shape := ⟨3, ![128, 254, 144]⟩
abbrev S128x128x144 : Shape := ⟨3, ![128, 128, 144]⟩
abbrev S128x128x16 : Shape := ⟨3, ![128, 128, 16]⟩
abbrev S128x128x256 : Shape := ⟨3, ![128, 128, 256]⟩
abbrev S128x256x128 : Shape := ⟨3, ![128, 256, 128]⟩
abbrev S128x511x128 : Shape := ⟨3, ![128, 511, 128]⟩
abbrev S128x511x16 : Shape := ⟨3, ![128, 511, 16]⟩
abbrev S128x511x144 : Shape := ⟨3, ![128, 511, 144]⟩
abbrev S128x255x1x144 : Shape := ⟨4, ![128, 255, 1, 144]⟩
abbrev S128x255x2x144 : Shape := ⟨4, ![128, 255, 2, 144]⟩
abbrev S128x510x144 : Shape := ⟨3, ![128, 510, 144]⟩
abbrev S128x256x144 : Shape := ⟨3, ![128, 256, 144]⟩
abbrev S128x256x16 : Shape := ⟨3, ![128, 256, 16]⟩
abbrev S128x256x256 : Shape := ⟨3, ![128, 256, 256]⟩
abbrev S128x512x128 : Shape := ⟨3, ![128, 512, 128]⟩
abbrev S128x1023x128 : Shape := ⟨3, ![128, 1023, 128]⟩
abbrev S128x1023x16 : Shape := ⟨3, ![128, 1023, 16]⟩
abbrev S128x1023x144 : Shape := ⟨3, ![128, 1023, 144]⟩
abbrev S128x511x1x144 : Shape := ⟨4, ![128, 511, 1, 144]⟩
abbrev S128x511x2x144 : Shape := ⟨4, ![128, 511, 2, 144]⟩
abbrev S128x1022x144 : Shape := ⟨3, ![128, 1022, 144]⟩
abbrev S128x512x144 : Shape := ⟨3, ![128, 512, 144]⟩
abbrev S128x512x3 : Shape := ⟨3, ![128, 512, 3]⟩

abbrev nBuf : Space → Nat
  | .hbm => 997
  | .vmem => 0
  | .smem => 0
  | _ => 0

abbrev hbmTy0_0 (i : Nat) : BufTy := match i % 128 with
  | 0 => ⟨S128x1x128, .f32⟩
  | 1 => ⟨S128x128, .f32⟩
  | 2 => ⟨S128, .f32⟩
  | 3 => ⟨S128x128, .f32⟩
  | 4 => ⟨S128, .f32⟩
  | 5 => ⟨S256x256, .f32⟩
  | 6 => ⟨S256, .f32⟩
  | 7 => ⟨S256x16, .f32⟩
  | 8 => ⟨S16, .f32⟩
  | 9 => ⟨S144x144, .f32⟩
  | 10 => ⟨S144, .f32⟩
  | 11 => ⟨S144x256, .f32⟩
  | 12 => ⟨S256, .f32⟩
  | 13 => ⟨S144x144, .f32⟩
  | 14 => ⟨S144, .f32⟩
  | 15 => ⟨S144x128, .f32⟩
  | 16 => ⟨S128, .f32⟩
  | 17 => ⟨S128x1x128, .f32⟩
  | 18 => ⟨S1x1x128, .f32⟩
  | 19 => ⟨S128x1x128, .f32⟩
  | 20 => ⟨S128x1x128, .f32⟩
  | 21 => ⟨S_, .f32⟩
  | 22 => ⟨S128x1x128, .f32⟩
  | 23 => ⟨S128x1x128, .i1⟩
  | 24 => ⟨S_, .f32⟩
  | 25 => ⟨S128x1x128, .f32⟩
  | 26 => ⟨S128x1x128, .f32⟩
  | 27 => ⟨S128x1x128, .f32⟩
  | 28 => ⟨S128x1x128, .f32⟩
  | 29 => ⟨S1x1x128, .f32⟩
  | 30 => ⟨S128x1x128, .f32⟩
  | 31 => ⟨S128x1x128, .f32⟩
  | 32 => ⟨S_, .f32⟩
  | 33 => ⟨S128x128, .f32⟩
  | 34 => ⟨S_, .f32⟩
  | 35 => ⟨S128x128, .f32⟩
  | 36 => ⟨S128x128, .f32⟩
  | 37 => ⟨S_, .f32⟩
  | 38 => ⟨S128x128, .f32⟩
  | 39 => ⟨S128x256, .f32⟩
  | 40 => ⟨S128x256, .f32⟩
  | 41 => ⟨S1x256, .f32⟩
  | 42 => ⟨S128x256, .f32⟩
  | 43 => ⟨S128x256, .f32⟩
  | 44 => ⟨S_, .f32⟩
  | 45 => ⟨S128x256, .f32⟩
  | 46 => ⟨S128x256, .i1⟩
  | 47 => ⟨S_, .f32⟩
  | 48 => ⟨S128x256, .f32⟩
  | 49 => ⟨S128x256, .f32⟩
  | 50 => ⟨S128x256, .f32⟩
  | 51 => ⟨S128x16, .f32⟩
  | 52 => ⟨S1x16, .f32⟩
  | 53 => ⟨S128x16, .f32⟩
  | 54 => ⟨S128x16, .f32⟩
  | 55 => ⟨S128x1x16, .f32⟩
  | 56 => ⟨S128x1x144, .f32⟩
  | 57 => ⟨S128x1x144, .f32⟩
  | 58 => ⟨S1x1x144, .f32⟩
  | 59 => ⟨S128x1x144, .f32⟩
  | 60 => ⟨S128x1x144, .f32⟩
  | 61 => ⟨S_, .f32⟩
  | 62 => ⟨S128x1x144, .f32⟩
  | 63 => ⟨S128x1x144, .i1⟩
  | 64 => ⟨S_, .f32⟩
  | 65 => ⟨S128x1x144, .f32⟩
  | 66 => ⟨S128x1x144, .f32⟩
  | 67 => ⟨S128x1x144, .f32⟩
  | 68 => ⟨S128x1x256, .f32⟩
  | 69 => ⟨S1x1x256, .f32⟩
  | 70 => ⟨S128x1x256, .f32⟩
  | 71 => ⟨S128x1x256, .f32⟩
  | 72 => ⟨S128x2x128, .f32⟩
  | 73 => ⟨S128x3x128, .f32⟩
  | 74 => ⟨S128x1x16, .f32⟩
  | 75 => ⟨S128x3x16, .f32⟩
  | 76 => ⟨S128x3x144, .f32⟩
  | 77 => ⟨S128x1x144, .f32⟩
  | 78 => ⟨S128x1x1x144, .f32⟩
  | 79 => ⟨S128x1x2x144, .f32⟩
  | 80 => ⟨S128x2x144, .f32⟩
  | 81 => ⟨S128x2x144, .f32⟩
  | 82 => ⟨S128x1x2x144, .f32⟩
  | 83 => ⟨S_, .f32⟩
  | 84 => ⟨S128x1x144, .f32⟩
  | 85 => ⟨S_, .f32⟩
  | 86 => ⟨S128x1x144, .f32⟩
  | 87 => ⟨S128x3x144, .f32⟩
  | 88 => ⟨S_, .f32⟩
  | 89 => ⟨S128x2x144, .f32⟩
  | 90 => ⟨S128x3x144, .f32⟩
  | 91 => ⟨S128x3x144, .f32⟩
  | 92 => ⟨S128x3x144, .f32⟩
  | 93 => ⟨S128x3x144, .f32⟩
  | 94 => ⟨S1x1x144, .f32⟩
  | 95 => ⟨S128x3x144, .f32⟩
  | 96 => ⟨S128x3x144, .f32⟩
  | 97 => ⟨S_, .f32⟩
  | 98 => ⟨S128x3x144, .f32⟩
  | 99 => ⟨S128x3x144, .i1⟩
  | 100 => ⟨S_, .f32⟩
  | 101 => ⟨S128x3x144, .f32⟩
  | 102 => ⟨S128x3x144, .f32⟩
  | 103 => ⟨S128x3x144, .f32⟩
  | 104 => ⟨S128x3x128, .f32⟩
  | 105 => ⟨S1x1x128, .f32⟩
  | 106 => ⟨S128x3x128, .f32⟩
  | 107 => ⟨S128x3x128, .f32⟩
  | 108 => ⟨S128x3x128, .f32⟩
  | 109 => ⟨S1x1x128, .f32⟩
  | 110 => ⟨S128x3x128, .f32⟩
  | 111 => ⟨S128x3x128, .f32⟩
  | 112 => ⟨S_, .f32⟩
  | 113 => ⟨S128x3x128, .f32⟩
  | 114 => ⟨S128x3x128, .i1⟩
  | 115 => ⟨S_, .f32⟩
  | 116 => ⟨S128x3x128, .f32⟩
  | 117 => ⟨S128x3x128, .f32⟩
  | 118 => ⟨S128x3x128, .f32⟩
  | 119 => ⟨S128x3x128, .f32⟩
  | 120 => ⟨S1x1x128, .f32⟩
  | 121 => ⟨S128x3x128, .f32⟩
  | 122 => ⟨S128x3x128, .f32⟩
  | 123 => ⟨S_, .f32⟩
  | 124 => ⟨S128x128, .f32⟩
  | 125 => ⟨S_, .f32⟩
  | 126 => ⟨S128x128, .f32⟩
  | 127 => ⟨S128x128, .f32⟩
  | _ => ⟨S128x1x128, .f32⟩

abbrev hbmTy0_1 (i : Nat) : BufTy := match i % 128 with
  | 0 => ⟨S_, .f32⟩
  | 1 => ⟨S128x128, .f32⟩
  | 2 => ⟨S128x256, .f32⟩
  | 3 => ⟨S128x256, .f32⟩
  | 4 => ⟨S1x256, .f32⟩
  | 5 => ⟨S128x256, .f32⟩
  | 6 => ⟨S128x256, .f32⟩
  | 7 => ⟨S_, .f32⟩
  | 8 => ⟨S128x256, .f32⟩
  | 9 => ⟨S128x256, .i1⟩
  | 10 => ⟨S_, .f32⟩
  | 11 => ⟨S128x256, .f32⟩
  | 12 => ⟨S128x256, .f32⟩
  | 13 => ⟨S128x256, .f32⟩
  | 14 => ⟨S128x16, .f32⟩
  | 15 => ⟨S1x16, .f32⟩
  | 16 => ⟨S128x16, .f32⟩
  | 17 => ⟨S128x16, .f32⟩
  | 18 => ⟨S128x2x128, .f32⟩
  | 19 => ⟨S128x1x16, .f32⟩
  | 20 => ⟨S128x2x16, .f32⟩
  | 21 => ⟨S128x2x144, .f32⟩
  | 22 => ⟨S128x2x144, .f32⟩
  | 23 => ⟨S1x1x144, .f32⟩
  | 24 => ⟨S128x2x144, .f32⟩
  | 25 => ⟨S128x2x144, .f32⟩
  | 26 => ⟨S_, .f32⟩
  | 27 => ⟨S128x2x144, .f32⟩
  | 28 => ⟨S128x2x144, .i1⟩
  | 29 => ⟨S_, .f32⟩
  | 30 => ⟨S128x2x144, .f32⟩
  | 31 => ⟨S128x2x144, .f32⟩
  | 32 => ⟨S128x2x144, .f32⟩
  | 33 => ⟨S128x2x256, .f32⟩
  | 34 => ⟨S1x1x256, .f32⟩
  | 35 => ⟨S128x2x256, .f32⟩
  | 36 => ⟨S128x2x256, .f32⟩
  | 37 => ⟨S128x4x128, .f32⟩
  | 38 => ⟨S128x7x128, .f32⟩
  | 39 => ⟨S128x1x16, .f32⟩
  | 40 => ⟨S128x7x16, .f32⟩
  | 41 => ⟨S128x7x144, .f32⟩
  | 42 => ⟨S128x3x144, .f32⟩
  | 43 => ⟨S128x3x1x144, .f32⟩
  | 44 => ⟨S128x3x2x144, .f32⟩
  | 45 => ⟨S128x6x144, .f32⟩
  | 46 => ⟨S128x6x144, .f32⟩
  | 47 => ⟨S128x3x2x144, .f32⟩
  | 48 => ⟨S_, .f32⟩
  | 49 => ⟨S128x3x144, .f32⟩
  | 50 => ⟨S_, .f32⟩
  | 51 => ⟨S128x1x144, .f32⟩
  | 52 => ⟨S128x7x144, .f32⟩
  | 53 => ⟨S_, .f32⟩
  | 54 => ⟨S128x4x144, .f32⟩
  | 55 => ⟨S128x7x144, .f32⟩
  | 56 => ⟨S128x7x144, .f32⟩
  | 57 => ⟨S128x7x144, .f32⟩
  | 58 => ⟨S128x7x144, .f32⟩
  | 59 => ⟨S1x1x144, .f32⟩
  | 60 => ⟨S128x7x144, .f32⟩
  | 61 => ⟨S128x7x144, .f32⟩
  | 62 => ⟨S_, .f32⟩
  | 63 => ⟨S128x7x144, .f32⟩
  | 64 => ⟨S128x7x144, .i1⟩
  | 65 => ⟨S_, .f32⟩
  | 66 => ⟨S128x7x144, .f32⟩
  | 67 => ⟨S128x7x144, .f32⟩
  | 68 => ⟨S128x7x144, .f32⟩
  | 69 => ⟨S128x7x128, .f32⟩
  | 70 => ⟨S1x1x128, .f32⟩
  | 71 => ⟨S128x7x128, .f32⟩
  | 72 => ⟨S128x7x128, .f32⟩
  | 73 => ⟨S128x7x128, .f32⟩
  | 74 => ⟨S1x1x128, .f32⟩
  | 75 => ⟨S128x7x128, .f32⟩
  | 76 => ⟨S128x7x128, .f32⟩
  | 77 => ⟨S_, .f32⟩
  | 78 => ⟨S128x7x128, .f32⟩
  | 79 => ⟨S128x7x128, .i1⟩
  | 80 => ⟨S_, .f32⟩
  | 81 => ⟨S128x7x128, .f32⟩
  | 82 => ⟨S128x7x128, .f32⟩
  | 83 => ⟨S128x7x128, .f32⟩
  | 84 => ⟨S128x7x128, .f32⟩
  | 85 => ⟨S1x1x128, .f32⟩
  | 86 => ⟨S128x7x128, .f32⟩
  | 87 => ⟨S128x7x128, .f32⟩
  | 88 => ⟨S_, .f32⟩
  | 89 => ⟨S128x128, .f32⟩
  | 90 => ⟨S_, .f32⟩
  | 91 => ⟨S128x128, .f32⟩
  | 92 => ⟨S128x128, .f32⟩
  | 93 => ⟨S_, .f32⟩
  | 94 => ⟨S128x128, .f32⟩
  | 95 => ⟨S128x256, .f32⟩
  | 96 => ⟨S128x256, .f32⟩
  | 97 => ⟨S1x256, .f32⟩
  | 98 => ⟨S128x256, .f32⟩
  | 99 => ⟨S128x256, .f32⟩
  | 100 => ⟨S_, .f32⟩
  | 101 => ⟨S128x256, .f32⟩
  | 102 => ⟨S128x256, .i1⟩
  | 103 => ⟨S_, .f32⟩
  | 104 => ⟨S128x256, .f32⟩
  | 105 => ⟨S128x256, .f32⟩
  | 106 => ⟨S128x256, .f32⟩
  | 107 => ⟨S128x16, .f32⟩
  | 108 => ⟨S1x16, .f32⟩
  | 109 => ⟨S128x16, .f32⟩
  | 110 => ⟨S128x16, .f32⟩
  | 111 => ⟨S128x4x128, .f32⟩
  | 112 => ⟨S128x1x16, .f32⟩
  | 113 => ⟨S128x4x16, .f32⟩
  | 114 => ⟨S128x4x144, .f32⟩
  | 115 => ⟨S128x4x144, .f32⟩
  | 116 => ⟨S1x1x144, .f32⟩
  | 117 => ⟨S128x4x144, .f32⟩
  | 118 => ⟨S128x4x144, .f32⟩
  | 119 => ⟨S_, .f32⟩
  | 120 => ⟨S128x4x144, .f32⟩
  | 121 => ⟨S128x4x144, .i1⟩
  | 122 => ⟨S_, .f32⟩
  | 123 => ⟨S128x4x144, .f32⟩
  | 124 => ⟨S128x4x144, .f32⟩
  | 125 => ⟨S128x4x144, .f32⟩
  | 126 => ⟨S128x4x256, .f32⟩
  | 127 => ⟨S1x1x256, .f32⟩
  | _ => ⟨S128x1x128, .f32⟩

abbrev hbmTy0_2 (i : Nat) : BufTy := match i % 128 with
  | 0 => ⟨S128x4x256, .f32⟩
  | 1 => ⟨S128x4x256, .f32⟩
  | 2 => ⟨S128x8x128, .f32⟩
  | 3 => ⟨S128x15x128, .f32⟩
  | 4 => ⟨S128x1x16, .f32⟩
  | 5 => ⟨S128x15x16, .f32⟩
  | 6 => ⟨S128x15x144, .f32⟩
  | 7 => ⟨S128x7x144, .f32⟩
  | 8 => ⟨S128x7x1x144, .f32⟩
  | 9 => ⟨S128x7x2x144, .f32⟩
  | 10 => ⟨S128x14x144, .f32⟩
  | 11 => ⟨S128x14x144, .f32⟩
  | 12 => ⟨S128x7x2x144, .f32⟩
  | 13 => ⟨S_, .f32⟩
  | 14 => ⟨S128x7x144, .f32⟩
  | 15 => ⟨S_, .f32⟩
  | 16 => ⟨S128x1x144, .f32⟩
  | 17 => ⟨S128x15x144, .f32⟩
  | 18 => ⟨S_, .f32⟩
  | 19 => ⟨S128x8x144, .f32⟩
  | 20 => ⟨S128x15x144, .f32⟩
  | 21 => ⟨S128x15x144, .f32⟩
  | 22 => ⟨S128x15x144, .f32⟩
  | 23 => ⟨S128x15x144, .f32⟩
  | 24 => ⟨S1x1x144, .f32⟩
  | 25 => ⟨S128x15x144, .f32⟩
  | 26 => ⟨S128x15x144, .f32⟩
  | 27 => ⟨S_, .f32⟩
  | 28 => ⟨S128x15x144, .f32⟩
  | 29 => ⟨S128x15x144, .i1⟩
  | 30 => ⟨S_, .f32⟩
  | 31 => ⟨S128x15x144, .f32⟩
  | 32 => ⟨S128x15x144, .f32⟩
  | 33 => ⟨S128x15x144, .f32⟩
  | 34 => ⟨S128x15x128, .f32⟩
  | 35 => ⟨S1x1x128, .f32⟩
  | 36 => ⟨S128x15x128, .f32⟩
  | 37 => ⟨S128x15x128, .f32⟩
  | 38 => ⟨S128x15x128, .f32⟩
  | 39 => ⟨S1x1x128, .f32⟩
  | 40 => ⟨S128x15x128, .f32⟩
  | 41 => ⟨S128x15x128, .f32⟩
  | 42 => ⟨S_, .f32⟩
  | 43 => ⟨S128x15x128, .f32⟩
  | 44 => ⟨S128x15x128, .i1⟩
  | 45 => ⟨S_, .f32⟩
  | 46 => ⟨S128x15x128, .f32⟩
  | 47 => ⟨S128x15x128, .f32⟩
  | 48 => ⟨S128x15x128, .f32⟩
  | 49 => ⟨S128x15x128, .f32⟩
  | 50 => ⟨S1x1x128, .f32⟩
  | 51 => ⟨S128x15x128, .f32⟩
  | 52 => ⟨S128x15x128, .f32⟩
  | 53 => ⟨S_, .f32⟩
  | 54 => ⟨S128x128, .f32⟩
  | 55 => ⟨S_, .f32⟩
  | 56 => ⟨S128x128, .f32⟩
  | 57 => ⟨S128x128, .f32⟩
  | 58 => ⟨S_, .f32⟩
  | 59 => ⟨S128x128, .f32⟩
  | 60 => ⟨S128x256, .f32⟩
  | 61 => ⟨S128x256, .f32⟩
  | 62 => ⟨S1x256, .f32⟩
  | 63 => ⟨S128x256, .f32⟩
  | 64 => ⟨S128x256, .f32⟩
  | 65 => ⟨S_, .f32⟩
  | 66 => ⟨S128x256, .f32⟩
  | 67 => ⟨S128x256, .i1⟩
  | 68 => ⟨S_, .f32⟩
  | 69 => ⟨S128x256, .f32⟩
  | 70 => ⟨S128x256, .f32⟩
  | 71 => ⟨S128x256, .f32⟩
  | 72 => ⟨S128x16, .f32⟩
  | 73 => ⟨S1x16, .f32⟩
  | 74 => ⟨S128x16, .f32⟩
  | 75 => ⟨S128x16, .f32⟩
  | 76 => ⟨S128x8x128, .f32⟩
  | 77 => ⟨S128x1x16, .f32⟩
  | 78 => ⟨S128x8x16, .f32⟩
  | 79 => ⟨S128x8x144, .f32⟩
  | 80 => ⟨S128x8x144, .f32⟩
  | 81 => ⟨S1x1x144, .f32⟩
  | 82 => ⟨S128x8x144, .f32⟩
  | 83 => ⟨S128x8x144, .f32⟩
  | 84 => ⟨S_, .f32⟩
  | 85 => ⟨S128x8x144, .f32⟩
  | 86 => ⟨S128x8x144, .i1⟩
  | 87 => ⟨S_, .f32⟩
  | 88 => ⟨S128x8x144, .f32⟩
  | 89 => ⟨S128x8x144, .f32⟩
  | 90 => ⟨S128x8x144, .f32⟩
  | 91 => ⟨S128x8x256, .f32⟩
  | 92 => ⟨S1x1x256, .f32⟩
  | 93 => ⟨S128x8x256, .f32⟩
  | 94 => ⟨S128x8x256, .f32⟩
  | 95 => ⟨S128x16x128, .f32⟩
  | 96 => ⟨S128x31x128, .f32⟩
  | 97 => ⟨S128x1x16, .f32⟩
  | 98 => ⟨S128x31x16, .f32⟩
  | 99 => ⟨S128x31x144, .f32⟩
  | 100 => ⟨S128x15x144, .f32⟩
  | 101 => ⟨S128x15x1x144, .f32⟩
  | 102 => ⟨S128x15x2x144, .f32⟩
  | 103 => ⟨S128x30x144, .f32⟩
  | 104 => ⟨S128x30x144, .f32⟩
  | 105 => ⟨S128x15x2x144, .f32⟩
  | 106 => ⟨S_, .f32⟩
  | 107 => ⟨S128x15x144, .f32⟩
  | 108 => ⟨S_, .f32⟩
  | 109 => ⟨S128x1x144, .f32⟩
  | 110 => ⟨S128x31x144, .f32⟩
  | 111 => ⟨S_, .f32⟩
  | 112 => ⟨S128x16x144, .f32⟩
  | 113 => ⟨S128x31x144, .f32⟩
  | 114 => ⟨S128x31x144, .f32⟩
  | 115 => ⟨S128x31x144, .f32⟩
  | 116 => ⟨S128x31x144, .f32⟩
  | 117 => ⟨S1x1x144, .f32⟩
  | 118 => ⟨S128x31x144, .f32⟩
  | 119 => ⟨S128x31x144, .f32⟩
  | 120 => ⟨S_, .f32⟩
  | 121 => ⟨S128x31x144, .f32⟩
  | 122 => ⟨S128x31x144, .i1⟩
  | 123 => ⟨S_, .f32⟩
  | 124 => ⟨S128x31x144, .f32⟩
  | 125 => ⟨S128x31x144, .f32⟩
  | 126 => ⟨S128x31x144, .f32⟩
  | 127 => ⟨S128x31x128, .f32⟩
  | _ => ⟨S128x1x128, .f32⟩

abbrev hbmTy0_3 (i : Nat) : BufTy := match i % 128 with
  | 0 => ⟨S1x1x128, .f32⟩
  | 1 => ⟨S128x31x128, .f32⟩
  | 2 => ⟨S128x31x128, .f32⟩
  | 3 => ⟨S128x31x128, .f32⟩
  | 4 => ⟨S1x1x128, .f32⟩
  | 5 => ⟨S128x31x128, .f32⟩
  | 6 => ⟨S128x31x128, .f32⟩
  | 7 => ⟨S_, .f32⟩
  | 8 => ⟨S128x31x128, .f32⟩
  | 9 => ⟨S128x31x128, .i1⟩
  | 10 => ⟨S_, .f32⟩
  | 11 => ⟨S128x31x128, .f32⟩
  | 12 => ⟨S128x31x128, .f32⟩
  | 13 => ⟨S128x31x128, .f32⟩
  | 14 => ⟨S128x31x128, .f32⟩
  | 15 => ⟨S1x1x128, .f32⟩
  | 16 => ⟨S128x31x128, .f32⟩
  | 17 => ⟨S128x31x128, .f32⟩
  | 18 => ⟨S_, .f32⟩
  | 19 => ⟨S128x128, .f32⟩
  | 20 => ⟨S_, .f32⟩
  | 21 => ⟨S128x128, .f32⟩
  | 22 => ⟨S128x128, .f32⟩
  | 23 => ⟨S_, .f32⟩
  | 24 => ⟨S128x128, .f32⟩
  | 25 => ⟨S128x256, .f32⟩
  | 26 => ⟨S128x256, .f32⟩
  | 27 => ⟨S1x256, .f32⟩
  | 28 => ⟨S128x256, .f32⟩
  | 29 => ⟨S128x256, .f32⟩
  | 30 => ⟨S_, .f32⟩
  | 31 => ⟨S128x256, .f32⟩
  | 32 => ⟨S128x256, .i1⟩
  | 33 => ⟨S_, .f32⟩
  | 34 => ⟨S128x256, .f32⟩
  | 35 => ⟨S128x256, .f32⟩
  | 36 => ⟨S128x256, .f32⟩
  | 37 => ⟨S128x16, .f32⟩
  | 38 => ⟨S1x16, .f32⟩
  | 39 => ⟨S128x16, .f32⟩
  | 40 => ⟨S128x16, .f32⟩
  | 41 => ⟨S128x16x128, .f32⟩
  | 42 => ⟨S128x1x16, .f32⟩
  | 43 => ⟨S128x16x16, .f32⟩
  | 44 => ⟨S128x16x144, .f32⟩
  | 45 => ⟨S128x16x144, .f32⟩
  | 46 => ⟨S1x1x144, .f32⟩
  | 47 => ⟨S128x16x144, .f32⟩
  | 48 => ⟨S128x16x144, .f32⟩
  | 49 => ⟨S_, .f32⟩
  | 50 => ⟨S128x16x144, .f32⟩
  | 51 => ⟨S128x16x144, .i1⟩
  | 52 => ⟨S_, .f32⟩
  | 53 => ⟨S128x16x144, .f32⟩
  | 54 => ⟨S128x16x144, .f32⟩
  | 55 => ⟨S128x16x144, .f32⟩
  | 56 => ⟨S128x16x256, .f32⟩
  | 57 => ⟨S1x1x256, .f32⟩
  | 58 => ⟨S128x16x256, .f32⟩
  | 59 => ⟨S128x16x256, .f32⟩
  | 60 => ⟨S128x32x128, .f32⟩
  | 61 => ⟨S128x63x128, .f32⟩
  | 62 => ⟨S128x1x16, .f32⟩
  | 63 => ⟨S128x63x16, .f32⟩
  | 64 => ⟨S128x63x144, .f32⟩
  | 65 => ⟨S128x31x144, .f32⟩
  | 66 => ⟨S128x31x1x144, .f32⟩
  | 67 => ⟨S128x31x2x144, .f32⟩
  | 68 => ⟨S128x62x144, .f32⟩
  | 69 => ⟨S128x62x144, .f32⟩
  | 70 => ⟨S128x31x2x144, .f32⟩
  | 71 => ⟨S_, .f32⟩
  | 72 => ⟨S128x31x144, .f32⟩
  | 73 => ⟨S_, .f32⟩
  | 74 => ⟨S128x1x144, .f32⟩
  | 75 => ⟨S128x63x144, .f32⟩
  | 76 => ⟨S_, .f32⟩
  | 77 => ⟨S128x32x144, .f32⟩
  | 78 => ⟨S128x63x144, .f32⟩
  | 79 => ⟨S128x63x144, .f32⟩
  | 80 => ⟨S128x63x144, .f32⟩
  | 81 => ⟨S128x63x144, .f32⟩
  | 82 => ⟨S1x1x144, .f32⟩
  | 83 => ⟨S128x63x144, .f32⟩
  | 84 => ⟨S128x63x144, .f32⟩
  | 85 => ⟨S_, .f32⟩
  | 86 => ⟨S128x63x144, .f32⟩
  | 87 => ⟨S128x63x144, .i1⟩
  | 88 => ⟨S_, .f32⟩
  | 89 => ⟨S128x63x144, .f32⟩
  | 90 => ⟨S128x63x144, .f32⟩
  | 91 => ⟨S128x63x144, .f32⟩
  | 92 => ⟨S128x63x128, .f32⟩
  | 93 => ⟨S1x1x128, .f32⟩
  | 94 => ⟨S128x63x128, .f32⟩
  | 95 => ⟨S128x63x128, .f32⟩
  | 96 => ⟨S128x63x128, .f32⟩
  | 97 => ⟨S1x1x128, .f32⟩
  | 98 => ⟨S128x63x128, .f32⟩
  | 99 => ⟨S128x63x128, .f32⟩
  | 100 => ⟨S_, .f32⟩
  | 101 => ⟨S128x63x128, .f32⟩
  | 102 => ⟨S128x63x128, .i1⟩
  | 103 => ⟨S_, .f32⟩
  | 104 => ⟨S128x63x128, .f32⟩
  | 105 => ⟨S128x63x128, .f32⟩
  | 106 => ⟨S128x63x128, .f32⟩
  | 107 => ⟨S128x63x128, .f32⟩
  | 108 => ⟨S1x1x128, .f32⟩
  | 109 => ⟨S128x63x128, .f32⟩
  | 110 => ⟨S128x63x128, .f32⟩
  | 111 => ⟨S_, .f32⟩
  | 112 => ⟨S128x128, .f32⟩
  | 113 => ⟨S_, .f32⟩
  | 114 => ⟨S128x128, .f32⟩
  | 115 => ⟨S128x128, .f32⟩
  | 116 => ⟨S_, .f32⟩
  | 117 => ⟨S128x128, .f32⟩
  | 118 => ⟨S128x256, .f32⟩
  | 119 => ⟨S128x256, .f32⟩
  | 120 => ⟨S1x256, .f32⟩
  | 121 => ⟨S128x256, .f32⟩
  | 122 => ⟨S128x256, .f32⟩
  | 123 => ⟨S_, .f32⟩
  | 124 => ⟨S128x256, .f32⟩
  | 125 => ⟨S128x256, .i1⟩
  | 126 => ⟨S_, .f32⟩
  | 127 => ⟨S128x256, .f32⟩
  | _ => ⟨S128x1x128, .f32⟩

abbrev hbmTy0_4 (i : Nat) : BufTy := match i % 128 with
  | 0 => ⟨S128x256, .f32⟩
  | 1 => ⟨S128x256, .f32⟩
  | 2 => ⟨S128x16, .f32⟩
  | 3 => ⟨S1x16, .f32⟩
  | 4 => ⟨S128x16, .f32⟩
  | 5 => ⟨S128x16, .f32⟩
  | 6 => ⟨S128x32x128, .f32⟩
  | 7 => ⟨S128x1x16, .f32⟩
  | 8 => ⟨S128x32x16, .f32⟩
  | 9 => ⟨S128x32x144, .f32⟩
  | 10 => ⟨S128x32x144, .f32⟩
  | 11 => ⟨S1x1x144, .f32⟩
  | 12 => ⟨S128x32x144, .f32⟩
  | 13 => ⟨S128x32x144, .f32⟩
  | 14 => ⟨S_, .f32⟩
  | 15 => ⟨S128x32x144, .f32⟩
  | 16 => ⟨S128x32x144, .i1⟩
  | 17 => ⟨S_, .f32⟩
  | 18 => ⟨S128x32x144, .f32⟩
  | 19 => ⟨S128x32x144, .f32⟩
  | 20 => ⟨S128x32x144, .f32⟩
  | 21 => ⟨S128x32x256, .f32⟩
  | 22 => ⟨S1x1x256, .f32⟩
  | 23 => ⟨S128x32x256, .f32⟩
  | 24 => ⟨S128x32x256, .f32⟩
  | 25 => ⟨S128x64x128, .f32⟩
  | 26 => ⟨S128x127x128, .f32⟩
  | 27 => ⟨S128x1x16, .f32⟩
  | 28 => ⟨S128x127x16, .f32⟩
  | 29 => ⟨S128x127x144, .f32⟩
  | 30 => ⟨S128x63x144, .f32⟩
  | 31 => ⟨S128x63x1x144, .f32⟩
  | 32 => ⟨S128x63x2x144, .f32⟩
  | 33 => ⟨S128x126x144, .f32⟩
  | 34 => ⟨S128x126x144, .f32⟩
  | 35 => ⟨S128x63x2x144, .f32⟩
  | 36 => ⟨S_, .f32⟩
  | 37 => ⟨S128x63x144, .f32⟩
  | 38 => ⟨S_, .f32⟩
  | 39 => ⟨S128x1x144, .f32⟩
  | 40 => ⟨S128x127x144, .f32⟩
  | 41 => ⟨S_, .f32⟩
  | 42 => ⟨S128x64x144, .f32⟩
  | 43 => ⟨S128x127x144, .f32⟩
  | 44 => ⟨S128x127x144, .f32⟩
  | 45 => ⟨S128x127x144, .f32⟩
  | 46 => ⟨S128x127x144, .f32⟩
  | 47 => ⟨S1x1x144, .f32⟩
  | 48 => ⟨S128x127x144, .f32⟩
  | 49 => ⟨S128x127x144, .f32⟩
  | 50 => ⟨S_, .f32⟩
  | 51 => ⟨S128x127x144, .f32⟩
  | 52 => ⟨S128x127x144, .i1⟩
  | 53 => ⟨S_, .f32⟩
  | 54 => ⟨S128x127x144, .f32⟩
  | 55 => ⟨S128x127x144, .f32⟩
  | 56 => ⟨S128x127x144, .f32⟩
  | 57 => ⟨S128x127x128, .f32⟩
  | 58 => ⟨S1x1x128, .f32⟩
  | 59 => ⟨S128x127x128, .f32⟩
  | 60 => ⟨S128x127x128, .f32⟩
  | 61 => ⟨S128x127x128, .f32⟩
  | 62 => ⟨S1x1x128, .f32⟩
  | 63 => ⟨S128x127x128, .f32⟩
  | 64 => ⟨S128x127x128, .f32⟩
  | 65 => ⟨S_, .f32⟩
  | 66 => ⟨S128x127x128, .f32⟩
  | 67 => ⟨S128x127x128, .i1⟩
  | 68 => ⟨S_, .f32⟩
  | 69 => ⟨S128x127x128, .f32⟩
  | 70 => ⟨S128x127x128, .f32⟩
  | 71 => ⟨S128x127x128, .f32⟩
  | 72 => ⟨S128x127x128, .f32⟩
  | 73 => ⟨S1x1x128, .f32⟩
  | 74 => ⟨S128x127x128, .f32⟩
  | 75 => ⟨S128x127x128, .f32⟩
  | 76 => ⟨S_, .f32⟩
  | 77 => ⟨S128x128, .f32⟩
  | 78 => ⟨S_, .f32⟩
  | 79 => ⟨S128x128, .f32⟩
  | 80 => ⟨S128x128, .f32⟩
  | 81 => ⟨S_, .f32⟩
  | 82 => ⟨S128x128, .f32⟩
  | 83 => ⟨S128x256, .f32⟩
  | 84 => ⟨S128x256, .f32⟩
  | 85 => ⟨S1x256, .f32⟩
  | 86 => ⟨S128x256, .f32⟩
  | 87 => ⟨S128x256, .f32⟩
  | 88 => ⟨S_, .f32⟩
  | 89 => ⟨S128x256, .f32⟩
  | 90 => ⟨S128x256, .i1⟩
  | 91 => ⟨S_, .f32⟩
  | 92 => ⟨S128x256, .f32⟩
  | 93 => ⟨S128x256, .f32⟩
  | 94 => ⟨S128x256, .f32⟩
  | 95 => ⟨S128x16, .f32⟩
  | 96 => ⟨S1x16, .f32⟩
  | 97 => ⟨S128x16, .f32⟩
  | 98 => ⟨S128x16, .f32⟩
  | 99 => ⟨S128x64x128, .f32⟩
  | 100 => ⟨S128x1x16, .f32⟩
  | 101 => ⟨S128x64x16, .f32⟩
  | 102 => ⟨S128x64x144, .f32⟩
  | 103 => ⟨S128x64x144, .f32⟩
  | 104 => ⟨S1x1x144, .f32⟩
  | 105 => ⟨S128x64x144, .f32⟩
  | 106 => ⟨S128x64x144, .f32⟩
  | 107 => ⟨S_, .f32⟩
  | 108 => ⟨S128x64x144, .f32⟩
  | 109 => ⟨S128x64x144, .i1⟩
  | 110 => ⟨S_, .f32⟩
  | 111 => ⟨S128x64x144, .f32⟩
  | 112 => ⟨S128x64x144, .f32⟩
  | 113 => ⟨S128x64x144, .f32⟩
  | 114 => ⟨S128x64x256, .f32⟩
  | 115 => ⟨S1x1x256, .f32⟩
  | 116 => ⟨S128x64x256, .f32⟩
  | 117 => ⟨S128x64x256, .f32⟩
  | 118 => ⟨S128x128x128, .f32⟩
  | 119 => ⟨S128x255x128, .f32⟩
  | 120 => ⟨S128x1x16, .f32⟩
  | 121 => ⟨S128x255x16, .f32⟩
  | 122 => ⟨S128x255x144, .f32⟩
  | 123 => ⟨S128x127x144, .f32⟩
  | 124 => ⟨S128x127x1x144, .f32⟩
  | 125 => ⟨S128x127x2x144, .f32⟩
  | 126 => ⟨S128x254x144, .f32⟩
  | 127 => ⟨S128x254x144, .f32⟩
  | _ => ⟨S128x1x128, .f32⟩

abbrev hbmTy0_5 (i : Nat) : BufTy := match i % 128 with
  | 0 => ⟨S128x127x2x144, .f32⟩
  | 1 => ⟨S_, .f32⟩
  | 2 => ⟨S128x127x144, .f32⟩
  | 3 => ⟨S_, .f32⟩
  | 4 => ⟨S128x1x144, .f32⟩
  | 5 => ⟨S128x255x144, .f32⟩
  | 6 => ⟨S_, .f32⟩
  | 7 => ⟨S128x128x144, .f32⟩
  | 8 => ⟨S128x255x144, .f32⟩
  | 9 => ⟨S128x255x144, .f32⟩
  | 10 => ⟨S128x255x144, .f32⟩
  | 11 => ⟨S128x255x144, .f32⟩
  | 12 => ⟨S1x1x144, .f32⟩
  | 13 => ⟨S128x255x144, .f32⟩
  | 14 => ⟨S128x255x144, .f32⟩
  | 15 => ⟨S_, .f32⟩
  | 16 => ⟨S128x255x144, .f32⟩
  | 17 => ⟨S128x255x144, .i1⟩
  | 18 => ⟨S_, .f32⟩
  | 19 => ⟨S128x255x144, .f32⟩
  | 20 => ⟨S128x255x144, .f32⟩
  | 21 => ⟨S128x255x144, .f32⟩
  | 22 => ⟨S128x255x128, .f32⟩
  | 23 => ⟨S1x1x128, .f32⟩
  | 24 => ⟨S128x255x128, .f32⟩
  | 25 => ⟨S128x255x128, .f32⟩
  | 26 => ⟨S128x255x128, .f32⟩
  | 27 => ⟨S1x1x128, .f32⟩
  | 28 => ⟨S128x255x128, .f32⟩
  | 29 => ⟨S128x255x128, .f32⟩
  | 30 => ⟨S_, .f32⟩
  | 31 => ⟨S128x255x128, .f32⟩
  | 32 => ⟨S128x255x128, .i1⟩
  | 33 => ⟨S_, .f32⟩
  | 34 => ⟨S128x255x128, .f32⟩
  | 35 => ⟨S128x255x128, .f32⟩
  | 36 => ⟨S128x255x128, .f32⟩
  | 37 => ⟨S128x255x128, .f32⟩
  | 38 => ⟨S1x1x128, .f32⟩
  | 39 => ⟨S128x255x128, .f32⟩
  | 40 => ⟨S128x255x128, .f32⟩
  | 41 => ⟨S_, .f32⟩
  | 42 => ⟨S128x128, .f32⟩
  | 43 => ⟨S_, .f32⟩
  | 44 => ⟨S128x128, .f32⟩
  | 45 => ⟨S128x128, .f32⟩
  | 46 => ⟨S_, .f32⟩
  | 47 => ⟨S128x128, .f32⟩
  | 48 => ⟨S128x256, .f32⟩
  | 49 => ⟨S128x256, .f32⟩
  | 50 => ⟨S1x256, .f32⟩
  | 51 => ⟨S128x256, .f32⟩
  | 52 => ⟨S128x256, .f32⟩
  | 53 => ⟨S_, .f32⟩
  | 54 => ⟨S128x256, .f32⟩
  | 55 => ⟨S128x256, .i1⟩
  | 56 => ⟨S_, .f32⟩
  | 57 => ⟨S128x256, .f32⟩
  | 58 => ⟨S128x256, .f32⟩
  | 59 => ⟨S128x256, .f32⟩
  | 60 => ⟨S128x16, .f32⟩
  | 61 => ⟨S1x16, .f32⟩
  | 62 => ⟨S128x16, .f32⟩
  | 63 => ⟨S128x16, .f32⟩
  | 64 => ⟨S128x128x128, .f32⟩
  | 65 => ⟨S128x1x16, .f32⟩
  | 66 => ⟨S128x128x16, .f32⟩
  | 67 => ⟨S128x128x144, .f32⟩
  | 68 => ⟨S128x128x144, .f32⟩
  | 69 => ⟨S1x1x144, .f32⟩
  | 70 => ⟨S128x128x144, .f32⟩
  | 71 => ⟨S128x128x144, .f32⟩
  | 72 => ⟨S_, .f32⟩
  | 73 => ⟨S128x128x144, .f32⟩
  | 74 => ⟨S128x128x144, .i1⟩
  | 75 => ⟨S_, .f32⟩
  | 76 => ⟨S128x128x144, .f32⟩
  | 77 => ⟨S128x128x144, .f32⟩
  | 78 => ⟨S128x128x144, .f32⟩
  | 79 => ⟨S128x128x256, .f32⟩
  | 80 => ⟨S1x1x256, .f32⟩
  | 81 => ⟨S128x128x256, .f32⟩
  | 82 => ⟨S128x128x256, .f32⟩
  | 83 => ⟨S128x256x128, .f32⟩
  | 84 => ⟨S128x511x128, .f32⟩
  | 85 => ⟨S128x1x16, .f32⟩
  | 86 => ⟨S128x511x16, .f32⟩
  | 87 => ⟨S128x511x144, .f32⟩
  | 88 => ⟨S128x255x144, .f32⟩
  | 89 => ⟨S128x255x1x144, .f32⟩
  | 90 => ⟨S128x255x2x144, .f32⟩
  | 91 => ⟨S128x510x144, .f32⟩
  | 92 => ⟨S128x510x144, .f32⟩
  | 93 => ⟨S128x255x2x144, .f32⟩
  | 94 => ⟨S_, .f32⟩
  | 95 => ⟨S128x255x144, .f32⟩
  | 96 => ⟨S_, .f32⟩
  | 97 => ⟨S128x1x144, .f32⟩
  | 98 => ⟨S128x511x144, .f32⟩
  | 99 => ⟨S_, .f32⟩
  | 100 => ⟨S128x256x144, .f32⟩
  | 101 => ⟨S128x511x144, .f32⟩
  | 102 => ⟨S128x511x144, .f32⟩
  | 103 => ⟨S128x511x144, .f32⟩
  | 104 => ⟨S128x511x144, .f32⟩
  | 105 => ⟨S1x1x144, .f32⟩
  | 106 => ⟨S128x511x144, .f32⟩
  | 107 => ⟨S128x511x144, .f32⟩
  | 108 => ⟨S_, .f32⟩
  | 109 => ⟨S128x511x144, .f32⟩
  | 110 => ⟨S128x511x144, .i1⟩
  | 111 => ⟨S_, .f32⟩
  | 112 => ⟨S128x511x144, .f32⟩
  | 113 => ⟨S128x511x144, .f32⟩
  | 114 => ⟨S128x511x144, .f32⟩
  | 115 => ⟨S128x511x128, .f32⟩
  | 116 => ⟨S1x1x128, .f32⟩
  | 117 => ⟨S128x511x128, .f32⟩
  | 118 => ⟨S128x511x128, .f32⟩
  | 119 => ⟨S128x511x128, .f32⟩
  | 120 => ⟨S1x1x128, .f32⟩
  | 121 => ⟨S128x511x128, .f32⟩
  | 122 => ⟨S128x511x128, .f32⟩
  | 123 => ⟨S_, .f32⟩
  | 124 => ⟨S128x511x128, .f32⟩
  | 125 => ⟨S128x511x128, .i1⟩
  | 126 => ⟨S_, .f32⟩
  | 127 => ⟨S128x511x128, .f32⟩
  | _ => ⟨S128x1x128, .f32⟩

abbrev hbmTy0_6 (i : Nat) : BufTy := match i % 128 with
  | 0 => ⟨S128x511x128, .f32⟩
  | 1 => ⟨S128x511x128, .f32⟩
  | 2 => ⟨S128x511x128, .f32⟩
  | 3 => ⟨S1x1x128, .f32⟩
  | 4 => ⟨S128x511x128, .f32⟩
  | 5 => ⟨S128x511x128, .f32⟩
  | 6 => ⟨S_, .f32⟩
  | 7 => ⟨S128x128, .f32⟩
  | 8 => ⟨S_, .f32⟩
  | 9 => ⟨S128x128, .f32⟩
  | 10 => ⟨S128x128, .f32⟩
  | 11 => ⟨S_, .f32⟩
  | 12 => ⟨S128x128, .f32⟩
  | 13 => ⟨S128x256, .f32⟩
  | 14 => ⟨S128x256, .f32⟩
  | 15 => ⟨S1x256, .f32⟩
  | 16 => ⟨S128x256, .f32⟩
  | 17 => ⟨S128x256, .f32⟩
  | 18 => ⟨S_, .f32⟩
  | 19 => ⟨S128x256, .f32⟩
  | 20 => ⟨S128x256, .i1⟩
  | 21 => ⟨S_, .f32⟩
  | 22 => ⟨S128x256, .f32⟩
  | 23 => ⟨S128x256, .f32⟩
  | 24 => ⟨S128x256, .f32⟩
  | 25 => ⟨S128x16, .f32⟩
  | 26 => ⟨S1x16, .f32⟩
  | 27 => ⟨S128x16, .f32⟩
  | 28 => ⟨S128x16, .f32⟩
  | 29 => ⟨S128x256x128, .f32⟩
  | 30 => ⟨S128x1x16, .f32⟩
  | 31 => ⟨S128x256x16, .f32⟩
  | 32 => ⟨S128x256x144, .f32⟩
  | 33 => ⟨S128x256x144, .f32⟩
  | 34 => ⟨S1x1x144, .f32⟩
  | 35 => ⟨S128x256x144, .f32⟩
  | 36 => ⟨S128x256x144, .f32⟩
  | 37 => ⟨S_, .f32⟩
  | 38 => ⟨S128x256x144, .f32⟩
  | 39 => ⟨S128x256x144, .i1⟩
  | 40 => ⟨S_, .f32⟩
  | 41 => ⟨S128x256x144, .f32⟩
  | 42 => ⟨S128x256x144, .f32⟩
  | 43 => ⟨S128x256x144, .f32⟩
  | 44 => ⟨S128x256x256, .f32⟩
  | 45 => ⟨S1x1x256, .f32⟩
  | 46 => ⟨S128x256x256, .f32⟩
  | 47 => ⟨S128x256x256, .f32⟩
  | 48 => ⟨S128x512x128, .f32⟩
  | 49 => ⟨S128x1023x128, .f32⟩
  | 50 => ⟨S128x1x16, .f32⟩
  | 51 => ⟨S128x1023x16, .f32⟩
  | 52 => ⟨S128x1023x144, .f32⟩
  | 53 => ⟨S128x511x144, .f32⟩
  | 54 => ⟨S128x511x1x144, .f32⟩
  | 55 => ⟨S128x511x2x144, .f32⟩
  | 56 => ⟨S128x1022x144, .f32⟩
  | 57 => ⟨S128x1022x144, .f32⟩
  | 58 => ⟨S128x511x2x144, .f32⟩
  | 59 => ⟨S_, .f32⟩
  | 60 => ⟨S128x511x144, .f32⟩
  | 61 => ⟨S_, .f32⟩
  | 62 => ⟨S128x1x144, .f32⟩
  | 63 => ⟨S128x1023x144, .f32⟩
  | 64 => ⟨S_, .f32⟩
  | 65 => ⟨S128x512x144, .f32⟩
  | 66 => ⟨S128x1023x144, .f32⟩
  | 67 => ⟨S128x1023x144, .f32⟩
  | 68 => ⟨S128x1023x144, .f32⟩
  | 69 => ⟨S128x1023x144, .f32⟩
  | 70 => ⟨S1x1x144, .f32⟩
  | 71 => ⟨S128x1023x144, .f32⟩
  | 72 => ⟨S128x1023x144, .f32⟩
  | 73 => ⟨S_, .f32⟩
  | 74 => ⟨S128x1023x144, .f32⟩
  | 75 => ⟨S128x1023x144, .i1⟩
  | 76 => ⟨S_, .f32⟩
  | 77 => ⟨S128x1023x144, .f32⟩
  | 78 => ⟨S128x1023x144, .f32⟩
  | 79 => ⟨S128x1023x144, .f32⟩
  | 80 => ⟨S128x1023x128, .f32⟩
  | 81 => ⟨S1x1x128, .f32⟩
  | 82 => ⟨S128x1023x128, .f32⟩
  | 83 => ⟨S128x1023x128, .f32⟩
  | 84 => ⟨S128x1023x128, .f32⟩
  | 85 => ⟨S1x1x128, .f32⟩
  | 86 => ⟨S128x1023x128, .f32⟩
  | 87 => ⟨S128x1023x128, .f32⟩
  | 88 => ⟨S_, .f32⟩
  | 89 => ⟨S128x1023x128, .f32⟩
  | 90 => ⟨S128x1023x128, .i1⟩
  | 91 => ⟨S_, .f32⟩
  | 92 => ⟨S128x1023x128, .f32⟩
  | 93 => ⟨S128x1023x128, .f32⟩
  | 94 => ⟨S128x1023x128, .f32⟩
  | 95 => ⟨S128x1023x128, .f32⟩
  | 96 => ⟨S1x1x128, .f32⟩
  | 97 => ⟨S128x1023x128, .f32⟩
  | 98 => ⟨S128x1023x128, .f32⟩
  | 99 => ⟨S_, .f32⟩
  | 100 => ⟨S128x128, .f32⟩
  | 101 => ⟨S_, .f32⟩
  | 102 => ⟨S128x128, .f32⟩
  | 103 => ⟨S128x128, .f32⟩
  | 104 => ⟨S_, .f32⟩
  | 105 => ⟨S128x128, .f32⟩
  | 106 => ⟨S128x256, .f32⟩
  | 107 => ⟨S128x256, .f32⟩
  | 108 => ⟨S1x256, .f32⟩
  | 109 => ⟨S128x256, .f32⟩
  | 110 => ⟨S128x256, .f32⟩
  | 111 => ⟨S_, .f32⟩
  | 112 => ⟨S128x256, .f32⟩
  | 113 => ⟨S128x256, .i1⟩
  | 114 => ⟨S_, .f32⟩
  | 115 => ⟨S128x256, .f32⟩
  | 116 => ⟨S128x256, .f32⟩
  | 117 => ⟨S128x256, .f32⟩
  | 118 => ⟨S128x16, .f32⟩
  | 119 => ⟨S1x16, .f32⟩
  | 120 => ⟨S128x16, .f32⟩
  | 121 => ⟨S128x16, .f32⟩
  | 122 => ⟨S128x1x16, .f32⟩
  | 123 => ⟨S128x1023x16, .f32⟩
  | 124 => ⟨S128x1023x144, .f32⟩
  | 125 => ⟨S128x511x144, .f32⟩
  | 126 => ⟨S128x511x1x144, .f32⟩
  | 127 => ⟨S128x511x2x144, .f32⟩
  | _ => ⟨S128x1x128, .f32⟩

abbrev hbmTy0_7 (i : Nat) : BufTy := match i % 128 with
  | 0 => ⟨S128x1022x144, .f32⟩
  | 1 => ⟨S128x1022x144, .f32⟩
  | 2 => ⟨S128x511x2x144, .f32⟩
  | 3 => ⟨S_, .f32⟩
  | 4 => ⟨S128x511x144, .f32⟩
  | 5 => ⟨S_, .f32⟩
  | 6 => ⟨S128x1x144, .f32⟩
  | 7 => ⟨S128x1023x144, .f32⟩
  | 8 => ⟨S_, .f32⟩
  | 9 => ⟨S128x512x144, .f32⟩
  | 10 => ⟨S128x1023x144, .f32⟩
  | 11 => ⟨S128x1023x144, .f32⟩
  | 12 => ⟨S128x1023x144, .f32⟩
  | 13 => ⟨S128x1023x144, .f32⟩
  | 14 => ⟨S1x1x144, .f32⟩
  | 15 => ⟨S128x1023x144, .f32⟩
  | 16 => ⟨S128x1023x144, .f32⟩
  | 17 => ⟨S_, .f32⟩
  | 18 => ⟨S128x1023x144, .f32⟩
  | 19 => ⟨S128x1023x144, .i1⟩
  | 20 => ⟨S_, .f32⟩
  | 21 => ⟨S128x1023x144, .f32⟩
  | 22 => ⟨S128x1023x144, .f32⟩
  | 23 => ⟨S128x1023x144, .f32⟩
  | 24 => ⟨S128x1023x128, .f32⟩
  | 25 => ⟨S1x1x128, .f32⟩
  | 26 => ⟨S128x1023x128, .f32⟩
  | 27 => ⟨S128x1023x128, .f32⟩
  | 28 => ⟨S128x1023x128, .f32⟩
  | 29 => ⟨S1x1x128, .f32⟩
  | 30 => ⟨S128x1023x128, .f32⟩
  | 31 => ⟨S128x1023x128, .f32⟩
  | 32 => ⟨S_, .f32⟩
  | 33 => ⟨S128x1023x128, .f32⟩
  | 34 => ⟨S128x1023x128, .i1⟩
  | 35 => ⟨S_, .f32⟩
  | 36 => ⟨S128x1023x128, .f32⟩
  | 37 => ⟨S128x1023x128, .f32⟩
  | 38 => ⟨S128x1023x128, .f32⟩
  | 39 => ⟨S128x1023x128, .f32⟩
  | 40 => ⟨S1x1x128, .f32⟩
  | 41 => ⟨S128x1023x128, .f32⟩
  | 42 => ⟨S128x1023x128, .f32⟩
  | 43 => ⟨S_, .f32⟩
  | 44 => ⟨S128x128, .f32⟩
  | 45 => ⟨S_, .f32⟩
  | 46 => ⟨S128x128, .f32⟩
  | 47 => ⟨S128x128, .f32⟩
  | 48 => ⟨S_, .f32⟩
  | 49 => ⟨S128x128, .f32⟩
  | 50 => ⟨S128x256, .f32⟩
  | 51 => ⟨S128x256, .f32⟩
  | 52 => ⟨S1x256, .f32⟩
  | 53 => ⟨S128x256, .f32⟩
  | 54 => ⟨S128x256, .f32⟩
  | 55 => ⟨S_, .f32⟩
  | 56 => ⟨S128x256, .f32⟩
  | 57 => ⟨S128x256, .i1⟩
  | 58 => ⟨S_, .f32⟩
  | 59 => ⟨S128x256, .f32⟩
  | 60 => ⟨S128x256, .f32⟩
  | 61 => ⟨S128x256, .f32⟩
  | 62 => ⟨S128x16, .f32⟩
  | 63 => ⟨S1x16, .f32⟩
  | 64 => ⟨S128x16, .f32⟩
  | 65 => ⟨S128x16, .f32⟩
  | 66 => ⟨S128x1x16, .f32⟩
  | 67 => ⟨S128x1023x16, .f32⟩
  | 68 => ⟨S128x1023x144, .f32⟩
  | 69 => ⟨S128x511x144, .f32⟩
  | 70 => ⟨S128x511x1x144, .f32⟩
  | 71 => ⟨S128x511x2x144, .f32⟩
  | 72 => ⟨S128x1022x144, .f32⟩
  | 73 => ⟨S128x1022x144, .f32⟩
  | 74 => ⟨S128x511x2x144, .f32⟩
  | 75 => ⟨S_, .f32⟩
  | 76 => ⟨S128x511x144, .f32⟩
  | 77 => ⟨S_, .f32⟩
  | 78 => ⟨S128x1x144, .f32⟩
  | 79 => ⟨S128x1023x144, .f32⟩
  | 80 => ⟨S_, .f32⟩
  | 81 => ⟨S128x512x144, .f32⟩
  | 82 => ⟨S128x1023x144, .f32⟩
  | 83 => ⟨S128x1023x144, .f32⟩
  | 84 => ⟨S128x1023x144, .f32⟩
  | 85 => ⟨S128x1023x144, .f32⟩
  | 86 => ⟨S1x1x144, .f32⟩
  | 87 => ⟨S128x1023x144, .f32⟩
  | 88 => ⟨S128x1023x144, .f32⟩
  | 89 => ⟨S_, .f32⟩
  | 90 => ⟨S128x1023x144, .f32⟩
  | 91 => ⟨S128x1023x144, .i1⟩
  | 92 => ⟨S_, .f32⟩
  | 93 => ⟨S128x1023x144, .f32⟩
  | 94 => ⟨S128x1023x144, .f32⟩
  | 95 => ⟨S128x1023x144, .f32⟩
  | 96 => ⟨S128x1023x128, .f32⟩
  | 97 => ⟨S1x1x128, .f32⟩
  | 98 => ⟨S128x1023x128, .f32⟩
  | 99 => ⟨S128x1023x128, .f32⟩
  | 100 => ⟨S128x512x3, .f32⟩
  | _ => ⟨S128x1x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S128x1x128, .f32⟩

abbrev bufTy : (tb : Table) → Fin (tcTables nBuf tb) → BufTy
  | .hbm, ⟨i, _⟩ => hbmTy i
  | _, _ => ⟨S128x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_4 : Ref sig .tc := ⟨.hbm, 44, rfl⟩
abbrev main_v22 : Ref sig .tc := ⟨.hbm, 45, rfl⟩
abbrev main_v23 : Ref sig .tc := ⟨.hbm, 46, rfl⟩
abbrev main_cst_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_8 : Ref sig .tc := ⟨.hbm, 83, rfl⟩
abbrev main_v57 : Ref sig .tc := ⟨.hbm, 84, rfl⟩
abbrev main_cst_9 : Ref sig .tc := ⟨.hbm, 85, rfl⟩
abbrev main_v58 : Ref sig .tc := ⟨.hbm, 86, rfl⟩
abbrev main_v59 : Ref sig .tc := ⟨.hbm, 87, rfl⟩
abbrev main_cst_10 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_11 : Ref sig .tc := ⟨.hbm, 97, rfl⟩
abbrev main_v68 : Ref sig .tc := ⟨.hbm, 98, rfl⟩
abbrev main_v69 : Ref sig .tc := ⟨.hbm, 99, rfl⟩
abbrev main_cst_12 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_13 : Ref sig .tc := ⟨.hbm, 112, rfl⟩
abbrev main_v81 : Ref sig .tc := ⟨.hbm, 113, rfl⟩
abbrev main_v82 : Ref sig .tc := ⟨.hbm, 114, rfl⟩
abbrev main_cst_14 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_15 : Ref sig .tc := ⟨.hbm, 123, rfl⟩
abbrev main_v90 : Ref sig .tc := ⟨.hbm, 124, rfl⟩
abbrev main_cst_16 : Ref sig .tc := ⟨.hbm, 125, rfl⟩
abbrev main_v91 : Ref sig .tc := ⟨.hbm, 126, rfl⟩
abbrev main_v92 : Ref sig .tc := ⟨.hbm, 127, rfl⟩
abbrev main_cst_17 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_18 : Ref sig .tc := ⟨.hbm, 135, rfl⟩
abbrev main_v99 : Ref sig .tc := ⟨.hbm, 136, rfl⟩
abbrev main_v100 : Ref sig .tc := ⟨.hbm, 137, rfl⟩
abbrev main_cst_19 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_cst_20 : Ref sig .tc := ⟨.hbm, 154, rfl⟩
abbrev main_v116 : Ref sig .tc := ⟨.hbm, 155, rfl⟩
abbrev main_v117 : Ref sig .tc := ⟨.hbm, 156, rfl⟩
abbrev main_cst_21 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_cst_22 : Ref sig .tc := ⟨.hbm, 176, rfl⟩
abbrev main_v136 : Ref sig .tc := ⟨.hbm, 177, rfl⟩
abbrev main_cst_23 : Ref sig .tc := ⟨.hbm, 178, rfl⟩
abbrev main_v137 : Ref sig .tc := ⟨.hbm, 179, rfl⟩
abbrev main_v138 : Ref sig .tc := ⟨.hbm, 180, rfl⟩
abbrev main_cst_24 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_cst_25 : Ref sig .tc := ⟨.hbm, 190, rfl⟩
abbrev main_v147 : Ref sig .tc := ⟨.hbm, 191, rfl⟩
abbrev main_v148 : Ref sig .tc := ⟨.hbm, 192, rfl⟩
abbrev main_cst_26 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_cst_27 : Ref sig .tc := ⟨.hbm, 205, rfl⟩
abbrev main_v160 : Ref sig .tc := ⟨.hbm, 206, rfl⟩
abbrev main_v161 : Ref sig .tc := ⟨.hbm, 207, rfl⟩
abbrev main_cst_28 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_cst_29 : Ref sig .tc := ⟨.hbm, 216, rfl⟩
abbrev main_v169 : Ref sig .tc := ⟨.hbm, 217, rfl⟩
abbrev main_cst_30 : Ref sig .tc := ⟨.hbm, 218, rfl⟩
abbrev main_v170 : Ref sig .tc := ⟨.hbm, 219, rfl⟩
abbrev main_v171 : Ref sig .tc := ⟨.hbm, 220, rfl⟩
abbrev main_cst_31 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_cst_32 : Ref sig .tc := ⟨.hbm, 228, rfl⟩
abbrev main_v178 : Ref sig .tc := ⟨.hbm, 229, rfl⟩
abbrev main_v179 : Ref sig .tc := ⟨.hbm, 230, rfl⟩
abbrev main_cst_33 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_cst_34 : Ref sig .tc := ⟨.hbm, 247, rfl⟩
abbrev main_v195 : Ref sig .tc := ⟨.hbm, 248, rfl⟩
abbrev main_v196 : Ref sig .tc := ⟨.hbm, 249, rfl⟩
abbrev main_cst_35 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_cst_36 : Ref sig .tc := ⟨.hbm, 269, rfl⟩
abbrev main_v215 : Ref sig .tc := ⟨.hbm, 270, rfl⟩
abbrev main_cst_37 : Ref sig .tc := ⟨.hbm, 271, rfl⟩
abbrev main_v216 : Ref sig .tc := ⟨.hbm, 272, rfl⟩
abbrev main_v217 : Ref sig .tc := ⟨.hbm, 273, rfl⟩
abbrev main_cst_38 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_cst_39 : Ref sig .tc := ⟨.hbm, 283, rfl⟩
abbrev main_v226 : Ref sig .tc := ⟨.hbm, 284, rfl⟩
abbrev main_v227 : Ref sig .tc := ⟨.hbm, 285, rfl⟩
abbrev main_cst_40 : Ref sig .tc := ⟨.hbm, 286, rfl⟩
abbrev main_v228 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_cst_41 : Ref sig .tc := ⟨.hbm, 298, rfl⟩
abbrev main_v239 : Ref sig .tc := ⟨.hbm, 299, rfl⟩
abbrev main_v240 : Ref sig .tc := ⟨.hbm, 300, rfl⟩
abbrev main_cst_42 : Ref sig .tc := ⟨.hbm, 301, rfl⟩
abbrev main_v241 : Ref sig .tc := ⟨.hbm, 302, rfl⟩
abbrev main_v242 : Ref sig .tc := ⟨.hbm, 303, rfl⟩
abbrev main_v243 : Ref sig .tc := ⟨.hbm, 304, rfl⟩
abbrev main_v244 : Ref sig .tc := ⟨.hbm, 305, rfl⟩
abbrev main_v245 : Ref sig .tc := ⟨.hbm, 306, rfl⟩
abbrev main_v246 : Ref sig .tc := ⟨.hbm, 307, rfl⟩
abbrev main_v247 : Ref sig .tc := ⟨.hbm, 308, rfl⟩
abbrev main_cst_43 : Ref sig .tc := ⟨.hbm, 309, rfl⟩
abbrev main_v248 : Ref sig .tc := ⟨.hbm, 310, rfl⟩
abbrev main_cst_44 : Ref sig .tc := ⟨.hbm, 311, rfl⟩
abbrev main_v249 : Ref sig .tc := ⟨.hbm, 312, rfl⟩
abbrev main_v250 : Ref sig .tc := ⟨.hbm, 313, rfl⟩
abbrev main_cst_45 : Ref sig .tc := ⟨.hbm, 314, rfl⟩
abbrev main_v251 : Ref sig .tc := ⟨.hbm, 315, rfl⟩
abbrev main_v252 : Ref sig .tc := ⟨.hbm, 316, rfl⟩
abbrev main_v253 : Ref sig .tc := ⟨.hbm, 317, rfl⟩
abbrev main_v254 : Ref sig .tc := ⟨.hbm, 318, rfl⟩
abbrev main_v255 : Ref sig .tc := ⟨.hbm, 319, rfl⟩
abbrev main_v256 : Ref sig .tc := ⟨.hbm, 320, rfl⟩
abbrev main_cst_46 : Ref sig .tc := ⟨.hbm, 321, rfl⟩
abbrev main_v257 : Ref sig .tc := ⟨.hbm, 322, rfl⟩
abbrev main_v258 : Ref sig .tc := ⟨.hbm, 323, rfl⟩
abbrev main_cst_47 : Ref sig .tc := ⟨.hbm, 324, rfl⟩
abbrev main_v259 : Ref sig .tc := ⟨.hbm, 325, rfl⟩
abbrev main_v260 : Ref sig .tc := ⟨.hbm, 326, rfl⟩
abbrev main_v261 : Ref sig .tc := ⟨.hbm, 327, rfl⟩
abbrev main_v262 : Ref sig .tc := ⟨.hbm, 328, rfl⟩
abbrev main_v263 : Ref sig .tc := ⟨.hbm, 329, rfl⟩
abbrev main_v264 : Ref sig .tc := ⟨.hbm, 330, rfl⟩
abbrev main_v265 : Ref sig .tc := ⟨.hbm, 331, rfl⟩
abbrev main_v266 : Ref sig .tc := ⟨.hbm, 332, rfl⟩
abbrev main_v267 : Ref sig .tc := ⟨.hbm, 333, rfl⟩
abbrev main_v268 : Ref sig .tc := ⟨.hbm, 334, rfl⟩
abbrev main_v269 : Ref sig .tc := ⟨.hbm, 335, rfl⟩
abbrev main_v270 : Ref sig .tc := ⟨.hbm, 336, rfl⟩
abbrev main_v271 : Ref sig .tc := ⟨.hbm, 337, rfl⟩
abbrev main_v272 : Ref sig .tc := ⟨.hbm, 338, rfl⟩
abbrev main_v273 : Ref sig .tc := ⟨.hbm, 339, rfl⟩
abbrev main_cst_48 : Ref sig .tc := ⟨.hbm, 340, rfl⟩
abbrev main_v274 : Ref sig .tc := ⟨.hbm, 341, rfl⟩
abbrev main_v275 : Ref sig .tc := ⟨.hbm, 342, rfl⟩
abbrev main_cst_49 : Ref sig .tc := ⟨.hbm, 343, rfl⟩
abbrev main_v276 : Ref sig .tc := ⟨.hbm, 344, rfl⟩
abbrev main_v277 : Ref sig .tc := ⟨.hbm, 345, rfl⟩
abbrev main_v278 : Ref sig .tc := ⟨.hbm, 346, rfl⟩
abbrev main_v279 : Ref sig .tc := ⟨.hbm, 347, rfl⟩
abbrev main_v280 : Ref sig .tc := ⟨.hbm, 348, rfl⟩
abbrev main_v281 : Ref sig .tc := ⟨.hbm, 349, rfl⟩
abbrev main_v282 : Ref sig .tc := ⟨.hbm, 350, rfl⟩
abbrev main_v283 : Ref sig .tc := ⟨.hbm, 351, rfl⟩
abbrev main_v284 : Ref sig .tc := ⟨.hbm, 352, rfl⟩
abbrev main_v285 : Ref sig .tc := ⟨.hbm, 353, rfl⟩
abbrev main_v286 : Ref sig .tc := ⟨.hbm, 354, rfl⟩
abbrev main_v287 : Ref sig .tc := ⟨.hbm, 355, rfl⟩
abbrev main_v288 : Ref sig .tc := ⟨.hbm, 356, rfl⟩
abbrev main_v289 : Ref sig .tc := ⟨.hbm, 357, rfl⟩
abbrev main_v290 : Ref sig .tc := ⟨.hbm, 358, rfl⟩
abbrev main_v291 : Ref sig .tc := ⟨.hbm, 359, rfl⟩
abbrev main_v292 : Ref sig .tc := ⟨.hbm, 360, rfl⟩
abbrev main_v293 : Ref sig .tc := ⟨.hbm, 361, rfl⟩
abbrev main_cst_50 : Ref sig .tc := ⟨.hbm, 362, rfl⟩
abbrev main_v294 : Ref sig .tc := ⟨.hbm, 363, rfl⟩
abbrev main_cst_51 : Ref sig .tc := ⟨.hbm, 364, rfl⟩
abbrev main_v295 : Ref sig .tc := ⟨.hbm, 365, rfl⟩
abbrev main_v296 : Ref sig .tc := ⟨.hbm, 366, rfl⟩
abbrev main_cst_52 : Ref sig .tc := ⟨.hbm, 367, rfl⟩
abbrev main_v297 : Ref sig .tc := ⟨.hbm, 368, rfl⟩
abbrev main_v298 : Ref sig .tc := ⟨.hbm, 369, rfl⟩
abbrev main_v299 : Ref sig .tc := ⟨.hbm, 370, rfl⟩
abbrev main_v300 : Ref sig .tc := ⟨.hbm, 371, rfl⟩
abbrev main_v301 : Ref sig .tc := ⟨.hbm, 372, rfl⟩
abbrev main_v302 : Ref sig .tc := ⟨.hbm, 373, rfl⟩
abbrev main_v303 : Ref sig .tc := ⟨.hbm, 374, rfl⟩
abbrev main_v304 : Ref sig .tc := ⟨.hbm, 375, rfl⟩
abbrev main_cst_53 : Ref sig .tc := ⟨.hbm, 376, rfl⟩
abbrev main_v305 : Ref sig .tc := ⟨.hbm, 377, rfl⟩
abbrev main_v306 : Ref sig .tc := ⟨.hbm, 378, rfl⟩
abbrev main_cst_54 : Ref sig .tc := ⟨.hbm, 379, rfl⟩
abbrev main_v307 : Ref sig .tc := ⟨.hbm, 380, rfl⟩
abbrev main_v308 : Ref sig .tc := ⟨.hbm, 381, rfl⟩
abbrev main_v309 : Ref sig .tc := ⟨.hbm, 382, rfl⟩
abbrev main_v310 : Ref sig .tc := ⟨.hbm, 383, rfl⟩
abbrev main_v311 : Ref sig .tc := ⟨.hbm, 384, rfl⟩
abbrev main_v312 : Ref sig .tc := ⟨.hbm, 385, rfl⟩
abbrev main_v313 : Ref sig .tc := ⟨.hbm, 386, rfl⟩
abbrev main_v314 : Ref sig .tc := ⟨.hbm, 387, rfl⟩
abbrev main_v315 : Ref sig .tc := ⟨.hbm, 388, rfl⟩
abbrev main_v316 : Ref sig .tc := ⟨.hbm, 389, rfl⟩
abbrev main_v317 : Ref sig .tc := ⟨.hbm, 390, rfl⟩
abbrev main_cst_55 : Ref sig .tc := ⟨.hbm, 391, rfl⟩
abbrev main_v318 : Ref sig .tc := ⟨.hbm, 392, rfl⟩
abbrev main_v319 : Ref sig .tc := ⟨.hbm, 393, rfl⟩
abbrev main_cst_56 : Ref sig .tc := ⟨.hbm, 394, rfl⟩
abbrev main_v320 : Ref sig .tc := ⟨.hbm, 395, rfl⟩
abbrev main_v321 : Ref sig .tc := ⟨.hbm, 396, rfl⟩
abbrev main_v322 : Ref sig .tc := ⟨.hbm, 397, rfl⟩
abbrev main_v323 : Ref sig .tc := ⟨.hbm, 398, rfl⟩
abbrev main_v324 : Ref sig .tc := ⟨.hbm, 399, rfl⟩
abbrev main_v325 : Ref sig .tc := ⟨.hbm, 400, rfl⟩
abbrev main_v326 : Ref sig .tc := ⟨.hbm, 401, rfl⟩
abbrev main_cst_57 : Ref sig .tc := ⟨.hbm, 402, rfl⟩
abbrev main_v327 : Ref sig .tc := ⟨.hbm, 403, rfl⟩
abbrev main_cst_58 : Ref sig .tc := ⟨.hbm, 404, rfl⟩
abbrev main_v328 : Ref sig .tc := ⟨.hbm, 405, rfl⟩
abbrev main_v329 : Ref sig .tc := ⟨.hbm, 406, rfl⟩
abbrev main_cst_59 : Ref sig .tc := ⟨.hbm, 407, rfl⟩
abbrev main_v330 : Ref sig .tc := ⟨.hbm, 408, rfl⟩
abbrev main_v331 : Ref sig .tc := ⟨.hbm, 409, rfl⟩
abbrev main_v332 : Ref sig .tc := ⟨.hbm, 410, rfl⟩
abbrev main_v333 : Ref sig .tc := ⟨.hbm, 411, rfl⟩
abbrev main_v334 : Ref sig .tc := ⟨.hbm, 412, rfl⟩
abbrev main_v335 : Ref sig .tc := ⟨.hbm, 413, rfl⟩
abbrev main_cst_60 : Ref sig .tc := ⟨.hbm, 414, rfl⟩
abbrev main_v336 : Ref sig .tc := ⟨.hbm, 415, rfl⟩
abbrev main_v337 : Ref sig .tc := ⟨.hbm, 416, rfl⟩
abbrev main_cst_61 : Ref sig .tc := ⟨.hbm, 417, rfl⟩
abbrev main_v338 : Ref sig .tc := ⟨.hbm, 418, rfl⟩
abbrev main_v339 : Ref sig .tc := ⟨.hbm, 419, rfl⟩
abbrev main_v340 : Ref sig .tc := ⟨.hbm, 420, rfl⟩
abbrev main_v341 : Ref sig .tc := ⟨.hbm, 421, rfl⟩
abbrev main_v342 : Ref sig .tc := ⟨.hbm, 422, rfl⟩
abbrev main_v343 : Ref sig .tc := ⟨.hbm, 423, rfl⟩
abbrev main_v344 : Ref sig .tc := ⟨.hbm, 424, rfl⟩
abbrev main_v345 : Ref sig .tc := ⟨.hbm, 425, rfl⟩
abbrev main_v346 : Ref sig .tc := ⟨.hbm, 426, rfl⟩
abbrev main_v347 : Ref sig .tc := ⟨.hbm, 427, rfl⟩
abbrev main_v348 : Ref sig .tc := ⟨.hbm, 428, rfl⟩
abbrev main_v349 : Ref sig .tc := ⟨.hbm, 429, rfl⟩
abbrev main_v350 : Ref sig .tc := ⟨.hbm, 430, rfl⟩
abbrev main_v351 : Ref sig .tc := ⟨.hbm, 431, rfl⟩
abbrev main_v352 : Ref sig .tc := ⟨.hbm, 432, rfl⟩
abbrev main_cst_62 : Ref sig .tc := ⟨.hbm, 433, rfl⟩
abbrev main_v353 : Ref sig .tc := ⟨.hbm, 434, rfl⟩
abbrev main_v354 : Ref sig .tc := ⟨.hbm, 435, rfl⟩
abbrev main_cst_63 : Ref sig .tc := ⟨.hbm, 436, rfl⟩
abbrev main_v355 : Ref sig .tc := ⟨.hbm, 437, rfl⟩
abbrev main_v356 : Ref sig .tc := ⟨.hbm, 438, rfl⟩
abbrev main_v357 : Ref sig .tc := ⟨.hbm, 439, rfl⟩
abbrev main_v358 : Ref sig .tc := ⟨.hbm, 440, rfl⟩
abbrev main_v359 : Ref sig .tc := ⟨.hbm, 441, rfl⟩
abbrev main_v360 : Ref sig .tc := ⟨.hbm, 442, rfl⟩
abbrev main_v361 : Ref sig .tc := ⟨.hbm, 443, rfl⟩
abbrev main_v362 : Ref sig .tc := ⟨.hbm, 444, rfl⟩
abbrev main_v363 : Ref sig .tc := ⟨.hbm, 445, rfl⟩
abbrev main_v364 : Ref sig .tc := ⟨.hbm, 446, rfl⟩
abbrev main_v365 : Ref sig .tc := ⟨.hbm, 447, rfl⟩
abbrev main_v366 : Ref sig .tc := ⟨.hbm, 448, rfl⟩
abbrev main_v367 : Ref sig .tc := ⟨.hbm, 449, rfl⟩
abbrev main_v368 : Ref sig .tc := ⟨.hbm, 450, rfl⟩
abbrev main_v369 : Ref sig .tc := ⟨.hbm, 451, rfl⟩
abbrev main_v370 : Ref sig .tc := ⟨.hbm, 452, rfl⟩
abbrev main_v371 : Ref sig .tc := ⟨.hbm, 453, rfl⟩
abbrev main_v372 : Ref sig .tc := ⟨.hbm, 454, rfl⟩
abbrev main_cst_64 : Ref sig .tc := ⟨.hbm, 455, rfl⟩
abbrev main_v373 : Ref sig .tc := ⟨.hbm, 456, rfl⟩
abbrev main_cst_65 : Ref sig .tc := ⟨.hbm, 457, rfl⟩
abbrev main_v374 : Ref sig .tc := ⟨.hbm, 458, rfl⟩
abbrev main_v375 : Ref sig .tc := ⟨.hbm, 459, rfl⟩
abbrev main_cst_66 : Ref sig .tc := ⟨.hbm, 460, rfl⟩
abbrev main_v376 : Ref sig .tc := ⟨.hbm, 461, rfl⟩
abbrev main_v377 : Ref sig .tc := ⟨.hbm, 462, rfl⟩
abbrev main_v378 : Ref sig .tc := ⟨.hbm, 463, rfl⟩
abbrev main_v379 : Ref sig .tc := ⟨.hbm, 464, rfl⟩
abbrev main_v380 : Ref sig .tc := ⟨.hbm, 465, rfl⟩
abbrev main_v381 : Ref sig .tc := ⟨.hbm, 466, rfl⟩
abbrev main_v382 : Ref sig .tc := ⟨.hbm, 467, rfl⟩
abbrev main_v383 : Ref sig .tc := ⟨.hbm, 468, rfl⟩
abbrev main_cst_67 : Ref sig .tc := ⟨.hbm, 469, rfl⟩
abbrev main_v384 : Ref sig .tc := ⟨.hbm, 470, rfl⟩
abbrev main_v385 : Ref sig .tc := ⟨.hbm, 471, rfl⟩
abbrev main_cst_68 : Ref sig .tc := ⟨.hbm, 472, rfl⟩
abbrev main_v386 : Ref sig .tc := ⟨.hbm, 473, rfl⟩
abbrev main_v387 : Ref sig .tc := ⟨.hbm, 474, rfl⟩
abbrev main_v388 : Ref sig .tc := ⟨.hbm, 475, rfl⟩
abbrev main_v389 : Ref sig .tc := ⟨.hbm, 476, rfl⟩
abbrev main_v390 : Ref sig .tc := ⟨.hbm, 477, rfl⟩
abbrev main_v391 : Ref sig .tc := ⟨.hbm, 478, rfl⟩
abbrev main_v392 : Ref sig .tc := ⟨.hbm, 479, rfl⟩
abbrev main_v393 : Ref sig .tc := ⟨.hbm, 480, rfl⟩
abbrev main_v394 : Ref sig .tc := ⟨.hbm, 481, rfl⟩
abbrev main_v395 : Ref sig .tc := ⟨.hbm, 482, rfl⟩
abbrev main_v396 : Ref sig .tc := ⟨.hbm, 483, rfl⟩
abbrev main_cst_69 : Ref sig .tc := ⟨.hbm, 484, rfl⟩
abbrev main_v397 : Ref sig .tc := ⟨.hbm, 485, rfl⟩
abbrev main_v398 : Ref sig .tc := ⟨.hbm, 486, rfl⟩
abbrev main_cst_70 : Ref sig .tc := ⟨.hbm, 487, rfl⟩
abbrev main_v399 : Ref sig .tc := ⟨.hbm, 488, rfl⟩
abbrev main_v400 : Ref sig .tc := ⟨.hbm, 489, rfl⟩
abbrev main_v401 : Ref sig .tc := ⟨.hbm, 490, rfl⟩
abbrev main_v402 : Ref sig .tc := ⟨.hbm, 491, rfl⟩
abbrev main_v403 : Ref sig .tc := ⟨.hbm, 492, rfl⟩
abbrev main_v404 : Ref sig .tc := ⟨.hbm, 493, rfl⟩
abbrev main_v405 : Ref sig .tc := ⟨.hbm, 494, rfl⟩
abbrev main_cst_71 : Ref sig .tc := ⟨.hbm, 495, rfl⟩
abbrev main_v406 : Ref sig .tc := ⟨.hbm, 496, rfl⟩
abbrev main_cst_72 : Ref sig .tc := ⟨.hbm, 497, rfl⟩
abbrev main_v407 : Ref sig .tc := ⟨.hbm, 498, rfl⟩
abbrev main_v408 : Ref sig .tc := ⟨.hbm, 499, rfl⟩
abbrev main_cst_73 : Ref sig .tc := ⟨.hbm, 500, rfl⟩
abbrev main_v409 : Ref sig .tc := ⟨.hbm, 501, rfl⟩
abbrev main_v410 : Ref sig .tc := ⟨.hbm, 502, rfl⟩
abbrev main_v411 : Ref sig .tc := ⟨.hbm, 503, rfl⟩
abbrev main_v412 : Ref sig .tc := ⟨.hbm, 504, rfl⟩
abbrev main_v413 : Ref sig .tc := ⟨.hbm, 505, rfl⟩
abbrev main_v414 : Ref sig .tc := ⟨.hbm, 506, rfl⟩
abbrev main_cst_74 : Ref sig .tc := ⟨.hbm, 507, rfl⟩
abbrev main_v415 : Ref sig .tc := ⟨.hbm, 508, rfl⟩
abbrev main_v416 : Ref sig .tc := ⟨.hbm, 509, rfl⟩
abbrev main_cst_75 : Ref sig .tc := ⟨.hbm, 510, rfl⟩
abbrev main_v417 : Ref sig .tc := ⟨.hbm, 511, rfl⟩
abbrev main_v418 : Ref sig .tc := ⟨.hbm, 512, rfl⟩
abbrev main_v419 : Ref sig .tc := ⟨.hbm, 513, rfl⟩
abbrev main_v420 : Ref sig .tc := ⟨.hbm, 514, rfl⟩
abbrev main_v421 : Ref sig .tc := ⟨.hbm, 515, rfl⟩
abbrev main_v422 : Ref sig .tc := ⟨.hbm, 516, rfl⟩
abbrev main_v423 : Ref sig .tc := ⟨.hbm, 517, rfl⟩
abbrev main_v424 : Ref sig .tc := ⟨.hbm, 518, rfl⟩
abbrev main_v425 : Ref sig .tc := ⟨.hbm, 519, rfl⟩
abbrev main_v426 : Ref sig .tc := ⟨.hbm, 520, rfl⟩
abbrev main_v427 : Ref sig .tc := ⟨.hbm, 521, rfl⟩
abbrev main_v428 : Ref sig .tc := ⟨.hbm, 522, rfl⟩
abbrev main_v429 : Ref sig .tc := ⟨.hbm, 523, rfl⟩
abbrev main_v430 : Ref sig .tc := ⟨.hbm, 524, rfl⟩
abbrev main_v431 : Ref sig .tc := ⟨.hbm, 525, rfl⟩
abbrev main_cst_76 : Ref sig .tc := ⟨.hbm, 526, rfl⟩
abbrev main_v432 : Ref sig .tc := ⟨.hbm, 527, rfl⟩
abbrev main_v433 : Ref sig .tc := ⟨.hbm, 528, rfl⟩
abbrev main_cst_77 : Ref sig .tc := ⟨.hbm, 529, rfl⟩
abbrev main_v434 : Ref sig .tc := ⟨.hbm, 530, rfl⟩
abbrev main_v435 : Ref sig .tc := ⟨.hbm, 531, rfl⟩
abbrev main_v436 : Ref sig .tc := ⟨.hbm, 532, rfl⟩
abbrev main_v437 : Ref sig .tc := ⟨.hbm, 533, rfl⟩
abbrev main_v438 : Ref sig .tc := ⟨.hbm, 534, rfl⟩
abbrev main_v439 : Ref sig .tc := ⟨.hbm, 535, rfl⟩
abbrev main_v440 : Ref sig .tc := ⟨.hbm, 536, rfl⟩
abbrev main_v441 : Ref sig .tc := ⟨.hbm, 537, rfl⟩
abbrev main_v442 : Ref sig .tc := ⟨.hbm, 538, rfl⟩
abbrev main_v443 : Ref sig .tc := ⟨.hbm, 539, rfl⟩
abbrev main_v444 : Ref sig .tc := ⟨.hbm, 540, rfl⟩
abbrev main_v445 : Ref sig .tc := ⟨.hbm, 541, rfl⟩
abbrev main_v446 : Ref sig .tc := ⟨.hbm, 542, rfl⟩
abbrev main_v447 : Ref sig .tc := ⟨.hbm, 543, rfl⟩
abbrev main_v448 : Ref sig .tc := ⟨.hbm, 544, rfl⟩
abbrev main_v449 : Ref sig .tc := ⟨.hbm, 545, rfl⟩
abbrev main_v450 : Ref sig .tc := ⟨.hbm, 546, rfl⟩
abbrev main_v451 : Ref sig .tc := ⟨.hbm, 547, rfl⟩
abbrev main_cst_78 : Ref sig .tc := ⟨.hbm, 548, rfl⟩
abbrev main_v452 : Ref sig .tc := ⟨.hbm, 549, rfl⟩
abbrev main_cst_79 : Ref sig .tc := ⟨.hbm, 550, rfl⟩
abbrev main_v453 : Ref sig .tc := ⟨.hbm, 551, rfl⟩
abbrev main_v454 : Ref sig .tc := ⟨.hbm, 552, rfl⟩
abbrev main_cst_80 : Ref sig .tc := ⟨.hbm, 553, rfl⟩
abbrev main_v455 : Ref sig .tc := ⟨.hbm, 554, rfl⟩
abbrev main_v456 : Ref sig .tc := ⟨.hbm, 555, rfl⟩
abbrev main_v457 : Ref sig .tc := ⟨.hbm, 556, rfl⟩
abbrev main_v458 : Ref sig .tc := ⟨.hbm, 557, rfl⟩
abbrev main_v459 : Ref sig .tc := ⟨.hbm, 558, rfl⟩
abbrev main_v460 : Ref sig .tc := ⟨.hbm, 559, rfl⟩
abbrev main_v461 : Ref sig .tc := ⟨.hbm, 560, rfl⟩
abbrev main_v462 : Ref sig .tc := ⟨.hbm, 561, rfl⟩
abbrev main_cst_81 : Ref sig .tc := ⟨.hbm, 562, rfl⟩
abbrev main_v463 : Ref sig .tc := ⟨.hbm, 563, rfl⟩
abbrev main_v464 : Ref sig .tc := ⟨.hbm, 564, rfl⟩
abbrev main_cst_82 : Ref sig .tc := ⟨.hbm, 565, rfl⟩
abbrev main_v465 : Ref sig .tc := ⟨.hbm, 566, rfl⟩
abbrev main_v466 : Ref sig .tc := ⟨.hbm, 567, rfl⟩
abbrev main_v467 : Ref sig .tc := ⟨.hbm, 568, rfl⟩
abbrev main_v468 : Ref sig .tc := ⟨.hbm, 569, rfl⟩
abbrev main_v469 : Ref sig .tc := ⟨.hbm, 570, rfl⟩
abbrev main_v470 : Ref sig .tc := ⟨.hbm, 571, rfl⟩
abbrev main_v471 : Ref sig .tc := ⟨.hbm, 572, rfl⟩
abbrev main_v472 : Ref sig .tc := ⟨.hbm, 573, rfl⟩
abbrev main_v473 : Ref sig .tc := ⟨.hbm, 574, rfl⟩
abbrev main_v474 : Ref sig .tc := ⟨.hbm, 575, rfl⟩
abbrev main_v475 : Ref sig .tc := ⟨.hbm, 576, rfl⟩
abbrev main_cst_83 : Ref sig .tc := ⟨.hbm, 577, rfl⟩
abbrev main_v476 : Ref sig .tc := ⟨.hbm, 578, rfl⟩
abbrev main_v477 : Ref sig .tc := ⟨.hbm, 579, rfl⟩
abbrev main_cst_84 : Ref sig .tc := ⟨.hbm, 580, rfl⟩
abbrev main_v478 : Ref sig .tc := ⟨.hbm, 581, rfl⟩
abbrev main_v479 : Ref sig .tc := ⟨.hbm, 582, rfl⟩
abbrev main_v480 : Ref sig .tc := ⟨.hbm, 583, rfl⟩
abbrev main_v481 : Ref sig .tc := ⟨.hbm, 584, rfl⟩
abbrev main_v482 : Ref sig .tc := ⟨.hbm, 585, rfl⟩
abbrev main_v483 : Ref sig .tc := ⟨.hbm, 586, rfl⟩
abbrev main_v484 : Ref sig .tc := ⟨.hbm, 587, rfl⟩
abbrev main_cst_85 : Ref sig .tc := ⟨.hbm, 588, rfl⟩
abbrev main_v485 : Ref sig .tc := ⟨.hbm, 589, rfl⟩
abbrev main_cst_86 : Ref sig .tc := ⟨.hbm, 590, rfl⟩
abbrev main_v486 : Ref sig .tc := ⟨.hbm, 591, rfl⟩
abbrev main_v487 : Ref sig .tc := ⟨.hbm, 592, rfl⟩
abbrev main_cst_87 : Ref sig .tc := ⟨.hbm, 593, rfl⟩
abbrev main_v488 : Ref sig .tc := ⟨.hbm, 594, rfl⟩
abbrev main_v489 : Ref sig .tc := ⟨.hbm, 595, rfl⟩
abbrev main_v490 : Ref sig .tc := ⟨.hbm, 596, rfl⟩
abbrev main_v491 : Ref sig .tc := ⟨.hbm, 597, rfl⟩
abbrev main_v492 : Ref sig .tc := ⟨.hbm, 598, rfl⟩
abbrev main_v493 : Ref sig .tc := ⟨.hbm, 599, rfl⟩
abbrev main_cst_88 : Ref sig .tc := ⟨.hbm, 600, rfl⟩
abbrev main_v494 : Ref sig .tc := ⟨.hbm, 601, rfl⟩
abbrev main_v495 : Ref sig .tc := ⟨.hbm, 602, rfl⟩
abbrev main_cst_89 : Ref sig .tc := ⟨.hbm, 603, rfl⟩
abbrev main_v496 : Ref sig .tc := ⟨.hbm, 604, rfl⟩
abbrev main_v497 : Ref sig .tc := ⟨.hbm, 605, rfl⟩
abbrev main_v498 : Ref sig .tc := ⟨.hbm, 606, rfl⟩
abbrev main_v499 : Ref sig .tc := ⟨.hbm, 607, rfl⟩
abbrev main_v500 : Ref sig .tc := ⟨.hbm, 608, rfl⟩
abbrev main_v501 : Ref sig .tc := ⟨.hbm, 609, rfl⟩
abbrev main_v502 : Ref sig .tc := ⟨.hbm, 610, rfl⟩
abbrev main_v503 : Ref sig .tc := ⟨.hbm, 611, rfl⟩
abbrev main_v504 : Ref sig .tc := ⟨.hbm, 612, rfl⟩
abbrev main_v505 : Ref sig .tc := ⟨.hbm, 613, rfl⟩
abbrev main_v506 : Ref sig .tc := ⟨.hbm, 614, rfl⟩
abbrev main_v507 : Ref sig .tc := ⟨.hbm, 615, rfl⟩
abbrev main_v508 : Ref sig .tc := ⟨.hbm, 616, rfl⟩
abbrev main_v509 : Ref sig .tc := ⟨.hbm, 617, rfl⟩
abbrev main_v510 : Ref sig .tc := ⟨.hbm, 618, rfl⟩
abbrev main_cst_90 : Ref sig .tc := ⟨.hbm, 619, rfl⟩
abbrev main_v511 : Ref sig .tc := ⟨.hbm, 620, rfl⟩
abbrev main_v512 : Ref sig .tc := ⟨.hbm, 621, rfl⟩
abbrev main_cst_91 : Ref sig .tc := ⟨.hbm, 622, rfl⟩
abbrev main_v513 : Ref sig .tc := ⟨.hbm, 623, rfl⟩
abbrev main_v514 : Ref sig .tc := ⟨.hbm, 624, rfl⟩
abbrev main_v515 : Ref sig .tc := ⟨.hbm, 625, rfl⟩
abbrev main_v516 : Ref sig .tc := ⟨.hbm, 626, rfl⟩
abbrev main_v517 : Ref sig .tc := ⟨.hbm, 627, rfl⟩
abbrev main_v518 : Ref sig .tc := ⟨.hbm, 628, rfl⟩
abbrev main_v519 : Ref sig .tc := ⟨.hbm, 629, rfl⟩
abbrev main_v520 : Ref sig .tc := ⟨.hbm, 630, rfl⟩
abbrev main_v521 : Ref sig .tc := ⟨.hbm, 631, rfl⟩
abbrev main_v522 : Ref sig .tc := ⟨.hbm, 632, rfl⟩
abbrev main_v523 : Ref sig .tc := ⟨.hbm, 633, rfl⟩
abbrev main_v524 : Ref sig .tc := ⟨.hbm, 634, rfl⟩
abbrev main_v525 : Ref sig .tc := ⟨.hbm, 635, rfl⟩
abbrev main_v526 : Ref sig .tc := ⟨.hbm, 636, rfl⟩
abbrev main_v527 : Ref sig .tc := ⟨.hbm, 637, rfl⟩
abbrev main_v528 : Ref sig .tc := ⟨.hbm, 638, rfl⟩
abbrev main_v529 : Ref sig .tc := ⟨.hbm, 639, rfl⟩
abbrev main_v530 : Ref sig .tc := ⟨.hbm, 640, rfl⟩
abbrev main_cst_92 : Ref sig .tc := ⟨.hbm, 641, rfl⟩
abbrev main_v531 : Ref sig .tc := ⟨.hbm, 642, rfl⟩
abbrev main_cst_93 : Ref sig .tc := ⟨.hbm, 643, rfl⟩
abbrev main_v532 : Ref sig .tc := ⟨.hbm, 644, rfl⟩
abbrev main_v533 : Ref sig .tc := ⟨.hbm, 645, rfl⟩
abbrev main_cst_94 : Ref sig .tc := ⟨.hbm, 646, rfl⟩
abbrev main_v534 : Ref sig .tc := ⟨.hbm, 647, rfl⟩
abbrev main_v535 : Ref sig .tc := ⟨.hbm, 648, rfl⟩
abbrev main_v536 : Ref sig .tc := ⟨.hbm, 649, rfl⟩
abbrev main_v537 : Ref sig .tc := ⟨.hbm, 650, rfl⟩
abbrev main_v538 : Ref sig .tc := ⟨.hbm, 651, rfl⟩
abbrev main_v539 : Ref sig .tc := ⟨.hbm, 652, rfl⟩
abbrev main_v540 : Ref sig .tc := ⟨.hbm, 653, rfl⟩
abbrev main_v541 : Ref sig .tc := ⟨.hbm, 654, rfl⟩
abbrev main_cst_95 : Ref sig .tc := ⟨.hbm, 655, rfl⟩
abbrev main_v542 : Ref sig .tc := ⟨.hbm, 656, rfl⟩
abbrev main_v543 : Ref sig .tc := ⟨.hbm, 657, rfl⟩
abbrev main_cst_96 : Ref sig .tc := ⟨.hbm, 658, rfl⟩
abbrev main_v544 : Ref sig .tc := ⟨.hbm, 659, rfl⟩
abbrev main_v545 : Ref sig .tc := ⟨.hbm, 660, rfl⟩
abbrev main_v546 : Ref sig .tc := ⟨.hbm, 661, rfl⟩
abbrev main_v547 : Ref sig .tc := ⟨.hbm, 662, rfl⟩
abbrev main_v548 : Ref sig .tc := ⟨.hbm, 663, rfl⟩
abbrev main_v549 : Ref sig .tc := ⟨.hbm, 664, rfl⟩
abbrev main_v550 : Ref sig .tc := ⟨.hbm, 665, rfl⟩
abbrev main_v551 : Ref sig .tc := ⟨.hbm, 666, rfl⟩
abbrev main_v552 : Ref sig .tc := ⟨.hbm, 667, rfl⟩
abbrev main_v553 : Ref sig .tc := ⟨.hbm, 668, rfl⟩
abbrev main_v554 : Ref sig .tc := ⟨.hbm, 669, rfl⟩
abbrev main_cst_97 : Ref sig .tc := ⟨.hbm, 670, rfl⟩
abbrev main_v555 : Ref sig .tc := ⟨.hbm, 671, rfl⟩
abbrev main_v556 : Ref sig .tc := ⟨.hbm, 672, rfl⟩
abbrev main_cst_98 : Ref sig .tc := ⟨.hbm, 673, rfl⟩
abbrev main_v557 : Ref sig .tc := ⟨.hbm, 674, rfl⟩
abbrev main_v558 : Ref sig .tc := ⟨.hbm, 675, rfl⟩
abbrev main_v559 : Ref sig .tc := ⟨.hbm, 676, rfl⟩
abbrev main_v560 : Ref sig .tc := ⟨.hbm, 677, rfl⟩
abbrev main_v561 : Ref sig .tc := ⟨.hbm, 678, rfl⟩
abbrev main_v562 : Ref sig .tc := ⟨.hbm, 679, rfl⟩
abbrev main_v563 : Ref sig .tc := ⟨.hbm, 680, rfl⟩
abbrev main_cst_99 : Ref sig .tc := ⟨.hbm, 681, rfl⟩
abbrev main_v564 : Ref sig .tc := ⟨.hbm, 682, rfl⟩
abbrev main_cst_100 : Ref sig .tc := ⟨.hbm, 683, rfl⟩
abbrev main_v565 : Ref sig .tc := ⟨.hbm, 684, rfl⟩
abbrev main_v566 : Ref sig .tc := ⟨.hbm, 685, rfl⟩
abbrev main_cst_101 : Ref sig .tc := ⟨.hbm, 686, rfl⟩
abbrev main_v567 : Ref sig .tc := ⟨.hbm, 687, rfl⟩
abbrev main_v568 : Ref sig .tc := ⟨.hbm, 688, rfl⟩
abbrev main_v569 : Ref sig .tc := ⟨.hbm, 689, rfl⟩
abbrev main_v570 : Ref sig .tc := ⟨.hbm, 690, rfl⟩
abbrev main_v571 : Ref sig .tc := ⟨.hbm, 691, rfl⟩
abbrev main_v572 : Ref sig .tc := ⟨.hbm, 692, rfl⟩
abbrev main_cst_102 : Ref sig .tc := ⟨.hbm, 693, rfl⟩
abbrev main_v573 : Ref sig .tc := ⟨.hbm, 694, rfl⟩
abbrev main_v574 : Ref sig .tc := ⟨.hbm, 695, rfl⟩
abbrev main_cst_103 : Ref sig .tc := ⟨.hbm, 696, rfl⟩
abbrev main_v575 : Ref sig .tc := ⟨.hbm, 697, rfl⟩
abbrev main_v576 : Ref sig .tc := ⟨.hbm, 698, rfl⟩
abbrev main_v577 : Ref sig .tc := ⟨.hbm, 699, rfl⟩
abbrev main_v578 : Ref sig .tc := ⟨.hbm, 700, rfl⟩
abbrev main_v579 : Ref sig .tc := ⟨.hbm, 701, rfl⟩
abbrev main_v580 : Ref sig .tc := ⟨.hbm, 702, rfl⟩
abbrev main_v581 : Ref sig .tc := ⟨.hbm, 703, rfl⟩
abbrev main_v582 : Ref sig .tc := ⟨.hbm, 704, rfl⟩
abbrev main_v583 : Ref sig .tc := ⟨.hbm, 705, rfl⟩
abbrev main_v584 : Ref sig .tc := ⟨.hbm, 706, rfl⟩
abbrev main_v585 : Ref sig .tc := ⟨.hbm, 707, rfl⟩
abbrev main_v586 : Ref sig .tc := ⟨.hbm, 708, rfl⟩
abbrev main_v587 : Ref sig .tc := ⟨.hbm, 709, rfl⟩
abbrev main_v588 : Ref sig .tc := ⟨.hbm, 710, rfl⟩
abbrev main_v589 : Ref sig .tc := ⟨.hbm, 711, rfl⟩
abbrev main_cst_104 : Ref sig .tc := ⟨.hbm, 712, rfl⟩
abbrev main_v590 : Ref sig .tc := ⟨.hbm, 713, rfl⟩
abbrev main_v591 : Ref sig .tc := ⟨.hbm, 714, rfl⟩
abbrev main_cst_105 : Ref sig .tc := ⟨.hbm, 715, rfl⟩
abbrev main_v592 : Ref sig .tc := ⟨.hbm, 716, rfl⟩
abbrev main_v593 : Ref sig .tc := ⟨.hbm, 717, rfl⟩
abbrev main_v594 : Ref sig .tc := ⟨.hbm, 718, rfl⟩
abbrev main_v595 : Ref sig .tc := ⟨.hbm, 719, rfl⟩
abbrev main_v596 : Ref sig .tc := ⟨.hbm, 720, rfl⟩
abbrev main_v597 : Ref sig .tc := ⟨.hbm, 721, rfl⟩
abbrev main_v598 : Ref sig .tc := ⟨.hbm, 722, rfl⟩
abbrev main_v599 : Ref sig .tc := ⟨.hbm, 723, rfl⟩
abbrev main_v600 : Ref sig .tc := ⟨.hbm, 724, rfl⟩
abbrev main_v601 : Ref sig .tc := ⟨.hbm, 725, rfl⟩
abbrev main_v602 : Ref sig .tc := ⟨.hbm, 726, rfl⟩
abbrev main_v603 : Ref sig .tc := ⟨.hbm, 727, rfl⟩
abbrev main_v604 : Ref sig .tc := ⟨.hbm, 728, rfl⟩
abbrev main_v605 : Ref sig .tc := ⟨.hbm, 729, rfl⟩
abbrev main_v606 : Ref sig .tc := ⟨.hbm, 730, rfl⟩
abbrev main_v607 : Ref sig .tc := ⟨.hbm, 731, rfl⟩
abbrev main_v608 : Ref sig .tc := ⟨.hbm, 732, rfl⟩
abbrev main_v609 : Ref sig .tc := ⟨.hbm, 733, rfl⟩
abbrev main_cst_106 : Ref sig .tc := ⟨.hbm, 734, rfl⟩
abbrev main_v610 : Ref sig .tc := ⟨.hbm, 735, rfl⟩
abbrev main_cst_107 : Ref sig .tc := ⟨.hbm, 736, rfl⟩
abbrev main_v611 : Ref sig .tc := ⟨.hbm, 737, rfl⟩
abbrev main_v612 : Ref sig .tc := ⟨.hbm, 738, rfl⟩
abbrev main_cst_108 : Ref sig .tc := ⟨.hbm, 739, rfl⟩
abbrev main_v613 : Ref sig .tc := ⟨.hbm, 740, rfl⟩
abbrev main_v614 : Ref sig .tc := ⟨.hbm, 741, rfl⟩
abbrev main_v615 : Ref sig .tc := ⟨.hbm, 742, rfl⟩
abbrev main_v616 : Ref sig .tc := ⟨.hbm, 743, rfl⟩
abbrev main_v617 : Ref sig .tc := ⟨.hbm, 744, rfl⟩
abbrev main_v618 : Ref sig .tc := ⟨.hbm, 745, rfl⟩
abbrev main_v619 : Ref sig .tc := ⟨.hbm, 746, rfl⟩
abbrev main_v620 : Ref sig .tc := ⟨.hbm, 747, rfl⟩
abbrev main_cst_109 : Ref sig .tc := ⟨.hbm, 748, rfl⟩
abbrev main_v621 : Ref sig .tc := ⟨.hbm, 749, rfl⟩
abbrev main_v622 : Ref sig .tc := ⟨.hbm, 750, rfl⟩
abbrev main_cst_110 : Ref sig .tc := ⟨.hbm, 751, rfl⟩
abbrev main_v623 : Ref sig .tc := ⟨.hbm, 752, rfl⟩
abbrev main_v624 : Ref sig .tc := ⟨.hbm, 753, rfl⟩
abbrev main_v625 : Ref sig .tc := ⟨.hbm, 754, rfl⟩
abbrev main_v626 : Ref sig .tc := ⟨.hbm, 755, rfl⟩
abbrev main_v627 : Ref sig .tc := ⟨.hbm, 756, rfl⟩
abbrev main_v628 : Ref sig .tc := ⟨.hbm, 757, rfl⟩
abbrev main_v629 : Ref sig .tc := ⟨.hbm, 758, rfl⟩
abbrev main_v630 : Ref sig .tc := ⟨.hbm, 759, rfl⟩
abbrev main_v631 : Ref sig .tc := ⟨.hbm, 760, rfl⟩
abbrev main_v632 : Ref sig .tc := ⟨.hbm, 761, rfl⟩
abbrev main_v633 : Ref sig .tc := ⟨.hbm, 762, rfl⟩
abbrev main_cst_111 : Ref sig .tc := ⟨.hbm, 763, rfl⟩
abbrev main_v634 : Ref sig .tc := ⟨.hbm, 764, rfl⟩
abbrev main_v635 : Ref sig .tc := ⟨.hbm, 765, rfl⟩
abbrev main_cst_112 : Ref sig .tc := ⟨.hbm, 766, rfl⟩
abbrev main_v636 : Ref sig .tc := ⟨.hbm, 767, rfl⟩
abbrev main_v637 : Ref sig .tc := ⟨.hbm, 768, rfl⟩
abbrev main_v638 : Ref sig .tc := ⟨.hbm, 769, rfl⟩
abbrev main_v639 : Ref sig .tc := ⟨.hbm, 770, rfl⟩
abbrev main_v640 : Ref sig .tc := ⟨.hbm, 771, rfl⟩
abbrev main_v641 : Ref sig .tc := ⟨.hbm, 772, rfl⟩
abbrev main_v642 : Ref sig .tc := ⟨.hbm, 773, rfl⟩
abbrev main_cst_113 : Ref sig .tc := ⟨.hbm, 774, rfl⟩
abbrev main_v643 : Ref sig .tc := ⟨.hbm, 775, rfl⟩
abbrev main_cst_114 : Ref sig .tc := ⟨.hbm, 776, rfl⟩
abbrev main_v644 : Ref sig .tc := ⟨.hbm, 777, rfl⟩
abbrev main_v645 : Ref sig .tc := ⟨.hbm, 778, rfl⟩
abbrev main_cst_115 : Ref sig .tc := ⟨.hbm, 779, rfl⟩
abbrev main_v646 : Ref sig .tc := ⟨.hbm, 780, rfl⟩
abbrev main_v647 : Ref sig .tc := ⟨.hbm, 781, rfl⟩
abbrev main_v648 : Ref sig .tc := ⟨.hbm, 782, rfl⟩
abbrev main_v649 : Ref sig .tc := ⟨.hbm, 783, rfl⟩
abbrev main_v650 : Ref sig .tc := ⟨.hbm, 784, rfl⟩
abbrev main_v651 : Ref sig .tc := ⟨.hbm, 785, rfl⟩
abbrev main_cst_116 : Ref sig .tc := ⟨.hbm, 786, rfl⟩
abbrev main_v652 : Ref sig .tc := ⟨.hbm, 787, rfl⟩
abbrev main_v653 : Ref sig .tc := ⟨.hbm, 788, rfl⟩
abbrev main_cst_117 : Ref sig .tc := ⟨.hbm, 789, rfl⟩
abbrev main_v654 : Ref sig .tc := ⟨.hbm, 790, rfl⟩
abbrev main_v655 : Ref sig .tc := ⟨.hbm, 791, rfl⟩
abbrev main_v656 : Ref sig .tc := ⟨.hbm, 792, rfl⟩
abbrev main_v657 : Ref sig .tc := ⟨.hbm, 793, rfl⟩
abbrev main_v658 : Ref sig .tc := ⟨.hbm, 794, rfl⟩
abbrev main_v659 : Ref sig .tc := ⟨.hbm, 795, rfl⟩
abbrev main_v660 : Ref sig .tc := ⟨.hbm, 796, rfl⟩
abbrev main_v661 : Ref sig .tc := ⟨.hbm, 797, rfl⟩
abbrev main_v662 : Ref sig .tc := ⟨.hbm, 798, rfl⟩
abbrev main_v663 : Ref sig .tc := ⟨.hbm, 799, rfl⟩
abbrev main_v664 : Ref sig .tc := ⟨.hbm, 800, rfl⟩
abbrev main_v665 : Ref sig .tc := ⟨.hbm, 801, rfl⟩
abbrev main_v666 : Ref sig .tc := ⟨.hbm, 802, rfl⟩
abbrev main_v667 : Ref sig .tc := ⟨.hbm, 803, rfl⟩
abbrev main_v668 : Ref sig .tc := ⟨.hbm, 804, rfl⟩
abbrev main_cst_118 : Ref sig .tc := ⟨.hbm, 805, rfl⟩
abbrev main_v669 : Ref sig .tc := ⟨.hbm, 806, rfl⟩
abbrev main_v670 : Ref sig .tc := ⟨.hbm, 807, rfl⟩
abbrev main_cst_119 : Ref sig .tc := ⟨.hbm, 808, rfl⟩
abbrev main_v671 : Ref sig .tc := ⟨.hbm, 809, rfl⟩
abbrev main_v672 : Ref sig .tc := ⟨.hbm, 810, rfl⟩
abbrev main_v673 : Ref sig .tc := ⟨.hbm, 811, rfl⟩
abbrev main_v674 : Ref sig .tc := ⟨.hbm, 812, rfl⟩
abbrev main_v675 : Ref sig .tc := ⟨.hbm, 813, rfl⟩
abbrev main_v676 : Ref sig .tc := ⟨.hbm, 814, rfl⟩
abbrev main_v677 : Ref sig .tc := ⟨.hbm, 815, rfl⟩
abbrev main_v678 : Ref sig .tc := ⟨.hbm, 816, rfl⟩
abbrev main_v679 : Ref sig .tc := ⟨.hbm, 817, rfl⟩
abbrev main_v680 : Ref sig .tc := ⟨.hbm, 818, rfl⟩
abbrev main_v681 : Ref sig .tc := ⟨.hbm, 819, rfl⟩
abbrev main_v682 : Ref sig .tc := ⟨.hbm, 820, rfl⟩
abbrev main_v683 : Ref sig .tc := ⟨.hbm, 821, rfl⟩
abbrev main_v684 : Ref sig .tc := ⟨.hbm, 822, rfl⟩
abbrev main_v685 : Ref sig .tc := ⟨.hbm, 823, rfl⟩
abbrev main_v686 : Ref sig .tc := ⟨.hbm, 824, rfl⟩
abbrev main_v687 : Ref sig .tc := ⟨.hbm, 825, rfl⟩
abbrev main_v688 : Ref sig .tc := ⟨.hbm, 826, rfl⟩
abbrev main_cst_120 : Ref sig .tc := ⟨.hbm, 827, rfl⟩
abbrev main_v689 : Ref sig .tc := ⟨.hbm, 828, rfl⟩
abbrev main_cst_121 : Ref sig .tc := ⟨.hbm, 829, rfl⟩
abbrev main_v690 : Ref sig .tc := ⟨.hbm, 830, rfl⟩
abbrev main_v691 : Ref sig .tc := ⟨.hbm, 831, rfl⟩
abbrev main_cst_122 : Ref sig .tc := ⟨.hbm, 832, rfl⟩
abbrev main_v692 : Ref sig .tc := ⟨.hbm, 833, rfl⟩
abbrev main_v693 : Ref sig .tc := ⟨.hbm, 834, rfl⟩
abbrev main_v694 : Ref sig .tc := ⟨.hbm, 835, rfl⟩
abbrev main_v695 : Ref sig .tc := ⟨.hbm, 836, rfl⟩
abbrev main_v696 : Ref sig .tc := ⟨.hbm, 837, rfl⟩
abbrev main_v697 : Ref sig .tc := ⟨.hbm, 838, rfl⟩
abbrev main_v698 : Ref sig .tc := ⟨.hbm, 839, rfl⟩
abbrev main_v699 : Ref sig .tc := ⟨.hbm, 840, rfl⟩
abbrev main_cst_123 : Ref sig .tc := ⟨.hbm, 841, rfl⟩
abbrev main_v700 : Ref sig .tc := ⟨.hbm, 842, rfl⟩
abbrev main_v701 : Ref sig .tc := ⟨.hbm, 843, rfl⟩
abbrev main_cst_124 : Ref sig .tc := ⟨.hbm, 844, rfl⟩
abbrev main_v702 : Ref sig .tc := ⟨.hbm, 845, rfl⟩
abbrev main_v703 : Ref sig .tc := ⟨.hbm, 846, rfl⟩
abbrev main_v704 : Ref sig .tc := ⟨.hbm, 847, rfl⟩
abbrev main_v705 : Ref sig .tc := ⟨.hbm, 848, rfl⟩
abbrev main_v706 : Ref sig .tc := ⟨.hbm, 849, rfl⟩
abbrev main_v707 : Ref sig .tc := ⟨.hbm, 850, rfl⟩
abbrev main_v708 : Ref sig .tc := ⟨.hbm, 851, rfl⟩
abbrev main_v709 : Ref sig .tc := ⟨.hbm, 852, rfl⟩
abbrev main_v710 : Ref sig .tc := ⟨.hbm, 853, rfl⟩
abbrev main_v711 : Ref sig .tc := ⟨.hbm, 854, rfl⟩
abbrev main_v712 : Ref sig .tc := ⟨.hbm, 855, rfl⟩
abbrev main_cst_125 : Ref sig .tc := ⟨.hbm, 856, rfl⟩
abbrev main_v713 : Ref sig .tc := ⟨.hbm, 857, rfl⟩
abbrev main_v714 : Ref sig .tc := ⟨.hbm, 858, rfl⟩
abbrev main_cst_126 : Ref sig .tc := ⟨.hbm, 859, rfl⟩
abbrev main_v715 : Ref sig .tc := ⟨.hbm, 860, rfl⟩
abbrev main_v716 : Ref sig .tc := ⟨.hbm, 861, rfl⟩
abbrev main_v717 : Ref sig .tc := ⟨.hbm, 862, rfl⟩
abbrev main_v718 : Ref sig .tc := ⟨.hbm, 863, rfl⟩
abbrev main_v719 : Ref sig .tc := ⟨.hbm, 864, rfl⟩
abbrev main_v720 : Ref sig .tc := ⟨.hbm, 865, rfl⟩
abbrev main_v721 : Ref sig .tc := ⟨.hbm, 866, rfl⟩
abbrev main_cst_127 : Ref sig .tc := ⟨.hbm, 867, rfl⟩
abbrev main_v722 : Ref sig .tc := ⟨.hbm, 868, rfl⟩
abbrev main_cst_128 : Ref sig .tc := ⟨.hbm, 869, rfl⟩
abbrev main_v723 : Ref sig .tc := ⟨.hbm, 870, rfl⟩
abbrev main_v724 : Ref sig .tc := ⟨.hbm, 871, rfl⟩
abbrev main_cst_129 : Ref sig .tc := ⟨.hbm, 872, rfl⟩
abbrev main_v725 : Ref sig .tc := ⟨.hbm, 873, rfl⟩
abbrev main_v726 : Ref sig .tc := ⟨.hbm, 874, rfl⟩
abbrev main_v727 : Ref sig .tc := ⟨.hbm, 875, rfl⟩
abbrev main_v728 : Ref sig .tc := ⟨.hbm, 876, rfl⟩
abbrev main_v729 : Ref sig .tc := ⟨.hbm, 877, rfl⟩
abbrev main_v730 : Ref sig .tc := ⟨.hbm, 878, rfl⟩
abbrev main_cst_130 : Ref sig .tc := ⟨.hbm, 879, rfl⟩
abbrev main_v731 : Ref sig .tc := ⟨.hbm, 880, rfl⟩
abbrev main_v732 : Ref sig .tc := ⟨.hbm, 881, rfl⟩
abbrev main_cst_131 : Ref sig .tc := ⟨.hbm, 882, rfl⟩
abbrev main_v733 : Ref sig .tc := ⟨.hbm, 883, rfl⟩
abbrev main_v734 : Ref sig .tc := ⟨.hbm, 884, rfl⟩
abbrev main_v735 : Ref sig .tc := ⟨.hbm, 885, rfl⟩
abbrev main_v736 : Ref sig .tc := ⟨.hbm, 886, rfl⟩
abbrev main_v737 : Ref sig .tc := ⟨.hbm, 887, rfl⟩
abbrev main_v738 : Ref sig .tc := ⟨.hbm, 888, rfl⟩
abbrev main_v739 : Ref sig .tc := ⟨.hbm, 889, rfl⟩
abbrev main_v740 : Ref sig .tc := ⟨.hbm, 890, rfl⟩
abbrev main_v741 : Ref sig .tc := ⟨.hbm, 891, rfl⟩
abbrev main_v742 : Ref sig .tc := ⟨.hbm, 892, rfl⟩
abbrev main_v743 : Ref sig .tc := ⟨.hbm, 893, rfl⟩
abbrev main_v744 : Ref sig .tc := ⟨.hbm, 894, rfl⟩
abbrev main_v745 : Ref sig .tc := ⟨.hbm, 895, rfl⟩
abbrev main_v746 : Ref sig .tc := ⟨.hbm, 896, rfl⟩
abbrev main_v747 : Ref sig .tc := ⟨.hbm, 897, rfl⟩
abbrev main_v748 : Ref sig .tc := ⟨.hbm, 898, rfl⟩
abbrev main_cst_132 : Ref sig .tc := ⟨.hbm, 899, rfl⟩
abbrev main_v749 : Ref sig .tc := ⟨.hbm, 900, rfl⟩
abbrev main_cst_133 : Ref sig .tc := ⟨.hbm, 901, rfl⟩
abbrev main_v750 : Ref sig .tc := ⟨.hbm, 902, rfl⟩
abbrev main_v751 : Ref sig .tc := ⟨.hbm, 903, rfl⟩
abbrev main_cst_134 : Ref sig .tc := ⟨.hbm, 904, rfl⟩
abbrev main_v752 : Ref sig .tc := ⟨.hbm, 905, rfl⟩
abbrev main_v753 : Ref sig .tc := ⟨.hbm, 906, rfl⟩
abbrev main_v754 : Ref sig .tc := ⟨.hbm, 907, rfl⟩
abbrev main_v755 : Ref sig .tc := ⟨.hbm, 908, rfl⟩
abbrev main_v756 : Ref sig .tc := ⟨.hbm, 909, rfl⟩
abbrev main_v757 : Ref sig .tc := ⟨.hbm, 910, rfl⟩
abbrev main_v758 : Ref sig .tc := ⟨.hbm, 911, rfl⟩
abbrev main_v759 : Ref sig .tc := ⟨.hbm, 912, rfl⟩
abbrev main_cst_135 : Ref sig .tc := ⟨.hbm, 913, rfl⟩
abbrev main_v760 : Ref sig .tc := ⟨.hbm, 914, rfl⟩
abbrev main_v761 : Ref sig .tc := ⟨.hbm, 915, rfl⟩
abbrev main_cst_136 : Ref sig .tc := ⟨.hbm, 916, rfl⟩
abbrev main_v762 : Ref sig .tc := ⟨.hbm, 917, rfl⟩
abbrev main_v763 : Ref sig .tc := ⟨.hbm, 918, rfl⟩
abbrev main_v764 : Ref sig .tc := ⟨.hbm, 919, rfl⟩
abbrev main_v765 : Ref sig .tc := ⟨.hbm, 920, rfl⟩
abbrev main_v766 : Ref sig .tc := ⟨.hbm, 921, rfl⟩
abbrev main_v767 : Ref sig .tc := ⟨.hbm, 922, rfl⟩
abbrev main_v768 : Ref sig .tc := ⟨.hbm, 923, rfl⟩
abbrev main_v769 : Ref sig .tc := ⟨.hbm, 924, rfl⟩
abbrev main_v770 : Ref sig .tc := ⟨.hbm, 925, rfl⟩
abbrev main_v771 : Ref sig .tc := ⟨.hbm, 926, rfl⟩
abbrev main_v772 : Ref sig .tc := ⟨.hbm, 927, rfl⟩
abbrev main_cst_137 : Ref sig .tc := ⟨.hbm, 928, rfl⟩
abbrev main_v773 : Ref sig .tc := ⟨.hbm, 929, rfl⟩
abbrev main_v774 : Ref sig .tc := ⟨.hbm, 930, rfl⟩
abbrev main_cst_138 : Ref sig .tc := ⟨.hbm, 931, rfl⟩
abbrev main_v775 : Ref sig .tc := ⟨.hbm, 932, rfl⟩
abbrev main_v776 : Ref sig .tc := ⟨.hbm, 933, rfl⟩
abbrev main_v777 : Ref sig .tc := ⟨.hbm, 934, rfl⟩
abbrev main_v778 : Ref sig .tc := ⟨.hbm, 935, rfl⟩
abbrev main_v779 : Ref sig .tc := ⟨.hbm, 936, rfl⟩
abbrev main_v780 : Ref sig .tc := ⟨.hbm, 937, rfl⟩
abbrev main_v781 : Ref sig .tc := ⟨.hbm, 938, rfl⟩
abbrev main_cst_139 : Ref sig .tc := ⟨.hbm, 939, rfl⟩
abbrev main_v782 : Ref sig .tc := ⟨.hbm, 940, rfl⟩
abbrev main_cst_140 : Ref sig .tc := ⟨.hbm, 941, rfl⟩
abbrev main_v783 : Ref sig .tc := ⟨.hbm, 942, rfl⟩
abbrev main_v784 : Ref sig .tc := ⟨.hbm, 943, rfl⟩
abbrev main_cst_141 : Ref sig .tc := ⟨.hbm, 944, rfl⟩
abbrev main_v785 : Ref sig .tc := ⟨.hbm, 945, rfl⟩
abbrev main_v786 : Ref sig .tc := ⟨.hbm, 946, rfl⟩
abbrev main_v787 : Ref sig .tc := ⟨.hbm, 947, rfl⟩
abbrev main_v788 : Ref sig .tc := ⟨.hbm, 948, rfl⟩
abbrev main_v789 : Ref sig .tc := ⟨.hbm, 949, rfl⟩
abbrev main_v790 : Ref sig .tc := ⟨.hbm, 950, rfl⟩
abbrev main_cst_142 : Ref sig .tc := ⟨.hbm, 951, rfl⟩
abbrev main_v791 : Ref sig .tc := ⟨.hbm, 952, rfl⟩
abbrev main_v792 : Ref sig .tc := ⟨.hbm, 953, rfl⟩
abbrev main_cst_143 : Ref sig .tc := ⟨.hbm, 954, rfl⟩
abbrev main_v793 : Ref sig .tc := ⟨.hbm, 955, rfl⟩
abbrev main_v794 : Ref sig .tc := ⟨.hbm, 956, rfl⟩
abbrev main_v795 : Ref sig .tc := ⟨.hbm, 957, rfl⟩
abbrev main_v796 : Ref sig .tc := ⟨.hbm, 958, rfl⟩
abbrev main_v797 : Ref sig .tc := ⟨.hbm, 959, rfl⟩
abbrev main_v798 : Ref sig .tc := ⟨.hbm, 960, rfl⟩
abbrev main_v799 : Ref sig .tc := ⟨.hbm, 961, rfl⟩
abbrev main_v800 : Ref sig .tc := ⟨.hbm, 962, rfl⟩
abbrev main_v801 : Ref sig .tc := ⟨.hbm, 963, rfl⟩
abbrev main_v802 : Ref sig .tc := ⟨.hbm, 964, rfl⟩
abbrev main_v803 : Ref sig .tc := ⟨.hbm, 965, rfl⟩
abbrev main_v804 : Ref sig .tc := ⟨.hbm, 966, rfl⟩
abbrev main_v805 : Ref sig .tc := ⟨.hbm, 967, rfl⟩
abbrev main_v806 : Ref sig .tc := ⟨.hbm, 968, rfl⟩
abbrev main_v807 : Ref sig .tc := ⟨.hbm, 969, rfl⟩
abbrev main_v808 : Ref sig .tc := ⟨.hbm, 970, rfl⟩
abbrev main_cst_144 : Ref sig .tc := ⟨.hbm, 971, rfl⟩
abbrev main_v809 : Ref sig .tc := ⟨.hbm, 972, rfl⟩
abbrev main_cst_145 : Ref sig .tc := ⟨.hbm, 973, rfl⟩
abbrev main_v810 : Ref sig .tc := ⟨.hbm, 974, rfl⟩
abbrev main_v811 : Ref sig .tc := ⟨.hbm, 975, rfl⟩
abbrev main_cst_146 : Ref sig .tc := ⟨.hbm, 976, rfl⟩
abbrev main_v812 : Ref sig .tc := ⟨.hbm, 977, rfl⟩
abbrev main_v813 : Ref sig .tc := ⟨.hbm, 978, rfl⟩
abbrev main_v814 : Ref sig .tc := ⟨.hbm, 979, rfl⟩
abbrev main_v815 : Ref sig .tc := ⟨.hbm, 980, rfl⟩
abbrev main_v816 : Ref sig .tc := ⟨.hbm, 981, rfl⟩
abbrev main_v817 : Ref sig .tc := ⟨.hbm, 982, rfl⟩
abbrev main_v818 : Ref sig .tc := ⟨.hbm, 983, rfl⟩
abbrev main_v819 : Ref sig .tc := ⟨.hbm, 984, rfl⟩
abbrev main_cst_147 : Ref sig .tc := ⟨.hbm, 985, rfl⟩
abbrev main_v820 : Ref sig .tc := ⟨.hbm, 986, rfl⟩
abbrev main_v821 : Ref sig .tc := ⟨.hbm, 987, rfl⟩
abbrev main_cst_148 : Ref sig .tc := ⟨.hbm, 988, rfl⟩
abbrev main_v822 : Ref sig .tc := ⟨.hbm, 989, rfl⟩
abbrev main_v823 : Ref sig .tc := ⟨.hbm, 990, rfl⟩
abbrev main_v824 : Ref sig .tc := ⟨.hbm, 991, rfl⟩
abbrev main_v825 : Ref sig .tc := ⟨.hbm, 992, rfl⟩
abbrev main_v826 : Ref sig .tc := ⟨.hbm, 993, rfl⟩
abbrev main_v827 : Ref sig .tc := ⟨.hbm, 994, rfl⟩
abbrev main_v828 : Ref sig .tc := ⟨.hbm, 995, rfl⟩
abbrev main_v829 : Ref sig .tc := ⟨.hbm, 996, rfl⟩

abbrev nD : Nat := 1
abbrev τ : Topo := Topo.v7x

variable {F : FTy → Type} [FloatOps F]
-- ==== Proof.KernelModel.lean ====
/- One block of the kernel as a function of the level it works at: the values and the stores of a step of the main loop,
   written once for every step, over the vector operations themselves. -/
module

public import Idealize.ShloMosaic.Lib.Exec
public import Idealize.ShloMosaic.Lib.ShapeFacts
public import proofs.«01_k».proof.Proof.Gen.KernelIdeal.Frame

@[expose] public section

noncomputable section

namespace Cert.Tree

open Idealize.ShloMosaic

variable {F : FTy → Type} [FloatOps F] [Named F]

/-- The shape of an `a × b` matrix. -/
abbrev M2 (a b : ℕ) : Shape := ⟨2, ![a, b]⟩

/-- The shape of an `a × b × c` tensor. -/
abbrev M3 (a b c : ℕ) : Shape := ⟨3, ![a, b, c]⟩

/-! ### Facts about shapes -/

/-- Rows and columns of a matrix from an offset. -/
theorem slices2 {a b a' b' o p : ℕ} (h0 : o + a' ≤ a) (h1 : p + b' ≤ b) : (M2 a b).Slices ![o, p] (M2 a' b') :=
  ⟨rfl, fun x => by fin_cases x <;> simpa [Shape.size]⟩

/-- Rows of a matrix lie inside it. -/
theorem rowsInb {a b o n : ℕ} (h : o + n ≤ a) : ∀ x : Fin 2, (![o, 0] : Fin 2 → ℕ) x + (M2 n b).size x ≤ (M2 a b).size x :=
  fun x => by fin_cases x <;> simp <;> omega

/-- Two matrices one above the other. -/
theorem stacks2 {a b c n : ℕ} (h : a + b = n) : Shape.Concatenates [M2 a c, M2 b c] (M2 n c) 0 := by
  refine ⟨by simp, ?_, by simp [h]⟩
  intro s hs
  simp only [List.mem_cons, List.not_mem_nil, or_false] at hs
  rcases hs with rfl | rfl <;> exact ⟨rfl, fun x hx => by fin_cases x <;> first | exact absurd rfl hx | rfl⟩

/-- Three matrices one above the other. -/
theorem stacks3 {a b b' c n : ℕ} (h : a + (b + b') = n) : Shape.Concatenates [M2 a c, M2 b c, M2 b' c] (M2 n c) 0 := by
  refine ⟨by simp, ?_, by simp [h]⟩
  intro s hs
  simp only [List.mem_cons, List.not_mem_nil, or_false] at hs
  rcases hs with rfl | rfl | rfl <;> exact ⟨rfl, fun x hx => by fin_cases x <;> first | exact absurd rfl hx | rfl⟩

/-- Two matrices side by side. -/
theorem beside2 {a b c n : ℕ} (h : b + c = n) : Shape.Concatenates [M2 a b, M2 a c] (M2 a n) 1 := by
  refine ⟨by simp, ?_, by simp [h]⟩
  intro s hs
  simp only [List.mem_cons, List.not_mem_nil, or_false] at hs
  rcases hs with rfl | rfl <;> exact ⟨rfl, fun x hx => by fin_cases x <;> first | exact absurd rfl hx | rfl⟩

/-- One row stretched over the rows of a matrix. -/
theorem rowBroadcasts (a b : ℕ) : (M2 1 b).Broadcasts (M2 a b) :=
  ⟨le_refl _, fun x => by fin_cases x; · exact .inl rfl
                          · exact .inr fun _ => rfl⟩

/-- One matrix repeated along a new leading axis. -/
theorem tileBroadcasts (n a b : ℕ) : (M3 1 a b).Broadcasts (M3 n a b) :=
  ⟨le_refl _, fun x => by fin_cases x; · exact .inl rfl
                          · exact .inr fun _ => rfl
                          · exact .inr fun _ => rfl⟩

/-- A matrix with a leading axis of extent one. -/
theorem castsLead (a b : ℕ) : (M2 a b).ShapeCasts (M3 1 a b) := by
  simp [Shape.ShapeCasts, Shape.numel_rank2, Shape.numel_rank3]

/-- The two leading axes of a tensor laid out as one. -/
theorem castsFlat {n a b m : ℕ} (h : n * a = m) : (M3 n a b).ShapeCasts (M2 m b) := by
  simp [Shape.ShapeCasts, Shape.numel_rank2, Shape.numel_rank3, h]

/-! ### The weights -/

/-- The kernel's weights, as a block loads them. -/
structure Weights (F : FTy → Type) where
  /-- First and second layer of the network in front of the pooling. -/
  preW1 : FVec F (M2 128 128) .f32
  preW2 : FVec F (M2 128 128) .f32
  /-- The first layer of the network behind the pooling. -/
  postW1 : FVec F (M2 256 256) .f32
  postb1 : FVec F (M2 1 256) .f32
  /-- Its second layer, already multiplied into the global rows of the two users. -/
  postWcat : FVec F (M2 256 288) .f32
  postbcat : FVec F (M2 1 288) .f32
  /-- The branching network: the node rows of its first layer, and its second layer. -/
  brW1x : FVec F (M2 128 144) .f32
  brW2 : FVec F (M2 144 256) .f32
  /-- The message network: the node rows of its first layer, and its second layer (and that layer's first columns). -/
  ginW1x : FVec F (M2 128 144) .f32
  ginW2 : FVec F (M2 144 128) .f32
  ginW2c : FVec F (M2 144 8) .f32

/-! ### Vector expressions -/

/-- A matrix product from zero. -/
def mm {m k n : ℕ} (a : FVec F (M2 m k) .f32) (w : FVec F (M2 k n) .f32) : FVec F (M2 m n) .f32 :=
  matmul (DotDims.plain m k n) none a w (constant (M2 m n) .f32 0x00000000#32)

/-- The leaky rectifier as a maximum. -/
def lrelu {s : Shape} (v : FVec F s .f32) : FVec F s .f32 :=
  maximumf v (mulf (broadcast s (Scalar.ofBits .f32 0x3C23D70A#32)) v)

/-- Halving a level's rows with `op` until one node's rows remain. -/
def foldV (op : ∀ {s : Shape}, FVec F s .f32 → FVec F s .f32 → FVec F s .f32) :
    (l : ℕ) → FVec F (M2 (2 ^ l * 32) 128) .f32 → FVec F (M2 32 128) .f32
  | 0, v => v
  | l + 1, v =>
    foldV op l (op
      (extractStridedSlice (M2 (2 ^ l * 32) 128) ![0, 0] v (slices2 (by rw [pow_succ]; omega) (le_refl _)))
      (extractStridedSlice (M2 (2 ^ l * 32) 128) ![2 ^ l * 32, 0] v (slices2 (by rw [pow_succ]; omega) (le_refl _))))

/-- Neighbours of a list combined in pairs. -/
def pairUp {α : Type} (op : α → α → α) : List α → List α
  | a :: b :: r => op a b :: pairUp op r
  | r => r

/-- A list, `a` its head, combined in a tree of pairs (at most `fuel` rounds). -/
def treeMerge {α : Type} (op : α → α → α) : (fuel : ℕ) → α → List α → α
  | 0, a, _ => a
  | _ + 1, a, [] => a
  | f + 1, a, b :: r => treeMerge op f (op a b) (pairUp op r)

/-- The number of rows of the levels below `l`. -/
abbrev lo (l : ℕ) : ℕ := (2 ^ l - 1) * 32

/-- A level ends where the next begins. -/
theorem lo_succ (l : ℕ) : lo (l + 1) = lo l + 2 ^ l * 32 := by
  have := Nat.one_le_two_pow (n := l)
  simp only [lo, pow_succ]; omega

/-- Later levels begin later. -/
theorem lo_mono {a b : ℕ} (h : a ≤ b) : lo a ≤ lo b :=
  Nat.mul_le_mul_right _ (Nat.sub_le_sub_right (Nat.pow_le_pow_right (by decide) h) 1)

/-- The root ends before the next level begins. -/
theorem root_le (t : ℕ) : 0 + 32 ≤ lo (t + 1) := by
  have := Nat.one_le_two_pow (n := t)
  simp only [lo, pow_succ]; omega

/-- The folds of the last `c` of the levels up to `t`, in order. -/
def folds (op : ∀ {s : Shape}, FVec F s .f32 → FVec F s .f32 → FVec F s .f32) (t : ℕ)
    (x : FVec F (M2 (lo (t + 1)) 128) .f32) : (c : ℕ) → List (FVec F (M2 32 128) .f32)
  | 0 => []
  | c + 1 =>
    foldV op (t - c) (extractStridedSlice (M2 (2 ^ (t - c) * 32) 128) ![lo (t - c), 0] x
      (slices2 (by have := lo_succ (t - c); have := lo_mono (show t - c + 1 ≤ t + 1 by omega); omega) (le_refl _))) :: folds op t x c

/-- The rows of the root among all rows. -/
def rootRows : (t : ℕ) → FVec F (M2 (lo (t + 1)) 128) .f32 → FVec F (M2 32 128) .f32
  | 0 => fun x => x
  | t + 1 => fun x => extractStridedSlice (M2 32 128) ![0, 0] x
      (slices2 (root_le _) (le_refl _))

/-- All nodes of an event combined with `op`. -/
def pool (op : ∀ {s : Shape}, FVec F s .f32 → FVec F s .f32 → FVec F s .f32) (t : ℕ)
    (x : FVec F (M2 (lo (t + 1)) 128) .f32) : FVec F (M2 32 128) .f32 :=
  treeMerge op t (rootRows t x) (folds op t x t)

/-- The mean and the maximum over an event's nodes, side by side. -/
def pooled (inv : F .f32) (t : ℕ) (x : FVec F (M2 (lo (t + 1)) 128) .f32) : FVec F (M2 32 256) .f32 :=
  concatenate (M2 32 256) 1
    [⟨M2 32 128, mulf (pool addf t x) (broadcast (M2 32 128) inv)⟩, ⟨M2 32 128, pool maximumf t x⟩] (beside2 rfl)

/-- The event's globals, multiplied into both users' first layers. -/
def big (W : Weights F) (inv : F .f32) (t : ℕ) (x : FVec F (M2 (lo (t + 1)) 128) .f32) : FVec F (M2 32 288) .f32 :=
  addf (mm (lrelu (addf (mm (pooled inv t x) W.postW1)
      (broadcastTo (M2 32 256) (shapeCast (M2 1 256) W.postb1 (Shape.shapeCasts_self _)) (rowBroadcasts _ _))))
    (shapeCast (M2 256 288) W.postWcat (Shape.shapeCasts_self _)))
    (broadcastTo (M2 32 288) (shapeCast (M2 1 288) W.postbcat (Shape.shapeCasts_self _)) (rowBroadcasts _ _))

/-- The branching network's part of the globals. -/
def gbV (W : Weights F) (inv : F .f32) (t : ℕ) (x : FVec F (M2 (lo (t + 1)) 128) .f32) : FVec F (M2 32 144) .f32 :=
  extractStridedSlice (M2 32 144) ![0, 0] (big W inv t x) (slices2 (by decide) (by decide))

/-- The message network's part of the globals. -/
def ggV (W : Weights F) (inv : F .f32) (t : ℕ) (x : FVec F (M2 (lo (t + 1)) 128) .f32) : FVec F (M2 32 144) .f32 :=
  extractStridedSlice (M2 32 144) ![0, 144] (big W inv t x) (slices2 (by decide) (by decide))

/-- One copy of an event's row. -/
def tile1 (g : FVec F (M2 32 144) .f32) : FVec F (M2 32 144) .f32 :=
  shapeCast (M2 32 144) (shapeCast (M3 1 32 144) g (castsLead _ _)) (castsFlat rfl)

/-- `n` copies of an event's row, one below the other. -/
def tileN (n : ℕ) (g : FVec F (M2 32 144) .f32) : FVec F (M2 (n * 32) 144) .f32 :=
  shapeCast (M2 (n * 32) 144) (broadcastTo (M3 n 32 144)
    (shapeCast (M3 1 32 144) (shapeCast (M3 1 32 144) g (castsLead _ _)) (Shape.shapeCasts_self _)) (tileBroadcasts _ _ _))
    (castsFlat rfl)

/-- The globals' row for every node of level `t`. -/
def tileLevel : (t : ℕ) → FVec F (M2 32 144) .f32 → FVec F (M2 (2 ^ t * 32) 144) .f32
  | 0, g => tile1 g
  | t + 1, g => tileN (2 ^ (t + 1)) g

/-- A multiple of the globals' row. -/
def times (bits : BitVec 32) (g : FVec F (M2 32 144) .f32) : FVec F (M2 32 144) .f32 :=
  mulf (broadcast (M2 32 144) (Scalar.ofBits .f32 bits)) g

/-- The globals' share of the messages when `t + 1` is the last level: the row three times at the root, four times at an inner
    node and twice at a leaf. -/
def rowTerm : (t : ℕ) → FVec F (M2 32 144) .f32 → FVec F (M2 (lo (t + 2)) 144) .f32
  | 0, g => concatenate (M2 (lo 2) 144) 0
      [⟨M2 32 144, tile1 (times 0x40400000#32 g)⟩, ⟨M2 (2 * 32) 144, tileN 2 (times 0x40000000#32 g)⟩] (stacks2 rfl)
  | t + 1, g => concatenate (M2 (lo (t + 3)) 144) 0
      [⟨M2 32 144, tile1 (times 0x40400000#32 g)⟩,
       ⟨M2 ((2 ^ (t + 2) - 2) * 32) 144, tileN (2 ^ (t + 2) - 2) (times 0x40800000#32 g)⟩,
       ⟨M2 (2 ^ (t + 2) * 32) 144, tileN (2 ^ (t + 2)) (times 0x40000000#32 g)⟩]
      (stacks3 (by
        have : 2 ≤ 2 ^ (t + 2) := by have := Nat.one_le_two_pow (n := t); rw [pow_add]; omega
        have h : 2 ^ (t + 3) = 2 ^ (t + 2) * 2 := pow_succ _ _
        simp only [lo, h]; omega))

/-! ### The two scratch arrays -/

/-- The scratch arrays' shape: 1023 nodes of 32 events. -/
abbrev SX : Shape := M2 32736 128

/-- The stores into a scratch array, newest first. -/
abbrev Stores (F : FTy → Type) : Type := List (View.Piece (Elt F) SX .f32)

/-- `n` rows from `o` on. -/
abbrev rows (o n : ℕ) (h : o + n ≤ 32736) : Rect SX := Rect.unit (s := SX) ![o, 0] (M2 n 128).size (rowsInb h)

/-- A store of `n` rows at `o`. -/
abbrev put (o n : ℕ) (h : o + n ≤ 32736) (v : FVec F (M2 n 128) .f32) : View.Piece (Elt F) SX .f32 := ⟨rows o n h, v⟩

variable {sig : RefSig} {κ : Kind} {sp : Space}

/-- A load of `n` rows at `o`. -/
abbrev get (V : View sig κ sp SX .f32) (L : Stores F) (o n : ℕ) (h : o + n ≤ 32736) : FVec F (M2 n 128) .f32 :=
  V.readCov L (rows o n h).toLoadRect

/-- The last row of a level is inside the scratch arrays. -/
theorem lo_le {l : ℕ} (h : l ≤ 10) : lo l ≤ 32736 := lo_mono h

/-- Each of the ten levels fits in the buffer. -/
theorem level_le {l : ℕ} (h : l + 1 ≤ 10) : lo l + 2 ^ l * 32 ≤ 32736 := lo_succ l ▸ lo_le h

/-- The rows of level `l`. -/
abbrev getLevel (V : View sig κ sp SX .f32) (L : Stores F) (l : ℕ) (h : l + 1 ≤ 10) : FVec F (M2 (2 ^ l * 32) 128) .f32 :=
  get V L (lo l) (2 ^ l * 32) (level_le h)

/-- The first children of level `l`, in the order of their parents. -/
abbrev getFst (V : View sig κ sp SX .f32) (L : Stores F) (l : ℕ) (h : l + 2 ≤ 10) : FVec F (M2 (2 ^ l * 32) 128) .f32 :=
  get V L (lo (l + 1)) (2 ^ l * 32) (by have := level_le h; rw [pow_succ] at this; omega)

/-- The second children of level `l`, in the order of their parents. -/
abbrev getSnd (V : View sig κ sp SX .f32) (L : Stores F) (l : ℕ) (h : l + 2 ≤ 10) : FVec F (M2 (2 ^ l * 32) 128) .f32 :=
  get V L (lo (l + 1) + 2 ^ l * 32) (2 ^ l * 32) (by have := level_le h; rw [pow_succ] at this; omega)

/-- A level's rows, each with its parent's row added. -/
def withParent (V : View sig κ sp SX .f32) (L : Stores F) (l : ℕ) (h : l + 2 ≤ 10) : FVec F (M2 (2 ^ (l + 1) * 32) 128) .f32 :=
  addf (getLevel V L (l + 1) h) (concatenate (M2 (2 ^ (l + 1) * 32) 128) 0
    [⟨M2 (2 ^ l * 32) 128, getLevel V L l (by omega)⟩, ⟨M2 (2 ^ l * 32) 128, getLevel V L l (by omega)⟩]
    (stacks2 (by rw [pow_succ]; omega)))

/-- The message sums of a level above the leaves. -/
def innerSum (V : View sig κ sp SX .f32) (L : Stores F) : (l : ℕ) → (h : l + 2 ≤ 10) → FVec F (M2 (2 ^ l * 32) 128) .f32
  | 0, _ => addf (addf (get V L 0 32 (by decide)) (get V L 32 32 (by decide))) (get V L 64 32 (by decide))
  | l + 1, h => addf (addf (withParent V L l (by omega)) (getFst V L (l + 1) h)) (getSnd V L (l + 1) h)

/-- A store of level `l`. -/
abbrev putLevel (l : ℕ) (h : l + 1 ≤ 10) (v : FVec F (M2 (2 ^ l * 32) 128) .f32) : View.Piece (Elt F) SX .f32 :=
  put (lo l) (2 ^ l * 32) (level_le h) (shapeCast (M2 (2 ^ l * 32) 128) v (Shape.shapeCasts_self _))

/-- The stores of the message sums of the levels below `c`, all above the leaves. -/
def innerStores (V : View sig κ sp SX .f32) (L A : Stores F) : (c : ℕ) → (h : c + 1 ≤ 10) → Stores F
  | 0, _ => A
  | c + 1, h => putLevel c (by omega) (innerSum V L c h) :: innerStores V L A c (by omega)

/-- All nodes' features in front of the pooling. -/
def ftxV (W : Weights F) (V : View sig κ sp SX .f32) (L : Stores F) (t : ℕ) (h : t + 1 ≤ 10) : FVec F (M2 (lo (t + 1)) 128) .f32 :=
  mm (lrelu (mm (get V L 0 (lo (t + 1)) (by have := lo_le h; omega)) W.preW1)) W.preW2

/-- The branching network at level `t`: the features of both children of each node. -/
def branchV (W : Weights F) (V : View sig κ sp SX .f32) (L : Stores F) (inv : F .f32) (t : ℕ) (h : t + 2 ≤ 10) :
    FVec F (M2 (2 ^ t * 32) 256) .f32 :=
  mm (lrelu (addf (mm (getLevel V L t (by omega)) (shapeCast (M2 128 144) W.brW1x (Shape.shapeCasts_self _)))
    (tileLevel t (gbV W inv t (ftxV W V L t (by omega)))))) W.brW2

/-- The stores of the new level. -/
def branchStores (W : Weights F) (V : View sig κ sp SX .f32) (L : Stores F) (inv : F .f32) (t : ℕ) (h : t + 2 ≤ 10) : Stores F :=
  put (lo (t + 1) + 2 ^ t * 32) (2 ^ t * 32) (by have := level_le h; rw [pow_succ] at this; omega)
    (shapeCast (M2 (2 ^ t * 32) 128) (extractStridedSlice (M2 (2 ^ t * 32) 128) ![0, 128] (branchV W V L inv t h)
      (slices2 (by omega) (by decide))) (Shape.shapeCasts_self _)) ::
  put (lo (t + 1)) (2 ^ t * 32) (by have := level_le h; rw [pow_succ] at this; omega)
    (shapeCast (M2 (2 ^ t * 32) 128) (extractStridedSlice (M2 (2 ^ t * 32) 128) ![0, 0] (branchV W V L inv t h)
      (slices2 (by omega) (by decide))) (Shape.shapeCasts_self _)) :: L

/-- The message network on the stored sums, the last level being `t + 1`. -/
def ginV (W : Weights F) (V : View sig κ sp SX .f32) (A : Stores F) (g : FVec F (M2 32 144) .f32) (t : ℕ) (h : t + 2 ≤ 10) :
    FVec F (M2 (lo (t + 2)) 128) .f32 :=
  mm (lrelu (addf (mm (get V A 0 (lo (t + 2)) (by have := lo_le h; omega))
    (shapeCast (M2 128 144) W.ginW1x (Shape.shapeCasts_self _))) (rowTerm t g))) W.ginW2

/-- The store of all nodes' new features, the last level being `t + 1`. -/
abbrev putAll (t : ℕ) (h : t + 2 ≤ 10) (v : FVec F (M2 (lo (t + 2)) 128) .f32) : View.Piece (Elt F) SX .f32 :=
  put 0 (lo (t + 2)) (by have := lo_le h; omega) (shapeCast (M2 (lo (t + 2)) 128) v (Shape.shapeCasts_self _))

/-- The sums' stores of a step: the levels above `t` from the old features, `t` and `t + 1` from the new ones. -/
def sumStores (W : Weights F) (V : View sig κ sp SX .f32) (L A : Stores F) (inv : F .f32) (t : ℕ) (h : t + 2 ≤ 10) : Stores F :=
  putLevel (t + 1) h (withParent V (branchStores W V L inv t h) t h) ::
  putLevel t (by omega) (innerSum V (branchStores W V L inv t h) t h) :: innerStores V L A t (by omega)

/-- The features' stores after a step. -/
def stepStores (W : Weights F) (V U : View sig κ sp SX .f32) (L A : Stores F) (inv : F .f32) (t : ℕ) (h : t + 2 ≤ 10) : Stores F :=
  putAll t h (ginV W U (sumStores W V L A inv t h) (ggV W inv t (ftxV W V L t (by omega))) t h) :: branchStores W V L inv t h

/-- The sums' stores of the first round after the loop. -/
def roundSums (V : View sig κ sp SX .f32) (L A : Stores F) : Stores F :=
  putLevel 9 (by decide) (withParent V L 8 (by decide)) :: innerStores V L A 9 (by decide)

/-- The features' stores after that round. -/
def roundStores (W : Weights F) (V U : View sig κ sp SX .f32) (L A : Stores F) (inv : F .f32) : Stores F :=
  putAll 8 (by decide) (ginV W U (roundSums V L A) (ggV W inv 9 (ftxV W V L 9 (by decide))) 8 (by decide)) :: L

/-- The last round, at the leaves alone. -/
def lastV (W : Weights F) (V : View sig κ sp SX .f32) (L : Stores F) (inv : F .f32) : FVec F (M2 16384 8) .f32 :=
  mm (lrelu (addf (mm (withParent V L 8 (by decide)) (shapeCast (M2 128 144) W.ginW1x (Shape.shapeCasts_self _)))
    (tileN 512 (times 0x40000000#32 (ggV W inv 9 (ftxV W V L 9 (by decide))))))) W.ginW2c

/-- The first store: the root's features. -/
def initStores (x : FVec F (M2 32 128) .f32) : Stores F :=
  [put 0 32 (by decide) (shapeCast (M2 32 128) (shapeCast (M2 32 128) x (Shape.shapeCasts_self _)) (Shape.shapeCasts_self _))]

/-- The features' and the sums' stores after `t` steps. -/
def after (W : Weights F) (V U : View sig κ sp SX .f32) (inv : ℕ → F .f32) (x : FVec F (M2 32 128) .f32) :
    (t : ℕ) → (h : t + 1 ≤ 10) → Stores F × Stores F
  | 0, _ => ⟨initStores x, []⟩
  | t + 1, h =>
    ⟨stepStores W V U (after W V U inv x t (by omega)).1 (after W V U inv x t (by omega)).2 (inv t) t h,
     sumStores W V (after W V U inv x t (by omega)).1 (after W V U inv x t (by omega)).2 (inv t) t h⟩

/-- A block's result. -/
def block (W : Weights F) (V U : View sig κ sp SX .f32) (inv : ℕ → F .f32) (x : FVec F (M2 32 128) .f32) : FVec F (M2 16384 8) .f32 :=
  lastV W V (roundStores W V U (after W V U inv x 9 (by decide)).1 (after W V U inv x 9 (by decide)).2 (inv 9)) (inv 9)

end Cert.Tree

end
-- ==== Proof.KernelRun.lean ====
/- What a block's run stores, step by step, is what the step of `KernelModel` stores. -/
module

public import proofs.«01_k».proof.Proof.KernelModel

@[expose] public section

set_option maxRecDepth 65536

noncomputable section

namespace Cert.Tree

open Idealize.ShloMosaic Idealize.ShloMosaic.TcCoe Cert.KernelIdeal Cert.KernelIdeal.Gen

variable {F : FTy → Type} [FloatOps F] [Named F]

section

variable (c : Dev nD)
  (arg1 : Memref sig .tc .vmem S32x128 .f32) (harg1 : arg1.IsWhole)
  (arg2 : Memref sig .tc .vmem S128x128 .f32) (harg2 : arg2.IsWhole)
  (arg3 : Memref sig .tc .vmem S128x128 .f32) (harg3 : arg3.IsWhole)
  (arg4 : Memref sig .tc .vmem S256x256 .f32) (harg4 : arg4.IsWhole)
  (arg5 : Memref sig .tc .vmem S1x256 .f32) (harg5 : arg5.IsWhole)
  (arg6 : Memref sig .tc .vmem S256x288 .f32) (harg6 : arg6.IsWhole)
  (arg7 : Memref sig .tc .vmem S1x288 .f32) (harg7 : arg7.IsWhole)
  (arg8 : Memref sig .tc .vmem S128x144 .f32) (harg8 : arg8.IsWhole)
  (arg9 : Memref sig .tc .vmem S144x256 .f32) (harg9 : arg9.IsWhole)
  (arg10 : Memref sig .tc .vmem S128x144 .f32) (harg10 : arg10.IsWhole)
  (arg11 : Memref sig .tc .vmem S144x128 .f32) (harg11 : arg11.IsWhole)
  (arg13 : Memref sig .tc .vmem S32736x128 .f32) (arg14 : Memref sig .tc .vmem S32736x128 .f32)
  (x0 : Vec F S32x128 .f32) (x1 : Vec F S128x128 .f32) (x2 : Vec F S128x128 .f32) (x3 : Vec F S256x256 .f32) (x4 : Vec F S1x256 .f32) (x5 : Vec F S256x288 .f32) (x6 : Vec F S1x288 .f32) (x7 : Vec F S128x144 .f32) (x8 : Vec F S144x256 .f32) (x9 : Vec F S128x144 .f32) (x10 : Vec F S144x128 .f32)

/-- The weights as a block's loads give them. -/
abbrev loaded : Weights F where
  preW1 := View.readAt (Elt F) arg2.view (Rect.unit (s := S128x128) ![0, 0] S128x128.size inb_S128x128_S128x128_0_0).toLoadRect (harg2.unread x1)
  preW2 := View.readAt (Elt F) arg3.view (Rect.unit (s := S128x128) ![0, 0] S128x128.size inb_S128x128_S128x128_0_0).toLoadRect (harg3.unread x2)
  postW1 := View.readAt (Elt F) arg4.view (Rect.unit (s := S256x256) ![0, 0] S256x256.size inb_S256x256_S256x256_0_0).toLoadRect (harg4.unread x3)
  postb1 := View.readAt (Elt F) arg5.view (Rect.unit (s := S1x256) ![0, 0] S1x256.size inb_S1x256_S1x256_0_0).toLoadRect (harg5.unread x4)
  postWcat := View.readAt (Elt F) arg6.view (Rect.unit (s := S256x288) ![0, 0] S256x288.size inb_S256x288_S256x288_0_0).toLoadRect (harg6.unread x5)
  postbcat := View.readAt (Elt F) arg7.view (Rect.unit (s := S1x288) ![0, 0] S1x288.size inb_S1x288_S1x288_0_0).toLoadRect (harg7.unread x6)
  brW1x := View.readAt (Elt F) arg8.view (Rect.unit (s := S128x144) ![0, 0] S128x144.size inb_S128x144_S128x144_0_0).toLoadRect (harg8.unread x7)
  brW2 := View.readAt (Elt F) arg9.view (Rect.unit (s := S144x256) ![0, 0] S144x256.size inb_S144x256_S144x256_0_0).toLoadRect (harg9.unread x8)
  ginW1x := View.readAt (Elt F) arg10.view (Rect.unit (s := S128x144) ![0, 0] S128x144.size inb_S128x144_S128x144_0_0).toLoadRect (harg10.unread x9)
  ginW2 := View.readAt (Elt F) arg11.view (Rect.unit (s := S144x128) ![0, 0] S144x128.size inb_S144x128_S144x128_0_0).toLoadRect (harg11.unread x10)
  ginW2c := View.readAt (Elt F) arg11.view (Rect.unit (s := S144x128) ![0, 0] S144x8.size inb_S144x128_S144x8_0_0).toLoadRect (harg11.unread x10)

/-- The root's features as the block loads them. -/
abbrev loadedRoot : FVec F (M2 32 128) .f32 := View.readAt (Elt F) arg1.view (Rect.unit (s := S32x128) ![0, 0] S32x128.size inb_S32x128_S32x128_0_0).toLoadRect (harg1.unread x0)

/-- One over the number of nodes of the levels up to `t`. -/
def inv : (t : ℕ) → F .f32
  | 0 => Scalar.ofBits .f32 0x3F800000#32
  | 1 => Named.named κ "inv_3" (φ := .f32) 0x3EAAAAAB#32
  | 2 => Named.named κ "inv_7" (φ := .f32) 0x3E124925#32
  | 3 => Named.named κ "inv_15" (φ := .f32) 0x3D888889#32
  | 4 => Named.named κ "inv_31" (φ := .f32) 0x3D042108#32
  | 5 => Named.named κ "inv_63" (φ := .f32) 0x3C820821#32
  | 6 => Named.named κ "inv_127" (φ := .f32) 0x3C010204#32
  | 7 => Named.named κ "inv_255" (φ := .f32) 0x3B808081#32
  | 8 => Named.named κ "inv_511" (φ := .f32) 0x3B004020#32
  | 9 => Named.named κ "inv_1023" (φ := .f32) 0x3A802008#32
  | _ => Scalar.ofBits .f32 0x3F800000#32

/-- The stores into the two scratch arrays after `t` steps, as the run names them. -/
def stored : (t : ℕ) → Stores F × Stores F
  | 0 => ⟨kernelRun0_A.sl.HS0_1 c arg1 harg1 x0, []⟩
  | 1 => ⟨kernelRun0_A.sl.HS0_4 c arg1 harg1 arg2 harg2 arg3 harg3 arg4 harg4 arg5 harg5 arg6 harg6 arg7 harg7 arg8 harg8 arg9 harg9 arg10 harg10 arg11 harg11 arg13 arg14 x0 x1 x2 x3 x4 x5 x6 x7 x8 x9 x10, kernelRun0_A.sl.HS1_2 c arg1 harg1 arg2 harg2 arg3 harg3 arg4 harg4 arg5 harg5 arg6 harg6 arg7 harg7 arg8 harg8 arg9 harg9 arg13 x0 x1 x2 x3 x4 x5 x6 x7 x8⟩
  | 2 => ⟨kernelRun0_A.sl.HS0_7 c arg1 harg1 arg2 harg2 arg3 harg3 arg4 harg4 arg5 harg5 arg6 harg6 arg7 harg7 arg8 harg8 arg9 harg9 arg10 harg10 arg11 harg11 arg13 arg14 x0 x1 x2 x3 x4 x5 x6 x7 x8 x9 x10, kernelRun0_A.sl.HS1_5 c arg1 harg1 arg2 harg2 arg3 harg3 arg4 harg4 arg5 harg5 arg6 harg6 arg7 harg7 arg8 harg8 arg9 harg9 arg10 harg10 arg11 harg11 arg13 arg14 x0 x1 x2 x3 x4 x5 x6 x7 x8 x9 x10⟩
  | 3 => ⟨kernelRun0_A.sl.HS0_10 c arg1 harg1 arg2 harg2 arg3 harg3 arg4 harg4 arg5 harg5 arg6 harg6 arg7 harg7 arg8 harg8 arg9 harg9 arg10 harg10 arg11 harg11 arg13 arg14 x0 x1 x2 x3 x4 x5 x6 x7 x8 x9 x10, kernelRun0_A.sl.HS1_9 c arg1 harg1 arg2 harg2 arg3 harg3 arg4 harg4 arg5 harg5 arg6 harg6 arg7 harg7 arg8 harg8 arg9 harg9 arg10 harg10 arg11 harg11 arg13 arg14 x0 x1 x2 x3 x4 x5 x6 x7 x8 x9 x10⟩
  | 4 => ⟨kernelRun0_A.sl.HS0_13 c arg1 harg1 arg2 harg2 arg3 harg3 arg4 harg4 arg5 harg5 arg6 harg6 arg7 harg7 arg8 harg8 arg9 harg9 arg10 harg10 arg11 harg11 arg13 arg14 x0 x1 x2 x3 x4 x5 x6 x7 x8 x9 x10, kernelRun0_A.sl.HS1_14 c arg1 harg1 arg2 harg2 arg3 harg3 arg4 harg4 arg5 harg5 arg6 harg6 arg7 harg7 arg8 harg8 arg9 harg9 arg10 harg10 arg11 harg11 arg13 arg14 x0 x1 x2 x3 x4 x5 x6 x7 x8 x9 x10⟩
  | 5 => ⟨kernelRun0_A.sl.HS0_16 c arg1 harg1 arg2 harg2 arg3 harg3 arg4 harg4 arg5 harg5 arg6 harg6 arg7 harg7 arg8 harg8 arg9 harg9 arg10 harg10 arg11 harg11 arg13 arg14 x0 x1 x2 x3 x4 x5 x6 x7 x8 x9 x10, kernelRun0_A.sl.HS1_20 c arg1 harg1 arg2 harg2 arg3 harg3 arg4 harg4 arg5 harg5 arg6 harg6 arg7 harg7 arg8 harg8 arg9 harg9 arg10 harg10 arg11 harg11 arg13 arg14 x0 x1 x2 x3 x4 x5 x6 x7 x8 x9 x10⟩
  | 6 => ⟨kernelRun0_A.sl.HS0_19 c arg1 harg1 arg2 harg2 arg3 harg3 arg4 harg4 arg5 harg5 arg6 harg6 arg7 harg7 arg8 harg8 arg9 harg9 arg10 harg10 arg11 harg11 arg13 arg14 x0 x1 x2 x3 x4 x5 x6 x7 x8 x9 x10, kernelRun0_A.sl.HS1_27 c arg1 harg1 arg2 harg2 arg3 harg3 arg4 harg4 arg5 harg5 arg6 harg6 arg7 harg7 arg8 harg8 arg9 harg9 arg10 harg10 arg11 harg11 arg13 arg14 x0 x1 x2 x3 x4 x5 x6 x7 x8 x9 x10⟩
  | 7 => ⟨kernelRun0_A.sl.HS0_22 c arg1 harg1 arg2 harg2 arg3 harg3 arg4 harg4 arg5 harg5 arg6 harg6 arg7 harg7 arg8 harg8 arg9 harg9 arg10 harg10 arg11 harg11 arg13 arg14 x0 x1 x2 x3 x4 x5 x6 x7 x8 x9 x10, kernelRun0_A.sl.HS1_35 c arg1 harg1 arg2 harg2 arg3 harg3 arg4 harg4 arg5 harg5 arg6 harg6 arg7 harg7 arg8 harg8 arg9 harg9 arg10 harg10 arg11 harg11 arg13 arg14 x0 x1 x2 x3 x4 x5 x6 x7 x8 x9 x10⟩
  | 8 => ⟨kernelRun0_A.sl.HS0_25 c arg1 harg1 arg2 harg2 arg3 harg3 arg4 harg4 arg5 harg5 arg6 harg6 arg7 harg7 arg8 harg8 arg9 harg9 arg10 harg10 arg11 harg11 arg13 arg14 x0 x1 x2 x3 x4 x5 x6 x7 x8 x9 x10, kernelRun0_A.sl.HS1_44 c arg1 harg1 arg2 harg2 arg3 harg3 arg4 harg4 arg5 harg5 arg6 harg6 arg7 harg7 arg8 harg8 arg9 harg9 arg10 harg10 arg11 harg11 arg13 arg14 x0 x1 x2 x3 x4 x5 x6 x7 x8 x9 x10⟩
  | 9 => ⟨kernelRun0_A.sl.HS0_28 c arg1 harg1 arg2 harg2 arg3 harg3 arg4 harg4 arg5 harg5 arg6 harg6 arg7 harg7 arg8 harg8 arg9 harg9 arg10 harg10 arg11 harg11 arg13 arg14 x0 x1 x2 x3 x4 x5 x6 x7 x8 x9 x10, kernelRun0_A.sl.HS1_54 c arg1 harg1 arg2 harg2 arg3 harg3 arg4 harg4 arg5 harg5 arg6 harg6 arg7 harg7 arg8 harg8 arg9 harg9 arg10 harg10 arg11 harg11 arg13 arg14 x0 x1 x2 x3 x4 x5 x6 x7 x8 x9 x10⟩
  | _ => ⟨[], []⟩

set_option maxHeartbeats 4000000 in
/-- A step's stores are those of `KernelModel`. -/
theorem stored_succ (t : ℕ) (h : t + 2 ≤ 10) : stored c arg1 harg1 arg2 harg2 arg3 harg3 arg4 harg4 arg5 harg5 arg6 harg6 arg7 harg7 arg8 harg8 arg9 harg9 arg10 harg10 arg11 harg11 arg13 arg14 x0 x1 x2 x3 x4 x5 x6 x7 x8 x9 x10 (t + 1)
    = ⟨stepStores (loaded arg2 harg2 arg3 harg3 arg4 harg4 arg5 harg5 arg6 harg6 arg7 harg7 arg8 harg8 arg9 harg9 arg10 harg10 arg11 harg11 x1 x2 x3 x4 x5 x6 x7 x8 x9 x10) arg13.view arg14.view (stored c arg1 harg1 arg2 harg2 arg3 harg3 arg4 harg4 arg5 harg5 arg6 harg6 arg7 harg7 arg8 harg8 arg9 harg9 arg10 harg10 arg11 harg11 arg13 arg14 x0 x1 x2 x3 x4 x5 x6 x7 x8 x9 x10 t).1 (stored c arg1 harg1 arg2 harg2 arg3 harg3 arg4 harg4 arg5 harg5 arg6 harg6 arg7 harg7 arg8 harg8 arg9 harg9 arg10 harg10 arg11 harg11 arg13 arg14 x0 x1 x2 x3 x4 x5 x6 x7 x8 x9 x10 t).2 (inv t) t h,
       sumStores (loaded arg2 harg2 arg3 harg3 arg4 harg4 arg5 harg5 arg6 harg6 arg7 harg7 arg8 harg8 arg9 harg9 arg10 harg10 arg11 harg11 x1 x2 x3 x4 x5 x6 x7 x8 x9 x10) arg13.view (stored c arg1 harg1 arg2 harg2 arg3 harg3 arg4 harg4 arg5 harg5 arg6 harg6 arg7 harg7 arg8 harg8 arg9 harg9 arg10 harg10 arg11 harg11 arg13 arg14 x0 x1 x2 x3 x4 x5 x6 x7 x8 x9 x10 t).1 (stored c arg1 harg1 arg2 harg2 arg3 harg3 arg4 harg4 arg5 harg5 arg6 harg6 arg7 harg7 arg8 harg8 arg9 harg9 arg10 harg10 arg11 harg11 arg13 arg14 x0 x1 x2 x3 x4 x5 x6 x7 x8 x9 x10 t).2 (inv t) t h⟩ := by
  have : t < 9 := by omega
  interval_cases t <;> rfl

/-- The stores after `t` steps are those of `KernelModel`. -/
theorem stored_eq : (t : ℕ) → (h : t + 1 ≤ 10) → stored c arg1 harg1 arg2 harg2 arg3 harg3 arg4 harg4 arg5 harg5 arg6 harg6 arg7 harg7 arg8 harg8 arg9 harg9 arg10 harg10 arg11 harg11 arg13 arg14 x0 x1 x2 x3 x4 x5 x6 x7 x8 x9 x10 t
    = after (loaded arg2 harg2 arg3 harg3 arg4 harg4 arg5 harg5 arg6 harg6 arg7 harg7 arg8 harg8 arg9 harg9 arg10 harg10 arg11 harg11 x1 x2 x3 x4 x5 x6 x7 x8 x9 x10) arg13.view arg14.view inv (loadedRoot arg1 harg1 x0) t h
  | 0, _ => rfl
  | t + 1, h => by
    rw [stored_succ c arg1 harg1 arg2 harg2 arg3 harg3 arg4 harg4 arg5 harg5 arg6 harg6 arg7 harg7 arg8 harg8 arg9 harg9 arg10 harg10 arg11 harg11 arg13 arg14 x0 x1 x2 x3 x4 x5 x6 x7 x8 x9 x10 t h, stored_eq t (by omega)]
    rfl

variable (i : grid0.Coords) (arg12 : Memref sig .tc .vmem S16384x8 .f32) (harg12 : arg12.IsWhole) (harg13 : arg13.IsWhole) (harg14 : arg14.IsWhole)

/-- The round after the loop, from the stores at its start. -/
theorem roundStored : kernelRun0_A.sl.HS0_29 c arg1 harg1 arg2 harg2 arg3 harg3 arg4 harg4 arg5 harg5 arg6 harg6 arg7 harg7 arg8 harg8 arg9 harg9 arg10 harg10 arg11 harg11 arg13 arg14 x0 x1 x2 x3 x4 x5 x6 x7 x8 x9 x10
    = roundStores (loaded arg2 harg2 arg3 harg3 arg4 harg4 arg5 harg5 arg6 harg6 arg7 harg7 arg8 harg8 arg9 harg9 arg10 harg10 arg11 harg11 x1 x2 x3 x4 x5 x6 x7 x8 x9 x10) arg13.view arg14.view (stored c arg1 harg1 arg2 harg2 arg3 harg3 arg4 harg4 arg5 harg5 arg6 harg6 arg7 harg7 arg8 harg8 arg9 harg9 arg10 harg10 arg11 harg11 arg13 arg14 x0 x1 x2 x3 x4 x5 x6 x7 x8 x9 x10 9).1 (stored c arg1 harg1 arg2 harg2 arg3 harg3 arg4 harg4 arg5 harg5 arg6 harg6 arg7 harg7 arg8 harg8 arg9 harg9 arg10 harg10 arg11 harg11 arg13 arg14 x0 x1 x2 x3 x4 x5 x6 x7 x8 x9 x10 9).2 (inv 9) := rfl

/-- The result, from the stores before the last round. -/
theorem lastStored : (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10).1
    = [⟨Rect.unit (s := S16384x8) ![0, 0] S16384x8.size inb_S16384x8_S16384x8_0_0,
        lastV (loaded arg2 harg2 arg3 harg3 arg4 harg4 arg5 harg5 arg6 harg6 arg7 harg7 arg8 harg8 arg9 harg9 arg10 harg10 arg11 harg11 x1 x2 x3 x4 x5 x6 x7 x8 x9 x10) arg13.view (kernelRun0_A.sl.HS0_29 c arg1 harg1 arg2 harg2 arg3 harg3 arg4 harg4 arg5 harg5 arg6 harg6 arg7 harg7 arg8 harg8 arg9 harg9 arg10 harg10 arg11 harg11 arg13 arg14 x0 x1 x2 x3 x4 x5 x6 x7 x8 x9 x10) (inv 9)⟩] := rfl

/-- The block's one store into the result: the block's value. -/
theorem run_eq : (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10).1
    = [⟨Rect.unit (s := S16384x8) ![0, 0] S16384x8.size inb_S16384x8_S16384x8_0_0,
        block (loaded arg2 harg2 arg3 harg3 arg4 harg4 arg5 harg5 arg6 harg6 arg7 harg7 arg8 harg8 arg9 harg9 arg10 harg10 arg11 harg11 x1 x2 x3 x4 x5 x6 x7 x8 x9 x10) arg13.view arg14.view inv (loadedRoot arg1 harg1 x0)⟩] := by
  rw [lastStored, roundStored, stored_eq c arg1 harg1 arg2 harg2 arg3 harg3 arg4 harg4 arg5 harg5 arg6 harg6 arg7 harg7 arg8 harg8 arg9 harg9 arg10 harg10 arg11 harg11 arg13 arg14 x0 x1 x2 x3 x4 x5 x6 x7 x8 x9 x10 9 (by decide)]
  rfl

end

end Cert.Tree

end
-- ==== Proof.Spec.lean ====
/- The tree generator over the real numbers: what a step does to the features of one event's nodes. A node is named by its level
   `l` and its place `r < 2 ^ l` there, the children of `(l, r)` being `(l + 1, r)` and `(l + 1, r + 2 ^ l)`. -/
module

public import Mathlib.Data.Real.Basic
public import Mathlib.Algebra.BigOperators.Intervals
public import Mathlib.Algebra.BigOperators.Ring.Finset
public import Mathlib.Tactic.Ring
public import Mathlib.Tactic.Linarith

@[expose] public section

noncomputable section

namespace Cert.Tree

open Finset

/-! ### Combining a range -/

/-- `f 0, …, f n` combined with `op`. -/
def agg (op : ℝ → ℝ → ℝ) (f : ℕ → ℝ) : ℕ → ℝ
  | 0 => f 0
  | n + 1 => op (agg op f n) (f (n + 1))

section

variable (op : ℝ → ℝ → ℝ) [ha : Std.Associative op] [hc : Std.Commutative op]

/-- The aggregate of equal values. -/
theorem agg_congr {f g : ℕ → ℝ} (n : ℕ) (h : ∀ i ≤ n, f i = g i) : agg op f n = agg op g n := by
  induction n with
  | zero => exact h 0 (le_refl _)
  | succ n ih => simp only [agg]; rw [ih fun i hi => h i (by omega), h (n + 1) (le_refl _)]

omit hc in
/-- A range cut in two. -/
theorem agg_append (f : ℕ → ℝ) (n m : ℕ) : agg op f (n + 1 + m) = op (agg op f n) (agg op (fun i => f (n + 1 + i)) m) := by
  induction m with
  | zero => rfl
  | succ m ih => show op (agg op f (n + 1 + m)) _ = _; rw [ih, ha.assoc]; rfl

/-- Two ranges combined place by place. -/
theorem agg_op (f g : ℕ → ℝ) (n : ℕ) : agg op (fun i => op (f i) (g i)) n = op (agg op f n) (agg op g n) := by
  induction n with
  | zero => rfl
  | succ n ih => simp only [agg]; rw [ih]; ac_rfl

omit hc in
/-- A range taken in pairs of neighbours. -/
theorem agg_pairs (f : ℕ → ℝ) (n : ℕ) : agg op (fun i => op (f (2 * i)) (f (2 * i + 1))) n = agg op f (2 * n + 1) := by
  induction n with
  | zero => rfl
  | succ n ih => simp only [agg]; rw [ih, ← ha.assoc]; rfl

/-- A level combined: its first half with its second half, place by place. -/
theorem agg_halves (f : ℕ → ℝ) (l : ℕ) :
    agg op f (2 ^ (l + 1) - 1) = agg op (fun r => op (f r) (f (2 ^ l + r))) (2 ^ l - 1) := by
  have h : 2 ^ (l + 1) - 1 = (2 ^ l - 1) + 1 + (2 ^ l - 1) := by have := Nat.one_le_two_pow (n := l); rw [pow_succ]; omega
  rw [h, agg_append, agg_op]
  have : 2 ^ l - 1 + 1 = 2 ^ l := by have := Nat.one_le_two_pow (n := l); omega
  rw [this]

/-- The place, in the order of the levels' halves, of the `p`-th node of level `l` counted from the left: `p` with its `l` bits
    read backwards. -/
def rev : ℕ → ℕ → ℕ
  | 0, _ => 0
  | l + 1, p => rev l (p / 2) + p % 2 * 2 ^ l

/-- Reading a level from the left combines the same values. -/
theorem agg_rev (l : ℕ) (f : ℕ → ℝ) : agg op (fun p => f (rev l p)) (2 ^ l - 1) = agg op f (2 ^ l - 1) := by
  induction l generalizing f with
  | zero => rfl
  | succ l ih =>
    conv_rhs => rw [agg_halves, ← ih]
    have h : 2 ^ (l + 1) - 1 = 2 * (2 ^ l - 1) + 1 := by have := Nat.one_le_two_pow (n := l); rw [pow_succ]; omega
    rw [h, ← agg_pairs]
    refine agg_congr op _ fun i _ => ?_
    have e0 : 2 * i / 2 = i := by omega
    have e1 : (2 * i + 1) / 2 = i := by omega
    have e2 : 2 * i % 2 = 0 := by omega
    have e3 : (2 * i + 1) % 2 = 1 := by omega
    simp only [rev, e0, e1, e2, e3, zero_mul, one_mul, add_zero, Nat.add_comm (2 ^ l)]

/-- A reversal of bits stays within the level. -/
theorem rev_lt (l p : ℕ) : rev l p < 2 ^ l := by
  induction l generalizing p with
  | zero => simp [rev]
  | succ l ih =>
    have := ih (p / 2)
    rw [rev, pow_succ]
    rcases (show p % 2 = 0 ∨ p % 2 = 1 by omega) with h | h <;> rw [h] <;> omega

end

/-! ### The model -/

/-- One event's features: level, place, feature. -/
abbrev Nodes := ℕ → ℕ → ℕ → ℝ

/-- The weights, as real numbers, and the leaky rectifier's slope. -/
structure Params where
  slope : ℝ
  preW1 : ℕ → ℕ → ℝ
  preW2 : ℕ → ℕ → ℝ
  postW1 : ℕ → ℕ → ℝ
  postb1 : ℕ → ℝ
  postW2 : ℕ → ℕ → ℝ
  postb2 : ℕ → ℝ
  brW1 : ℕ → ℕ → ℝ
  brb1 : ℕ → ℝ
  brW2 : ℕ → ℕ → ℝ
  ginW1 : ℕ → ℕ → ℝ
  ginW2 : ℕ → ℕ → ℝ

/-- A row times the first `K` rows of a matrix. -/
def dot (K : ℕ) (a : ℕ → ℝ) (w : ℕ → ℕ → ℝ) (j : ℕ) : ℝ := ∑ k ∈ range K, a k * w k j

/-- The product of equal rows. -/
theorem dot_congr {K : ℕ} {a b : ℕ → ℝ} (w : ℕ → ℕ → ℝ) (j : ℕ) (h : ∀ k < K, a k = b k) : dot K a w j = dot K b w j :=
  sum_congr rfl fun k hk => by rw [h k (mem_range.mp hk)]

/-- A row over two groups of columns. -/
theorem dot_add (K L : ℕ) (a : ℕ → ℝ) (w : ℕ → ℕ → ℝ) (j : ℕ) :
    dot (K + L) a w j = dot K a w j + dot L (fun k => a (K + k)) (fun k => w (K + k)) j := sum_range_add _ _ _

/-- A row through two matrices is the row through their product. -/
theorem dot_dot (K L : ℕ) (a : ℕ → ℝ) (v w : ℕ → ℕ → ℝ) (j : ℕ) :
    dot L (dot K a v) w j = dot K a (fun k => dot L (v k) w) j := by
  simp only [dot, sum_mul, mul_sum]
  rw [sum_comm]
  exact sum_congr rfl fun k _ => sum_congr rfl fun q _ => by ring

/-- The product of a sum of rows. -/
theorem add_dot (K : ℕ) (a b : ℕ → ℝ) (w : ℕ → ℕ → ℝ) (j : ℕ) :
    dot K (fun k => a k + b k) w j = dot K a w j + dot K b w j := by
  simp only [dot, add_mul, sum_add_distrib]

/-- The product of a multiple of a row. -/
theorem smul_dot (K : ℕ) (c : ℝ) (b : ℕ → ℝ) (w : ℕ → ℕ → ℝ) (j : ℕ) :
    dot K (fun k => c * b k) w j = c * dot K b w j := by
  simp only [dot, mul_sum, mul_assoc]

variable (w : Params)

/-- The leaky rectifier. -/
def lr (y : ℝ) : ℝ := max y (w.slope * y)

/-- The features a node brings to the pooling. -/
def ftx (y : Nodes) : Nodes := fun l r => dot 128 (fun h => lr w (dot 128 (y l r) w.preW1 h)) w.preW2

/-- One feature combined over all nodes of the levels up to `t`. -/
def poolS (op : ℝ → ℝ → ℝ) (y : Nodes) (j : ℕ) : ℕ → ℝ
  | 0 => y 0 0 j
  | t + 1 => op (poolS op y j t) (agg op (fun r => y (t + 1) r j) (2 ^ (t + 1) - 1))

/-- The mean and the maximum of the nodes' features. -/
def pooledS (y : Nodes) (t : ℕ) : ℕ → ℝ := fun j =>
  if j < 128 then poolS (· + ·) (ftx w y) j t * ((2 ^ (t + 1) - 1 : ℕ) : ℝ)⁻¹ else poolS max (ftx w y) (j - 128) t

/-- The hidden layer behind the pooling. -/
def hid (y : Nodes) (t : ℕ) : ℕ → ℝ := fun h => lr w (dot 256 (pooledS w y t) w.postW1 h + w.postb1 h)

/-- The event's globals. -/
def glob (y : Nodes) (t : ℕ) : ℕ → ℝ := fun q => dot 256 (hid w y t) w.postW2 q + w.postb2 q

/-- The globals' share in the branching network's hidden layer. -/
def gbS (g : ℕ → ℝ) : ℕ → ℝ := fun h => dot 16 g (fun q => w.brW1 (128 + q)) h + w.brb1 h

/-- The globals' share in the message network's hidden layer. -/
def ggS (g : ℕ → ℝ) : ℕ → ℝ := dot 16 g (fun q => w.ginW1 (128 + q))

/-- The features of both children of node `(t, r)`. -/
def branchS (g : ℕ → ℝ) (y : Nodes) (t r : ℕ) : ℕ → ℝ :=
  dot 144 (fun h => lr w (dot 128 (y t r) w.brW1 h + gbS w g h)) w.brW2

/-- The tree with level `t + 1` grown. -/
def grow (g : ℕ → ℝ) (y : Nodes) (t : ℕ) : Nodes := fun l r j =>
  if l = t + 1 then branchS w g y t (r % 2 ^ t) (128 * (r / 2 ^ t) + j) else y l r j

/-- A node's features with those of its parent added. -/
def upS (y : Nodes) (l r j : ℕ) : ℝ := if l = 0 then y l r j else y l r j + y (l - 1) (r % 2 ^ (l - 1)) j

/-- A node's features with those of its parent and its children added, `top` being the last level. -/
def aggS (top : ℕ) (y : Nodes) (l r j : ℕ) : ℝ :=
  if l < top then upS y l r j + y (l + 1) r j + y (l + 1) (r + 2 ^ l) j else upS y l r j

/-- How often the globals are added. -/
def mult (top l : ℕ) : ℝ := if l = 0 then 3 else if l < top then 4 else 2

/-- One round of messages. -/
def ginS (g : ℕ → ℝ) (top : ℕ) (y : Nodes) : Nodes := fun l r =>
  dot 144 (fun h => lr w (dot 128 (aggS top y l r) w.ginW1 h + mult top l * ggS w g h)) w.ginW2

/-- A step of the main loop. -/
def stepS (y : Nodes) (t : ℕ) : Nodes := ginS w (glob w y t) (t + 1) (grow w (glob w y t) y t)

/-- The tree after `t` steps, from the root's features. -/
def treeS (x : ℕ → ℝ) : ℕ → Nodes
  | 0 => fun _ _ => x
  | t + 1 => stepS w (treeS x t) t

/-- A round of messages on the whole tree. -/
def roundS (y : Nodes) : Nodes := ginS w (glob w y 9) 9 y

/-- The result: the leaves after two more rounds. -/
def resultS (x : ℕ → ℝ) : ℕ → ℕ → ℝ := roundS w (roundS w (treeS w x 9)) 9

end Cert.Tree

end
-- ==== Proof.Rep.lean ====
/- When a matrix over the extended reals holds given real numbers, and that each operation of a block keeps it so. -/
module

public import Idealize.ShloMosaic.Lib.MatmulPlain
public import Idealize.ShloMosaic.Lib.WritesUnit
public import Idealize.ShloMosaic.Lib.ValueLayout
public import Idealize.ShloMosaic.Lib.Pipeline.Value
public import proofs.«01_k».proof.Proof.KernelModel
public import proofs.«01_k».proof.Proof.Spec

@[expose] public section

noncomputable section

namespace Cert.Tree

open Idealize.ShloMosaic Idealize.ShloMosaic.ValueIdx Finset

/-- A matrix holds the real numbers `f`. -/
def Rep {a b : ℕ} (v : FVec Ideal (M2 a b) .f32) (f : ℕ → ℕ → ℝ) : Prop :=
  ∀ (i : Fin a) (j : Fin b), v (ix2 i j) = ((f i j : ℝ) : EReal)

/-- The same, with equal values. -/
theorem Rep.congr {a b : ℕ} {v : FVec Ideal (M2 a b) .f32} {f g : ℕ → ℕ → ℝ} (h : Rep v f) (e : ∀ i < a, ∀ j < b, f i j = g i j) :
    Rep v g := fun i j => (h i j).trans (by rw [e i i.2 j j.2])

/-- A sum of real numbers is their sum among the ideal values. -/
theorem coe_sum_range (K : ℕ) (f : ℕ → ℝ) : ((∑ k ∈ range K, f k : ℝ) : EReal) = ∑ k : Fin K, ((f k : ℝ) : EReal) := by
  induction K with
  | zero => simp
  | succ K ih => rw [sum_range_succ, EReal.coe_add, ih, Fin.sum_univ_castSucc]; rfl

section

variable {a b n m : ℕ} {v v' : FVec Ideal (M2 a b) .f32} {f f' : ℕ → ℕ → ℝ}

/-- A matrix product from zero. -/
theorem Rep.mm {K : ℕ} {v : FVec Ideal (M2 a K) .f32} {u : FVec Ideal (M2 K b) .f32} {g : ℕ → ℕ → ℝ} (hv : Rep v f) (hu : Rep u g) :
    Rep (mm v u) (fun i => dot K (f i) g) := fun i j => by
  refine (Ideal.matmul_plain_apply none v u _ i j).trans ?_
  have h0 : constant (F := Ideal) (M2 a b) .f32 0x00000000#32 (ix2 i j) = 0 := Ideal.ofBits_zero_f32
  rw [h0, zero_add]
  unfold dot
  rw [coe_sum_range]
  exact sum_congr rfl fun k _ => by rw [hv, hu, ← EReal.coe_mul]

/-- The sum of two matrices. -/
theorem Rep.addf (h : Rep v f) (h' : Rep v' f') : Rep (addf v v') (fun i j => f i j + f' i j) := fun i j => by
  show v (ix2 i j) + v' (ix2 i j) = _
  rw [h, h', ← EReal.coe_add]

/-- The maximum of two matrices. -/
theorem Rep.maximumf (h : Rep v f) (h' : Rep v' f') : Rep (maximumf v v') (fun i j => max (f i j) (f' i j)) := fun i j => by
  show max (v (ix2 i j)) (v' (ix2 i j)) = _
  rw [h, h']; exact (EReal.coe_strictMono.monotone.map_max).symm

/-- A matrix times a scalar. -/
theorem Rep.mulRight {c : Ideal .f32} {q : ℝ} (h : Rep v f) (hc : c = ((q : ℝ) : EReal)) :
    Rep (mulf v (broadcast (M2 a b) c)) (fun i j => f i j * q) := fun i j => by
  show v (ix2 i j) * c = _
  rw [h, hc, ← EReal.coe_mul]

/-- A scalar times a matrix. -/
theorem Rep.mulLeft {c : Ideal .f32} {q : ℝ} (h : Rep v f) (hc : c = ((q : ℝ) : EReal)) :
    Rep (mulf (broadcast (M2 a b) c) v) (fun i j => q * f i j) := fun i j => by
  show c * v (ix2 i j) = _
  rw [h, hc, ← EReal.coe_mul]

/-- The leaky rectifier. -/
theorem Rep.lrelu {w : Params} (hs : (Scalar.ofBits .f32 0x3C23D70A#32 : Ideal .f32) = ((w.slope : ℝ) : EReal)) (h : Rep v f) :
    Rep (lrelu v) (fun i j => lr w (f i j)) := h.maximumf (h.mulLeft hs)

/-- A part of a matrix. -/
theorem Rep.slice {o p : ℕ} (h : Rep v f) (hs : (M2 a b).Slices ![o, p] (M2 n m)) :
    Rep (extractStridedSlice (M2 n m) ![o, p] v hs) (fun i j => f (o + i) (p + j)) := fun i j => by
  have h0 : o + n ≤ a := hs.2 0
  have h1 : p + m ≤ b := hs.2 1
  rw [extractStridedSlice_apply _ v hs (ix2 i j) (ix2 ⟨o + i, by omega⟩ ⟨p + j, by omega⟩)
    (fun x => by match x with | ⟨0, _⟩ => rfl | ⟨1, _⟩ => rfl)]
  exact h _ _

/-- A reshape to the same shape. -/
theorem Rep.cast (h : Rep v f) (hs : (M2 a b).ShapeCasts (M2 a b)) : Rep (shapeCast (M2 a b) v hs) f := fun i j => by
  rw [shapeCast_apply v hs (ix2 i j) (ix2 i j) rfl]; exact h i j

/-- One row stretched over all rows. -/
theorem Rep.row {v : FVec Ideal (M2 1 b) .f32} (h : Rep v f) (hb : (M2 1 b).Broadcasts (M2 a b)) :
    Rep (broadcastTo (M2 a b) v hb) (fun _ j => f 0 j) := fun i j => by
  rw [broadcastTo_1b_ab_apply v hb i j]; exact h 0 j

/-- One matrix above the other. -/
def above (o : ℕ) (f g : ℕ → ℕ → ℝ) : ℕ → ℕ → ℝ := fun i => if i < o then f i else g (i - o)

/-- A stack at its upper rows. -/
theorem above_lt {o i : ℕ} (f g : ℕ → ℕ → ℝ) (h : i < o) : above o f g i = f i := if_pos h

/-- A stack at its lower rows. -/
theorem above_add (o i : ℕ) (f g : ℕ → ℕ → ℝ) : above o f g (o + i) = g i := by
  rw [above, if_neg (by omega), Nat.add_sub_cancel_left]

/-- Two matrices one above the other. -/
theorem Rep.stack {v' : FVec Ideal (M2 n b) .f32} (h : Rep v f) (h' : Rep v' f')
    (hc : Shape.Concatenates [M2 a b, M2 n b] (M2 m b) 0) :
    Rep (concatenate (M2 m b) 0 [⟨M2 a b, v⟩, ⟨M2 n b, v'⟩] hc) (above a f f') := fun i j => by
  have hm : a + n = m := by have := hc.2.2; simpa using this
  by_cases hi : i.val < a
  · rw [concatenate_pair_apply_left 0 v v' hc (ix2 i j) rfl (ix2 ⟨i, hi⟩ j)
      (fun x => by match x with | ⟨0, _⟩ => rfl | ⟨1, _⟩ => rfl), h, above_lt _ _ hi]
  · rw [concatenate_pair_apply_right 0 v v' hc (ix2 i j) rfl rfl (ix2 ⟨i - a, by omega⟩ j)
      (fun x hx => by match x with | ⟨0, _⟩ => exact absurd rfl hx | ⟨1, _⟩ => rfl) (by show (i.val - a) + a = i.val; omega), h', above, if_neg hi]

/-- Three matrices, one above the other. -/
theorem Rep.stack3 {n' : ℕ} {f'' : ℕ → ℕ → ℝ} {v' : FVec Ideal (M2 n b) .f32} {v'' : FVec Ideal (M2 n' b) .f32}
    (h : Rep v f) (h' : Rep v' f') (h'' : Rep v'' f'') (hc : Shape.Concatenates [M2 a b, M2 n b, M2 n' b] (M2 m b) 0) :
    Rep (concatenate (M2 m b) 0 [⟨M2 a b, v⟩, ⟨M2 n b, v'⟩, ⟨M2 n' b, v''⟩] hc) (above a f (above n f' f'')) := fun i j => by
  have hm : a + (n + n') = m := by have := hc.2.2; simpa using this
  by_cases hi : i.val < a
  · rw [concatenate_apply_piece 0 [⟨M2 a b, v⟩, ⟨M2 n b, v'⟩, ⟨M2 n' b, v''⟩] hc (ix2 i j) 0 (by simp) (M2 a b) v rfl rfl 0 rfl (ix2 ⟨i, hi⟩ j)
      (fun x hx => by match x with | ⟨0, _⟩ => exact absurd rfl hx | ⟨1, _⟩ => rfl) (by show 0 + i.val = i.val; omega), h, above_lt _ _ hi]
  · rw [above, if_neg hi]
    by_cases hi' : i.val - a < n
    · rw [concatenate_apply_piece 0 [⟨M2 a b, v⟩, ⟨M2 n b, v'⟩, ⟨M2 n' b, v''⟩] hc (ix2 i j) 1 (by simp) (M2 n b) v' rfl rfl a rfl (ix2 ⟨i - a, hi'⟩ j)
        (fun x hx => by match x with | ⟨0, _⟩ => exact absurd rfl hx | ⟨1, _⟩ => rfl) (by show a + (i.val - a) = i.val; omega), h', above_lt _ _ hi']
    · rw [above, if_neg hi', concatenate_apply_piece 0 [⟨M2 a b, v⟩, ⟨M2 n b, v'⟩, ⟨M2 n' b, v''⟩] hc (ix2 i j) 2 (by simp) (M2 n' b) v'' rfl rfl (a + n) (by simp) (ix2 ⟨i - a - n, by omega⟩ j)
        (fun x hx => by match x with | ⟨0, _⟩ => exact absurd rfl hx | ⟨1, _⟩ => rfl) (by show a + n + (i.val - a - n) = i.val; omega), h'']

/-- Two matrices side by side. -/
theorem Rep.beside {v' : FVec Ideal (M2 a n) .f32} (h : Rep v f) (h' : Rep v' f')
    (hc : Shape.Concatenates [M2 a b, M2 a n] (M2 a m) 1) :
    Rep (concatenate (M2 a m) 1 [⟨M2 a b, v⟩, ⟨M2 a n, v'⟩] hc) (fun i j => if j < b then f i j else f' i (j - b)) := fun i j => by
  have hm : b + n = m := by have := hc.2.2; simpa using this
  by_cases hi : j.val < b
  · rw [concatenate_pair_apply_left 1 v v' hc (ix2 i j) rfl (ix2 i ⟨j, hi⟩)
      (fun x => by match x with | ⟨0, _⟩ => rfl | ⟨1, _⟩ => rfl), h]; simp only [if_pos hi]
  · rw [concatenate_pair_apply_right 1 v v' hc (ix2 i j) rfl rfl (ix2 i ⟨j - b, by omega⟩)
      (fun x hx => by match x with | ⟨1, _⟩ => exact absurd rfl hx | ⟨0, _⟩ => rfl) (by show (j.val - b) + b = j.val; omega), h']; simp only [if_neg hi]

end

/-! ### Copies of an event's row -/

/-- A block repeated once. -/
theorem Rep.tile1 {g : FVec Ideal (M2 32 144) .f32} {f : ℕ → ℕ → ℝ} (h : Rep g f) : Rep (tile1 g) f := fun i j => by
  unfold Tree.tile1
  rw [shapeCast_1ab_ab_apply, shapeCast_ab_1ab_apply]; exact h i j

/-- A block repeated. -/
theorem Rep.tileN {g : FVec Ideal (M2 32 144) .f32} {f : ℕ → ℕ → ℝ} (n : ℕ) (h : Rep g f) : Rep (tileN n g) (fun i => f (i % 32)) :=
  fun i j => by
  have hi := i.2
  have hd : i.val / 32 < n := by omega
  have hm : i.val % 32 < 32 := Nat.mod_lt _ (by decide)
  unfold Tree.tileN
  rw [shapeCast_apply _ (castsFlat rfl) (ix2 i j) (ix3 ⟨i / 32, hd⟩ ⟨i % 32, hm⟩ j) (by
    rw [Shape.rowMajor_val_three, Shape.rowMajor_val_two]
    show (i.val / 32 * 32 + i.val % 32) * 144 + j.val = i.val * 144 + j.val
    omega)]
  rw [broadcastTo_apply _ (tileBroadcasts n 32 144) _ (ix3 0 ⟨i % 32, hm⟩ j) (fun x => by
    match x with
    | ⟨0, _⟩ => rfl
    | ⟨1, _⟩ => rfl
    | ⟨2, _⟩ => rfl)]
  rw [shapeCast_apply _ (Shape.shapeCasts_self _) _ _ rfl, shapeCast_ab_1ab_apply]
  exact h ⟨i % 32, hm⟩ j

/-- A block repeated for each node of a level. -/
theorem Rep.tileLevel {g : FVec Ideal (M2 32 144) .f32} {f : ℕ → ℕ → ℝ} (h : Rep g f) :
    (t : ℕ) → Rep (tileLevel t g) (fun i => f (i % 32))
  | 0 => h.tile1.congr fun i hi j _ => by rw [Nat.mod_eq_of_lt (by simpa using hi)]
  | t + 1 => h.tileN (2 ^ (t + 1))

/-! ### Combining over nodes -/

section

variable (op : ∀ {s : Shape}, FVec Ideal s .f32 → FVec Ideal s .f32 → FVec Ideal s .f32) (opR : ℝ → ℝ → ℝ)
  [Std.Associative opR] [Std.Commutative opR]

/-- Folding a matrix by halves aggregates the rows of each event. -/
theorem Rep.foldV (hop : ∀ {a b : ℕ} {v v' : FVec Ideal (M2 a b) .f32} {f f' : ℕ → ℕ → ℝ}, Rep v f → Rep v' f' →
    Rep (op v v') (fun i j => opR (f i j) (f' i j))) : (l : ℕ) → (v : FVec Ideal (M2 (2 ^ l * 32) 128) .f32) →
    (f : ℕ → ℕ → ℝ) → Rep v f → Rep (foldV op l v) (fun e j => agg opR (fun r => f (r * 32 + e) j) (2 ^ l - 1))
  | 0 => fun v f h i j => by
    have := h ⟨i, by omega⟩ j
    simp only [agg, Nat.sub_self, pow_zero, zero_mul, zero_add]
    exact this
  | l + 1 => fun v f h => (Rep.foldV hop l _ _ (hop (h.slice _) (h.slice _))).congr fun e _ j _ => by
    rw [agg_halves]
    refine agg_congr opR _ fun r _ => ?_
    simp only [zero_add, add_mul, add_assoc]

end

/-- Joining neighbours first does not change the total. -/
theorem foldl_pairUp {α : Type} (op : α → α → α) [ha : Std.Associative op] : (l : List α) → (a : α) →
    (pairUp op l).foldl op a = l.foldl op a
  | [], _ => rfl
  | [_], _ => rfl
  | b :: c :: r, a => by simp only [pairUp, List.foldl_cons]; rw [foldl_pairUp op r, ← ha.assoc]

/-- Joining neighbours does not lengthen a list. -/
theorem length_pairUp {α : Type} (op : α → α → α) : (l : List α) → (pairUp op l).length ≤ l.length
  | [] => le_refl _
  | [_] => le_refl _
  | _ :: _ :: r => by have := length_pairUp op r; simp only [pairUp, List.length_cons]; omega

/-- Combining in a tree of pairs is combining from the left. -/
theorem treeMerge_eq {α : Type} (op : α → α → α) [Std.Associative op] : (n : ℕ) → (l : List α) → (a : α) → l.length ≤ n →
    treeMerge op n a l = l.foldl op a
  | 0, l, a, h => by obtain rfl := List.length_eq_zero_iff.mp (Nat.le_zero.mp h); rfl
  | _ + 1, [], _, _ => rfl
  | n + 1, b :: r, a, h => by
    have := length_pairUp op r
    rw [treeMerge, treeMerge_eq op n _ _ (by simp only [List.length_cons] at h; omega), foldl_pairUp]; rfl

instance {s : Shape} : Std.Associative (addf (F := Ideal) (s := s) (φ := .f32)) := ⟨fun a b c => funext fun i => add_assoc (a i : EReal) _ _⟩

instance {s : Shape} : Std.Associative (maximumf (F := Ideal) (s := s) (φ := .f32)) := ⟨fun a b c => funext fun i => max_assoc (a i : EReal) _ _⟩

end Cert.Tree

end
-- ==== Proof.KernelValue.lean ====
/- A block's result holds the numbers of `Spec`: every step of `KernelModel` keeps the features of all nodes in the scratch array. -/
module

public import proofs.«01_k».proof.Proof.Rep

@[expose] public section

noncomputable section

namespace Cert.Tree

open Idealize.ShloMosaic Idealize.ShloMosaic.ValueIdx Finset

/-! ### Rows and nodes -/

/-- The rows `f` hold the features `y e` of the nodes of the levels below `T`, for each of the 32 events `e`. -/
def Tree (T : ℕ) (f : ℕ → ℕ → ℝ) (y : ℕ → Nodes) : Prop :=
  ∀ l < T, ∀ r < 2 ^ l, ∀ e < 32, f (lo l + (r * 32 + e)) = y e l r

/-- A node's row is within its level. -/
theorem row_lt {l r e : ℕ} (hr : r < 2 ^ l) (he : e < 32) : r * 32 + e < 2 ^ l * 32 := by omega

/-- A row's event within the block. -/
theorem row_mod {r e : ℕ} (he : e < 32) : (r * 32 + e) % 32 = e := by omega

/-! ### Features to pool -/

section

variable (op : ∀ {s : Shape}, FVec Ideal s .f32 → FVec Ideal s .f32 → FVec Ideal s .f32) (opR : ℝ → ℝ → ℝ)
  [Std.Associative opR] [Std.Commutative opR]

/-- The levels' folds, combined from the left onto the levels before them. -/
theorem foldl_folds (hop : ∀ {a b : ℕ} {v v' : FVec Ideal (M2 a b) .f32} {f f' : ℕ → ℕ → ℝ}, Rep v f → Rep v' f' →
    Rep (op v v') (fun i j => opR (f i j) (f' i j))) {t : ℕ} {x : FVec Ideal (M2 (lo (t + 1)) 128) .f32} {f : ℕ → ℕ → ℝ}
    {y : ℕ → Nodes} (hx : Rep x f) (hy : Tree (t + 1) f y) : (c : ℕ) → c ≤ t → (a : FVec Ideal (M2 32 128) .f32) →
    Rep a (fun e j => poolS opR (y e) j (t - c)) → Rep ((folds op t x c).foldl op a) (fun e j => poolS opR (y e) j t)
  | 0 => fun _ _ h => h
  | c + 1 => fun hc a h => by
    refine foldl_folds hop hx hy c (by omega) _ ((hop h (Rep.foldV op opR hop (t - c) _ _ (hx.slice _))).congr fun e he j _ => ?_)
    obtain ⟨d, hd⟩ : ∃ d, t - c = d + 1 := ⟨t - c - 1, by omega⟩
    rw [show t - (c + 1) = d by omega, hd]
    show _ = opR _ _
    congr 1
    refine agg_congr opR _ fun r hr => ?_
    have h1 := Nat.one_le_two_pow (n := d + 1)
    rw [hy (d + 1) (by omega) r (by omega) e he, zero_add]

/-- Folding each level by halves and then the levels together aggregates over all the nodes. -/
theorem Rep.pool [hv : ∀ {s : Shape}, Std.Associative (op (s := s))] (hop : ∀ {a b : ℕ} {v v' : FVec Ideal (M2 a b) .f32} {f f' : ℕ → ℕ → ℝ}, Rep v f → Rep v' f' →
    Rep (op v v') (fun i j => opR (f i j) (f' i j))) {t : ℕ} {x : FVec Ideal (M2 (lo (t + 1)) 128) .f32} {f : ℕ → ℕ → ℝ}
    {y : ℕ → Nodes} (hx : Rep x f) (hy : Tree (t + 1) f y) : Rep (pool op t x) (fun e j => poolS opR (y e) j t) := by
  have hl : ∀ c, (folds op t x c).length = c := fun c => by induction c with
    | zero => rfl
    | succ c ih => rw [folds, List.length_cons, ih]
  have hroot : Rep (rootRows t x) f := by
    cases t with
    | zero => exact hx
    | succ t => exact (hx.slice (slices2 (root_le _) (le_refl _))).congr fun i _ j _ => by rw [zero_add, zero_add]
  unfold Tree.pool
  rw [treeMerge_eq op t _ _ (hl t).le]
  refine foldl_folds op opR hop hx hy t (le_refl _) _ (hroot.congr fun e he j _ => ?_)
  rw [Nat.sub_self]
  have := hy 0 (by omega) 0 (by decide) e he
  rw [show lo 0 = 0 from rfl, zero_mul, zero_add, zero_add] at this
  rw [this]; rfl

end

/-! ### The weights -/

variable {w : Params} {W : Weights Ideal}

/-- A block's weights hold the numbers `w`; the second layer behind the pooling comes multiplied into its users. -/
structure Holding (W : Weights Ideal) (w : Params) : Prop where
  slope : (Scalar.ofBits .f32 0x3C23D70A#32 : Ideal .f32) = ((w.slope : ℝ) : EReal)
  preW1 : Rep W.preW1 w.preW1
  preW2 : Rep W.preW2 w.preW2
  postW1 : Rep W.postW1 w.postW1
  postb1 : Rep W.postb1 (fun _ => w.postb1)
  postWcat : Rep W.postWcat (fun k j => if j < 144 then dot 16 (w.postW2 k) (fun q => w.brW1 (128 + q)) j
    else dot 16 (w.postW2 k) (fun q => w.ginW1 (128 + q)) (j - 144))
  postbcat : Rep W.postbcat (fun _ j => if j < 144 then dot 16 w.postb2 (fun q => w.brW1 (128 + q)) j + w.brb1 j
    else dot 16 w.postb2 (fun q => w.ginW1 (128 + q)) (j - 144))
  brW1x : Rep W.brW1x w.brW1
  brW2 : Rep W.brW2 w.brW2
  ginW1x : Rep W.ginW1x w.ginW1
  ginW2 : Rep W.ginW2 w.ginW2
  ginW2c : Rep W.ginW2c w.ginW2

section

variable (hW : Holding W w) {inv : Ideal .f32} {t : ℕ} (hinv : inv = (((2 ^ (t + 1) - 1 : ℕ) : ℝ)⁻¹ : ℝ))
  {x : FVec Ideal (M2 (lo (t + 1)) 128) .f32} {f : ℕ → ℕ → ℝ} {y : ℕ → Nodes}

include hW hinv

/-- The mean and the maximum over the nodes, side by side. -/
theorem Rep.pooled (hx : Rep x f) (hy : Tree (t + 1) f (fun e => ftx w (y e))) :
    Rep (pooled inv t x) (fun e => pooledS w (y e) t) :=
  ((Rep.pool Idealize.ShloMosaic.addf (· + ·) (fun h h' => h.addf h') hx hy).mulRight hinv).beside
    (Rep.pool Idealize.ShloMosaic.maximumf max (fun h h' => h.maximumf h') hx hy) _

/-- The pooling network, its last layer joined with the parts that read the globals. -/
theorem Rep.big (hx : Rep x f) (hy : Tree (t + 1) f (fun e => ftx w (y e))) :
    Rep (big W inv t x) (fun e j => if j < 144 then gbS w (glob w (y e) t) j else ggS w (glob w (y e) t) (j - 144)) := by
  refine (((((Rep.pooled hW hinv hx hy).mm hW.postW1).addf ((hW.postb1.cast _).row _)).lrelu hW.slope).mm (hW.postWcat.cast _)
    |>.addf ((hW.postbcat.cast _).row _)).congr fun e _ j _ => ?_
  have key : ∀ (v : ℕ → ℕ → ℝ) (j : ℕ), dot 16 (glob w (y e) t) v j
      = dot 256 (hid w (y e) t) (fun k => dot 16 (w.postW2 k) v) j + dot 16 w.postb2 v j := fun v j => by
    unfold glob; rw [add_dot, dot_dot]
  by_cases hj : j < 144
  · simp only [if_pos hj, gbS, key, ← add_assoc]
    congr 2
    simp only [dot, if_pos hj]; rfl
  · simp only [if_neg hj, ggS, key]
    congr 1
    simp only [dot, if_neg hj]; rfl

/-- What the branching reads of the globals. -/
theorem Rep.gb (hx : Rep x f) (hy : Tree (t + 1) f (fun e => ftx w (y e))) :
    Rep (gbV W inv t x) (fun e => gbS w (glob w (y e) t)) :=
  ((Rep.big hW hinv hx hy).slice _).congr fun e _ j hj => by simp only [zero_add, if_pos hj]

/-- What the message passing reads of the globals. -/
theorem Rep.gg (hx : Rep x f) (hy : Tree (t + 1) f (fun e => ftx w (y e))) :
    Rep (ggV W inv t x) (fun e => ggS w (glob w (y e) t)) :=
  ((Rep.big hW hinv hx hy).slice _).congr fun e _ j hj => by
    simp only [zero_add, if_neg (show ¬ 144 + j < 144 by omega), Nat.add_sub_cancel_left]

end

/-! ### The scratch arrays -/

variable {sig : RefSig} {κ : Kind} {sp : Space}

/-- The first `n` rows of a scratch array hold `f` after the stores `L`. -/
def Stored (V : View sig κ sp SX .f32) (L : Stores Ideal) (n : ℕ) (f : ℕ → ℕ → ℝ) : Prop :=
  ∀ (i : Fin 32736) (j : Fin 128), i.val < n → V.read (Elt Ideal) (V.writes (Elt Ideal) V.junk L) (ix2 i j) = ((f i j : ℝ) : EReal)

section

variable {V : View sig κ sp SX .f32} {L : Stores Ideal} {n : ℕ} {f : ℕ → ℕ → ℝ}

/-- A load of rows that are held. -/
theorem Stored.get (h : Stored V L n f) {o k : ℕ} (hk : o + k ≤ 32736) (hn : o + k ≤ n) : Rep (get V L o k hk) (fun i => f (o + i)) :=
  fun i j => by
    have e : (rows o k hk).toLoadRect.idx (ix2 i j) = ix2 ⟨o + i, by omega⟩ j := by
      funext x
      match x with
      | ⟨0, _⟩ => exact Fin.ext (by show o + 1 * i.val = o + i.val; omega)
      | ⟨1, _⟩ => exact Fin.ext (by show 0 + 1 * j.val = j.val; omega)
    show V.read (Elt Ideal) (V.writes (Elt Ideal) V.junk L) ((rows o k hk).toLoadRect.idx (ix2 i j)) = _
    rw [e]
    exact h ⟨o + i, by omega⟩ j (by show o + i.val < n; omega)

/-- A store behind the rows held so far. -/
theorem Stored.put {o k : ℕ} {v : FVec Ideal (M2 k 128) .f32} {g : ℕ → ℕ → ℝ} (h : Stored V L o f) (hv : Rep v g) (hk : o + k ≤ 32736) :
    Stored V (put o k hk v :: L) (o + k) (above o f g) := fun i j hi => by
  by_cases ho : i.val < o
  · rw [View.read_writes_cons_rows_of_not_mem (o := o) (W := k) V V.junk (rowsInb hk) v L (ix2 i j) rfl rfl (.inl ho), above_lt _ _ ho]
    exact h i j ho
  · rw [View.read_writes_cons_rows_of_mem (o := o) V V.junk (rowsInb hk) v L (ix2 i j) (ix2 (⟨i - o, by omega⟩ : Fin k) j) rfl
      (by show i.val = o + (i.val - o); omega) rfl, above, if_neg ho]
    exact hv _ _

/-- No level is stored: nothing to say. -/
theorem stored_zero : Stored V L 0 f := fun i _ h => absurd h (Nat.not_lt_zero _)

end

/-- A scratch array holds the features `y e` of the nodes of the levels below `T`. -/
def Holds (V : View sig κ sp SX .f32) (L : Stores Ideal) (T : ℕ) (y : ℕ → Nodes) : Prop :=
  ∃ f, Stored V L (lo T) f ∧ Tree T f y

section

variable {V U : View sig κ sp SX .f32} {L A : Stores Ideal} {y y' : ℕ → Nodes}

/-- No level is held: nothing to say. -/
theorem holds_zero : Holds V L 0 y := ⟨fun _ _ => 0, stored_zero, fun _ h => absurd h (Nat.not_lt_zero _)⟩

/-- The same, with equal values. -/
theorem Holds.congr {T : ℕ} (h : Holds V L T y) (e : ∀ l < T, ∀ r < 2 ^ l, ∀ e < 32, y e l r = y' e l r) : Holds V L T y' := by
  obtain ⟨f, hS, hT⟩ := h
  exact ⟨f, hS, fun l hl r hr i hi => (hT l hl r hr i hi).trans (e l hl r hr i hi)⟩

/-- The store of the next level. -/
theorem Holds.putLevel {l : ℕ} (hl : l + 1 ≤ 10) (h : Holds V L l y) {v : FVec Ideal (M2 (2 ^ l * 32) 128) .f32} {g : ℕ → ℕ → ℝ}
    (hv : Rep v g) (hg : ∀ r < 2 ^ l, ∀ e < 32, g (r * 32 + e) = y e l r) : Holds V (putLevel l hl v :: L) (l + 1) y := by
  obtain ⟨f, hS, hT⟩ := h
  refine ⟨above (lo l) f g, ?_, fun k hk r hr e he => ?_⟩
  · rw [lo_succ]; exact hS.put (hv.cast _) (level_le hl)
  · rcases Nat.lt_succ_iff_lt_or_eq.mp hk with hk | rfl
    · have h1 := lo_mono (show k + 1 ≤ l from hk)
      have h2 := row_lt hr he
      rw [lo_succ] at h1
      rw [above_lt _ _ (by omega)]; exact hT k hk r hr e he
    · rw [above_add]; exact hg r hr e he

/-- The store of all levels. -/
theorem Holds.putAll {t : ℕ} (ht : t + 2 ≤ 10) {v : FVec Ideal (M2 (lo (t + 2)) 128) .f32} {g : ℕ → ℕ → ℝ}
    (hv : Rep v g) (hg : Tree (t + 2) g y) : Holds V (putAll t ht v :: L) (t + 2) y := by
  refine ⟨g, ?_, hg⟩
  have := (stored_zero (V := V) (L := L) (f := g)).put (hv.cast (Shape.shapeCasts_self _)) (o := 0) (by have := lo_le ht; omega)
  have e : above 0 g g = g := funext fun i => by rw [above, if_neg (Nat.not_lt_zero _), Nat.sub_zero]
  rw [e] at this
  exact fun i j hi => this i j (by omega)

/-! ### Sums of messages -/

/-- A level's rows, each with its parent's row added, summed for a node. -/
theorem Rep.withParent {l T : ℕ} (hl : l + 2 ≤ 10) (hT : l + 2 ≤ T) (h : Holds V L T y) :
    ∃ g, Rep (withParent V L l hl) g ∧ ∀ r < 2 ^ (l + 1), ∀ e < 32, g (r * 32 + e) = upS (y e) (l + 1) r := by
  obtain ⟨f, hS, hf⟩ := h
  have h2 := lo_mono hT
  have h1 := lo_mono (show l + 1 ≤ l + 2 by omega)
  rw [lo_succ (l + 1)] at h2
  have h0 := lo_succ l
  refine ⟨_, (hS.get (level_le hl) h2).addf ((hS.get (level_le (by omega)) (by omega)).stack (hS.get (level_le (by omega)) (by omega)) _),
    fun r hr e he => funext fun j => ?_⟩
  rw [hf (l + 1) (by omega) r hr e he]
  show _ = _ + y e l (r % 2 ^ l) j
  congr 1
  by_cases hlt : r < 2 ^ l
  · rw [above_lt _ _ (row_lt hlt he), hf l (by omega) r hlt e he, Nat.mod_eq_of_lt hlt]
  · obtain ⟨q, rfl⟩ : ∃ q, r = 2 ^ l + q := ⟨r - 2 ^ l, by omega⟩
    have hq : q < 2 ^ l := by rw [pow_succ] at hr; omega
    rw [show (2 ^ l + q) * 32 + e = 2 ^ l * 32 + (q * 32 + e) by ring, above_add, hf l (by omega) q hq e he, Nat.add_mod_left,
      Nat.mod_eq_of_lt hq]

/-- The message sums of a level above the last one. -/
theorem Rep.innerSum {T : ℕ} (h : Holds V L T y) : (l : ℕ) → (hl : l + 2 ≤ 10) → (hT : l + 2 ≤ T) → (top : ℕ) → l < top →
    ∃ g, Rep (innerSum V L l hl) g ∧ ∀ r < 2 ^ l, ∀ e < 32, g (r * 32 + e) = aggS top (y e) l r
  | 0 => fun hl hT top htop => by
    obtain ⟨f, hS, hf⟩ := h
    have h2 : 96 ≤ lo T := lo_mono hT
    refine ⟨_, ((hS.get (by decide) (by omega)).addf (hS.get (by decide) (by omega))).addf (hS.get (by decide) (by omega)), fun r hr e he => funext fun j => ?_⟩
    obtain rfl : r = 0 := by simpa using hr
    have l0 : lo 0 = 0 := rfl
    have l1 : lo 1 = 32 := rfl
    have e0 := hf 0 (by omega) 0 (by decide) e he
    have e1 := hf 1 (by omega) 0 (by decide) e he
    have e2 := hf 1 (by omega) 1 (by decide) e he
    rw [l0] at e0
    rw [l1] at e1 e2
    have e2' : f (64 + (0 * 32 + e)) = y e 1 1 := by rw [← e2]; congr 1; ring
    simp only [aggS, if_pos htop, upS, if_true, e0, e1, e2']
    simp
  | l + 1 => fun hl hT top htop => by
    obtain ⟨g, hg, hgy⟩ := Rep.withParent (by omega) (by omega : l + 2 ≤ T) h
    obtain ⟨f, hS, hf⟩ := h
    have h2 := lo_mono hT
    rw [lo_succ (l + 1 + 1)] at h2
    have hp : 2 ^ (l + 1 + 1) = 2 ^ (l + 1) * 2 := pow_succ _ _
    refine ⟨_, (hg.addf (hS.get _ (by omega))).addf (hS.get _ (by omega)), fun r hr e he => funext fun j => ?_⟩
    rw [hgy r hr e he, hf (l + 1 + 1) (by omega) r (by omega) e he]
    rw [show lo (l + 1 + 1) + 2 ^ (l + 1) * 32 + (r * 32 + e) = lo (l + 1 + 1) + ((r + 2 ^ (l + 1)) * 32 + e) by ring,
      hf (l + 1 + 1) (by omega) _ (by omega) e he]
    rw [aggS, if_pos htop]

/-- The sums over neighbours, stored level by level. -/
theorem Holds.innerStores {T : ℕ} (h : Holds V L T y) (top : ℕ) : (c : ℕ) → (hc : c + 1 ≤ 10) → (hT : c + 1 ≤ T) → c ≤ top →
    Holds U (Tree.innerStores V L A c hc) c (fun e => aggS top (y e))
  | 0 => fun _ _ _ => holds_zero
  | c + 1 => fun hc hT htop => by
    obtain ⟨g, hg, hgy⟩ := Rep.innerSum h c hc hT top htop
    exact (Holds.innerStores h top c (by omega) (by omega) (by omega)).putLevel _ hg hgy

/-! ### A step -/

section

variable (hW : Holding W w)

include hW

/-- The features that the pooling reads, from the tree's rows. -/
theorem Rep.ftx {t : ℕ} (ht : t + 1 ≤ 10) (h : Holds V L (t + 1) y) :
    ∃ g, Rep (ftxV W V L t ht) g ∧ Tree (t + 1) g (fun e => ftx w (y e)) := by
  obtain ⟨f, hS, hf⟩ := h
  refine ⟨_, (((hS.get _ (by omega)).mm hW.preW1).lrelu hW.slope).mm hW.preW2, fun l hl r hr e he => ?_⟩
  show dot 128 _ _ = _
  rw [zero_add, hf l hl r hr e he]; rfl

variable {inv : Ideal .f32} {t : ℕ} (hinv : inv = (((2 ^ (t + 1) - 1 : ℕ) : ℝ)⁻¹ : ℝ))

include hinv

/-- The branching network's result. -/
theorem Rep.branch (ht : t + 2 ≤ 10) (h : Holds V L (t + 1) y) :
    ∃ g, Rep (branchV W V L inv t ht) g ∧ ∀ r < 2 ^ t, ∀ e < 32, g (r * 32 + e) = branchS w (glob w (y e) t) (y e) t r := by
  obtain ⟨x, hx, hxy⟩ := Rep.ftx hW (by omega) h
  obtain ⟨f, hS, hf⟩ := h
  have h1 := lo_succ t
  refine ⟨_, ((((hS.get (level_le (by omega)) (by omega)).mm (hW.brW1x.cast _)).addf ((Rep.gb hW hinv hx hxy).tileLevel t)).lrelu hW.slope).mm hW.brW2,
    fun r hr e he => ?_⟩
  show dot 144 _ _ = _
  rw [hf t (by omega) r hr e he, row_mod he]; rfl

/-- The new level's stores. -/
theorem Holds.branchStores (ht : t + 2 ≤ 10) (h : Holds V L (t + 1) y) :
    Holds V (branchStores W V L inv t ht) (t + 2) (fun e => grow w (glob w (y e) t) (y e) t) := by
  obtain ⟨g, hg, hgy⟩ := Rep.branch hW hinv ht h
  obtain ⟨f, hS, hf⟩ := h
  have hp : 2 ^ (t + 1) = 2 ^ t * 2 := pow_succ _ _
  have hl := level_le ht
  have hs := (hS.put ((hg.slice (n := 2 ^ t * 32) (m := 128) (o := 0) (p := 0) (slices2 (by omega) (by decide))).cast (Shape.shapeCasts_self _)) (by omega)).put
    ((hg.slice (n := 2 ^ t * 32) (m := 128) (o := 0) (p := 128) (slices2 (by omega) (by decide))).cast (Shape.shapeCasts_self _)) (by omega)
  have hn : lo (t + 2) = lo (t + 1) + 2 ^ t * 32 + 2 ^ t * 32 := by rw [lo_succ (t + 1), hp]; ring
  refine ⟨_, fun i j hi => hs i j (by omega), fun l hl r hr e he => funext fun j => ?_⟩
  · by_cases hlt : l = t + 1
    · subst hlt
      simp only [grow, if_true]
      by_cases hr' : r < 2 ^ t
      · have := row_lt hr' he
        rw [above_lt _ _ (by omega), above_add, zero_add, zero_add, hgy r hr' e he, Nat.mod_eq_of_lt hr', Nat.div_eq_of_lt hr', mul_zero, zero_add]
      · obtain ⟨q, rfl⟩ : ∃ q, r = 2 ^ t + q := ⟨r - 2 ^ t, by omega⟩
        have hq : q < 2 ^ t := by omega
        rw [show lo (t + 1) + ((2 ^ t + q) * 32 + e) = lo (t + 1) + 2 ^ t * 32 + (q * 32 + e) by ring, above_add, zero_add, hgy q hq e he,
          Nat.add_mod_left, Nat.mod_eq_of_lt hq, Nat.add_div_left _ (Nat.two_pow_pos t), Nat.div_eq_of_lt hq]
    · have h1 := lo_mono (show l + 1 ≤ t + 1 by omega)
      have h2 := row_lt hr he
      rw [lo_succ] at h1
      rw [above_lt _ _ (by omega), above_lt _ _ (by omega), hf l (by omega) r hr e he]
      simp only [grow, if_neg hlt]

end

/-- The globals' share of the messages, for a node. -/
theorem Rep.rowTerm {g : FVec Ideal (M2 32 144) .f32} {f : ℕ → ℕ → ℝ} (h : Rep g f) (t : ℕ) :
    ∃ q, Rep (rowTerm t g) q ∧ ∀ l < t + 2, ∀ r < 2 ^ l, ∀ e < 32, q (lo l + (r * 32 + e)) = fun j => mult (t + 1) l * f e j := by
  have h3 : Rep (times 0x40400000#32 g) (fun i j => 3 * f i j) := h.mulLeft (by
    show Ideal.ofBits .f32 0x40400000#32 = _
    simp [Ideal.ofBits, Ideal.ieee, -EReal.coe_mul]; norm_num)
  have h4 : Rep (times 0x40800000#32 g) (fun i j => 4 * f i j) := h.mulLeft (by
    show Ideal.ofBits .f32 0x40800000#32 = _
    simp [Ideal.ofBits, Ideal.ieee, -EReal.coe_mul]; norm_num)
  have h2 : Rep (times 0x40000000#32 g) (fun i j => 2 * f i j) := h.mulLeft (by
    show Ideal.ofBits .f32 0x40000000#32 = _
    simp [Ideal.ofBits, Ideal.ieee, -EReal.coe_mul]; norm_num)
  cases t with
  | zero =>
    refine ⟨_, h3.tile1.stack (h2.tileN 2) (stacks2 rfl), fun l hl r hr e he => funext fun j => ?_⟩
    rcases (show l = 0 ∨ l = 1 by omega) with rfl | rfl
    · obtain rfl : r = 0 := by simpa using hr
      rw [above_lt _ _ (by show 0 + (0 * 32 + e) < 32; omega)]
      simp [mult, show lo 0 = 0 from rfl]
    · rw [show lo 1 + (r * 32 + e) = 32 + (r * 32 + e) from rfl, above_add, row_mod he]
      simp [mult]
  | succ t =>
    refine ⟨_, h3.tile1.stack3 (h4.tileN (2 ^ (t + 2) - 2)) (h2.tileN (2 ^ (t + 2))) (stacks3 (by
      have : 2 ≤ 2 ^ (t + 2) := by have := Nat.one_le_two_pow (n := t); rw [pow_add]; omega
      have h : 2 ^ (t + 3) = 2 ^ (t + 2) * 2 := pow_succ _ _
      simp only [lo, h]; omega)), fun l hl r hr e he => funext fun j => ?_⟩
    cases l with
    | zero =>
      obtain rfl : r = 0 := by simpa using hr
      rw [above_lt _ _ (by show 0 + (0 * 32 + e) < 32; omega)]
      simp [mult, show lo 0 = 0 from rfl]
    | succ l =>
      have h1 := Nat.one_le_two_pow (n := l)
      have hp : 2 ^ (l + 1) = 2 ^ l * 2 := pow_succ _ _
      have e1 : lo (l + 1) + (r * 32 + e) = 32 + ((2 ^ (l + 1) - 2 + r) * 32 + e) := by simp only [lo]; omega
      rw [e1, above_add]
      by_cases hlt : l + 1 < t + 2
      · have h2 : 2 ^ (l + 1 + 1) ≤ 2 ^ (t + 2) := Nat.pow_le_pow_right (by decide) (by omega)
        have hp' : 2 ^ (l + 1 + 1) = 2 ^ (l + 1) * 2 := pow_succ _ _
        rw [above_lt _ _ (by omega), row_mod he]
        simp [mult, hlt]
      · obtain rfl : l = t + 1 := by omega
        rw [show (2 ^ (t + 1 + 1) - 2 + r) * 32 + e = (2 ^ (t + 2) - 2) * 32 + (r * 32 + e) by ring, above_add, row_mod he]
        simp [mult]

/-- A round of messages from the stored sums. -/
theorem Rep.gin (hW : Holding W w) {t : ℕ} (ht : t + 2 ≤ 10) {y : ℕ → Nodes} (hA : Holds U A (t + 2) (fun e => aggS (t + 1) (y e)))
    {g : FVec Ideal (M2 32 144) .f32} {s : ℕ → ℕ → ℝ} (hg : Rep g (fun e => ggS w (s e))) :
    ∃ q, Rep (ginV W U A g t ht) q ∧ Tree (t + 2) q (fun e => ginS w (s e) (t + 1) (y e)) := by
  obtain ⟨f, hS, hf⟩ := hA
  obtain ⟨q, hq, hqy⟩ := hg.rowTerm t
  refine ⟨_, ((((hS.get _ (by omega)).mm (hW.ginW1x.cast _)).addf hq).lrelu hW.slope).mm hW.ginW2, fun l hl r hr e he => ?_⟩
  show dot 144 _ _ = _
  rw [zero_add, hf l hl r hr e he, hqy l hl r hr e he]; rfl

/-- The sums' stores of a step. -/
theorem Holds.sumStores (hW : Holding W w) {inv : Ideal .f32} {t : ℕ} (hinv : inv = (((2 ^ (t + 1) - 1 : ℕ) : ℝ)⁻¹ : ℝ))
    (ht : t + 2 ≤ 10) (h : Holds V L (t + 1) y) :
    Holds U (sumStores W V L A inv t ht) (t + 2) (fun e => aggS (t + 1) (grow w (glob w (y e) t) (y e) t)) := by
  have hB := Holds.branchStores hW hinv ht h
  obtain ⟨g, hg, hgy⟩ := Rep.innerSum hB t ht (le_refl _) (t + 1) (by omega)
  obtain ⟨p, hp, hpy⟩ := Rep.withParent ht (le_refl _) hB
  have h0 : Holds U (Tree.innerStores V L A t (by omega)) t (fun e => aggS (t + 1) (grow w (glob w (y e) t) (y e) t)) :=
    (Holds.innerStores h (t + 1) t (by omega) (by omega) (by omega)).congr fun l hl r hr e he => funext fun j => by
      have e0 : ¬ l = t + 1 := by omega
      have e1 : ¬ l + 1 = t + 1 := by omega
      have e2 : ¬ l - 1 = t + 1 := by omega
      simp only [aggS, upS, grow, if_neg e0, if_neg e1, if_neg e2]
  refine (h0.putLevel _ hg hgy).putLevel _ hp fun r hr e he => (hpy r hr e he).trans (funext fun j => ?_)
  rw [aggS, if_neg (lt_irrefl _)]

/-- The features' stores of a step. -/
theorem Holds.stepStores (hW : Holding W w) {inv : Ideal .f32} {t : ℕ} (hinv : inv = (((2 ^ (t + 1) - 1 : ℕ) : ℝ)⁻¹ : ℝ))
    (ht : t + 2 ≤ 10) (h : Holds V L (t + 1) y) : Holds V (stepStores W V U L A inv t ht) (t + 2) (fun e => stepS w (y e) t) := by
  obtain ⟨x, hx, hxy⟩ := Rep.ftx hW (by omega) h
  obtain ⟨q, hq, hqy⟩ := Rep.gin hW ht (Holds.sumStores (A := A) (U := U) hW hinv ht h) (Rep.gg hW hinv hx hxy)
  exact Holds.putAll ht hq hqy

/-- The first round after the loop. -/
theorem Holds.roundStores (hW : Holding W w) {inv : Ideal .f32} (hinv : inv = (((2 ^ (9 + 1) - 1 : ℕ) : ℝ)⁻¹ : ℝ))
    (h : Holds V L 10 y) : Holds V (roundStores W V U L A inv) 10 (fun e => roundS w (y e)) := by
  obtain ⟨x, hx, hxy⟩ := Rep.ftx (t := 9) hW (by decide) h
  obtain ⟨p, hp, hpy⟩ := Rep.withParent (l := 8) (by decide) (by decide) h
  have hA : Holds U (roundSums V L A) 10 (fun e => aggS 9 (y e)) :=
    (Holds.innerStores h 9 9 (by decide) (by decide) (le_refl _)).putLevel _ hp fun r hr e he => (hpy r hr e he).trans (funext fun j => by
      rw [aggS, if_neg (lt_irrefl _)])
  obtain ⟨q, hq, hqy⟩ := Rep.gin hW (t := 8) (by decide) hA (Rep.gg hW hinv hx hxy)
  exact Holds.putAll (t := 8) (by decide) hq hqy

/-- The last round, at the leaves. -/
theorem Rep.last (hW : Holding W w) {inv : Ideal .f32} (hinv : inv = (((2 ^ (9 + 1) - 1 : ℕ) : ℝ)⁻¹ : ℝ))
    (h : Holds V L 10 y) : ∃ q, Rep (lastV W V L inv) q ∧ ∀ r < 512, ∀ e < 32, q (r * 32 + e) = roundS w (y e) 9 r := by
  obtain ⟨x, hx, hxy⟩ := Rep.ftx (t := 9) hW (by decide) h
  obtain ⟨p, hp, hpy⟩ := Rep.withParent (l := 8) (by decide) (by decide) h
  have hg : Rep (times 0x40000000#32 (ggV W inv 9 (ftxV W V L 9 (by decide)))) _ := (Rep.gg hW hinv hx hxy).mulLeft (q := 2) (by
    show Ideal.ofBits .f32 0x40000000#32 = _
    simp [Ideal.ofBits, Ideal.ieee, -EReal.coe_mul]; norm_num)
  refine ⟨_, (((hp.mm (hW.ginW1x.cast _)).addf (hg.tileN 512)).lrelu hW.slope).mm hW.ginW2c, fun r hr e he => ?_⟩
  show dot 144 _ _ = _
  rw [hpy r hr e he, row_mod he]
  have ea : aggS 9 (y e) 9 r = upS (y e) 9 r := funext fun j => by rw [aggS, if_neg (lt_irrefl _)]
  have em : mult 9 9 = 2 := by simp [mult]
  simp only [roundS, ginS, ea, em]

/-! ### The whole block -/

variable {x : FVec Ideal (M2 32 128) .f32} {s : ℕ → ℕ → ℝ} {inv : ℕ → Ideal .f32}

/-- The features after `t` steps. -/
theorem Holds.after (hW : Holding W w) (hinv : ∀ t ≤ 9, inv t = (((2 ^ (t + 1) - 1 : ℕ) : ℝ)⁻¹ : ℝ)) (hx : Rep x s) :
    (t : ℕ) → (ht : t + 1 ≤ 10) → Holds V (after W V U inv x t ht).1 (t + 1) (fun e => treeS w (s e) t)
  | 0 => fun ht => Holds.putLevel (l := 0) ht (L := []) holds_zero (hx.cast (Shape.shapeCasts_self _)) fun r hr e he => by
    obtain rfl : r = 0 := by simpa using hr
    rw [zero_mul, zero_add]; rfl
  | t + 1 => fun ht => Holds.stepStores hW (hinv t (by omega)) ht (Holds.after hW hinv hx t (by omega))

/-- A block's result, by leaf and event. -/
theorem Rep.block (hW : Holding W w) (hinv : ∀ t ≤ 9, inv t = (((2 ^ (t + 1) - 1 : ℕ) : ℝ)⁻¹ : ℝ)) (hx : Rep x s) :
    ∃ q, Rep (block W V U inv x) q ∧ ∀ r < 512, ∀ e < 32, q (r * 32 + e) = resultS w (s e) r :=
  Rep.last hW (hinv 9 (le_refl _)) (Holds.roundStores hW (hinv 9 (le_refl _)) (Holds.after hW hinv hx 9 (by decide)))

end

end Cert.Tree

end
-- ==== Proof.Block.lean ====
/- What the kernel's result array holds after all blocks, from what the input arrays hold. -/
module

public import Idealize.ShloMosaic.Lib.Pipeline.ValueKit
public import proofs.«01_k».proof.Proof.Gen.KernelIdeal.Frame
public import proofs.«01_k».proof.Proof.KernelRun
public import proofs.«01_k».proof.Proof.KernelValue

@[expose] public section

set_option maxRecDepth 65536

noncomputable section

namespace Cert.Tree

open Idealize.ShloMosaic Idealize.ShloMosaic.TcCoe Cert.KernelIdeal Cert.KernelIdeal.Gen

/-- A load of a whole buffer gives what the buffer holds. -/
theorem readBack {a b : ℕ} (M : Memref sig .tc .vmem (M2 a b) .f32) (hM : M.IsWhole) (x : FVec Ideal (M2 a b) .f32) (inb) :
    View.readAt (Elt Ideal) M.view (Rect.unit (s := M2 a b) ![0, 0] (M2 a b).size inb).toLoadRect (hM.unread x) = x := by
  refine (congrArg (fun y => View.ld y (Rect.unit (s := M2 a b) ![0, 0] (M2 a b).size inb)) (hM.read_unread (Val := Elt Ideal) x)).trans ?_
  exact View.ld_unit_lit (Val := Elt Ideal) (e := .f32) inb x (fun i => by match i with | ⟨0, _⟩ => rfl | ⟨1, _⟩ => rfl)

/-- A load of the first columns of a buffer gives these columns. -/
theorem Rep.readColumns {a b n : ℕ} {M : Memref sig .tc .vmem (M2 a b) .f32} {hM : M.IsWhole} {x : FVec Ideal (M2 a b) .f32}
    {f : ℕ → ℕ → ℝ} (h : Rep x f) (hn : n ≤ b) (inb) :
    Rep (View.readAt (Elt Ideal) M.view (Rect.unit (s := M2 a b) ![0, 0] (M2 a n).size inb).toLoadRect (hM.unread x)) f := fun i j => by
  refine (congrArg (fun y => View.ld y (Rect.unit (s := M2 a b) ![0, 0] (M2 a n).size inb) (ValueIdx.ix2 i j)) (hM.read_unread (Val := Elt Ideal) x)).trans ?_
  refine (View.ld_unit_apply_of (Val := Elt Ideal) (e := .f32) x ![0, 0] (M2 a n).size inb (ValueIdx.ix2 i j) (ValueIdx.ix2 i ⟨j, by omega⟩) (fun k => ?_)).trans (h _ _)
  match k with
  | ⟨0, _⟩ => exact (Nat.zero_add _).symm
  | ⟨1, _⟩ => exact (Nat.zero_add _).symm

/-- The word of 1 is 1. -/
theorem one_bits : (Scalar.ofBits .f32 0x3F800000#32 : Ideal .f32) = (((1 : ℝ)) : EReal) := by
  show Ideal.ofBits .f32 0x3F800000#32 = _
  simp [Ideal.ofBits, Ideal.ieee, -EReal.coe_mul]
  norm_num

/-- The named constants are the inverses of the numbers of nodes. -/
theorem inv_values (t : ℕ) (h : t ≤ 9) : inv (F := Ideal) t = (((2 ^ (t + 1) - 1 : ℕ) : ℝ)⁻¹ : ℝ) := by
  interval_cases t
  · exact one_bits.trans (by norm_num)
  all_goals
    unfold inv
    refine (IdealRules.named_const.ideal_named_scalar _ _ _ _ rfl).trans ?_
    norm_num

section

variable {m : (ℓ : Loc nD τ sig) → Buf (Elt Ideal) ℓ} {c : Dev nD} {w : Params} {x : ℕ → ℕ → ℝ}

/-- The kernel's input arrays hold the events' root features and the weights. -/
structure Entering (m : (ℓ : Loc nD τ sig) → Buf (Elt Ideal) ℓ) (c : Dev nD) (w : Params) (x : ℕ → ℕ → ℝ) : Prop where
  slope : (Scalar.ofBits .f32 0x3C23D70A#32 : Ideal .f32) = ((w.slope : ℝ) : EReal)
  root : Rep (a := 128) (b := 128) (V m c main_v0) x
  preW1 : Rep (a := 128) (b := 128) (V m c main_arg1) w.preW1
  preW2 : Rep (a := 128) (b := 128) (V m c main_arg3) w.preW2
  postW1 : Rep (a := 256) (b := 256) (V m c main_arg5) w.postW1
  postb1 : Rep (a := 1) (b := 256) (V m c main_v13) (fun _ => w.postb1)
  postWcat : Rep (a := 256) (b := 288) (V m c main_v5) (fun k j => if j < 144 then dot 16 (w.postW2 k) (fun q => w.brW1 (128 + q)) j
    else dot 16 (w.postW2 k) (fun q => w.ginW1 (128 + q)) (j - 144))
  postbcat : Rep (a := 1) (b := 288) (V m c main_v14) (fun _ j => if j < 144 then dot 16 w.postb2 (fun q => w.brW1 (128 + q)) j + w.brb1 j
    else dot 16 w.postb2 (fun q => w.ginW1 (128 + q)) (j - 144))
  brW1x : Rep (a := 128) (b := 144) (V m c main_v15) w.brW1
  brW2 : Rep (a := 144) (b := 256) (V m c main_arg11) w.brW2
  ginW1x : Rep (a := 128) (b := 144) (V m c main_v16) w.ginW1
  ginW2 : Rep (a := 144) (b := 128) (V m c main_arg15) w.ginW2

/-- Where the windows' blocks lie in their arrays. -/
theorem places : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![t.val, 0] :=
  (by decide +kernel : ∀ t : Fin grid0.N, _)

/-- The grid has four steps. -/
theorem few (t : Fin cfg0.N) : t.val < 4 := lt_of_lt_of_eq t.2 N_0

/-- A block of the root features: 32 events. -/
theorem Entering.rootBlock (h : Entering m c w x) (t : Fin cfg0.N) :
    Rep (a := 32) (b := 128) (iblk m c 0 t) (fun e => x (t.val * 32 + e)) := fun i j => by
  have := few t
  refine Eq.trans ?_ (h.root ⟨t.val * 32 + i, by omega⟩ j)
  blk_ext [iblk, places t]

set_option maxHeartbeats 2000000 in
/-- What a block loads from its windows are the weights. -/
theorem Entering.holding (h : Entering m c w x) (t : Fin cfg0.N)
    (arg2 : Memref sig .tc .vmem S128x128 .f32) (harg2 : arg2.IsWhole) (arg3 : Memref sig .tc .vmem S128x128 .f32) (harg3 : arg3.IsWhole)
    (arg4 : Memref sig .tc .vmem S256x256 .f32) (harg4 : arg4.IsWhole) (arg5 : Memref sig .tc .vmem S1x256 .f32) (harg5 : arg5.IsWhole)
    (arg6 : Memref sig .tc .vmem S256x288 .f32) (harg6 : arg6.IsWhole) (arg7 : Memref sig .tc .vmem S1x288 .f32) (harg7 : arg7.IsWhole)
    (arg8 : Memref sig .tc .vmem S128x144 .f32) (harg8 : arg8.IsWhole) (arg9 : Memref sig .tc .vmem S144x256 .f32) (harg9 : arg9.IsWhole)
    (arg10 : Memref sig .tc .vmem S128x144 .f32) (harg10 : arg10.IsWhole) (arg11 : Memref sig .tc .vmem S144x128 .f32) (harg11 : arg11.IsWhole) :
    Holding (loaded arg2 harg2 arg3 harg3 arg4 harg4 arg5 harg5 arg6 harg6 arg7 harg7 arg8 harg8 arg9 harg9 arg10 harg10 arg11 harg11
      (iblk m c 1 t) (iblk m c 2 t) (iblk m c 3 t) (iblk m c 4 t) (iblk m c 5 t) (iblk m c 6 t) (iblk m c 7 t) (iblk m c 8 t) (iblk m c 9 t)
      (iblk m c 10 t)) w where
  slope := h.slope
  preW1 := fun i j => (congrFun (readBack _ _ _ _) _).trans (Eq.trans (by blk_ext [iblk, places t]) (h.preW1 i j))
  preW2 := fun i j => (congrFun (readBack _ _ _ _) _).trans (Eq.trans (by blk_ext [iblk, places t]) (h.preW2 i j))
  postW1 := fun i j => (congrFun (readBack _ _ _ _) _).trans (Eq.trans (by blk_ext [iblk, places t]) (h.postW1 i j))
  postb1 := fun i j => (congrFun (readBack _ _ _ _) _).trans (Eq.trans (by blk_ext [iblk, places t]) (h.postb1 i j))
  postWcat := fun i j => (congrFun (readBack _ _ _ _) _).trans (Eq.trans (by blk_ext [iblk, places t]) (h.postWcat i j))
  postbcat := fun i j => (congrFun (readBack _ _ _ _) _).trans (Eq.trans (by blk_ext [iblk, places t]) (h.postbcat i j))
  brW1x := fun i j => (congrFun (readBack _ _ _ _) _).trans (Eq.trans (by blk_ext [iblk, places t]) (h.brW1x i j))
  brW2 := fun i j => (congrFun (readBack _ _ _ _) _).trans (Eq.trans (by blk_ext [iblk, places t]) (h.brW2 i j))
  ginW1x := fun i j => (congrFun (readBack _ _ _ _) _).trans (Eq.trans (by blk_ext [iblk, places t]) (h.ginW1x i j))
  ginW2 := fun i j => (congrFun (readBack _ _ _ _) _).trans (Eq.trans (by blk_ext [iblk, places t]) (h.ginW2 i j))
  ginW2c := Rep.readColumns (fun i j => Eq.trans (by blk_ext [iblk, places t]) (h.ginW2 i j)) (by decide) _

/-- What block `t` leaves in its part of the result. -/
theorem Entering.leaves (h : Entering m c w x) (t : Fin cfg0.N) :
    ∃ q, Rep (a := 16384) (b := 8) (outsAt0 m c t) q ∧ ∀ r < 512, ∀ e < 32, q (r * 32 + e) = resultS w (x (t.val * 32 + e)) r := by
  unfold outsAt0 out0_A_11
  rw [View.read_writes_junk_eq_canon, run_eq, View.canon_cons_unit_lit _ _ _ (fun i => by match i with | ⟨0, _⟩ => rfl | ⟨1, _⟩ => rfl)]
  exact Rep.block (h.holding t _ _ _ _ _ _ _ _ _ _ _ _ _ _ _ _ _ _ _ _) inv_values
    (fun i j => (congrFun (readBack _ _ _ _) _).trans (h.rootBlock t i j))

/-- The kernel's result array, row by row: block, node, event of the block. -/
theorem Entering.array (h : Entering m c w x) :
    Rep (a := 65536) (b := 8) ((dats m 0 c).arrAt 11 (cfgs 0).N)
      (fun i j => resultS w (x (i / 16384 * 32 + i % 32)) (i % 16384 / 32) j) := by
  have e : (dats m 0 c).arrAt 11 (cfgs 0).N = fun i : S65536x8.Idx =>
      ((resultS w (x ((i 0).val / 16384 * 32 + (i 0).val % 32)) ((i 0).val % 16384 / 32) (i 1).val : ℝ) : EReal) := by
    refine (dats m 0 c).arrAt_eq_of_covers 11 _ (by decide +kernel) fun t _ y => ?_
    blk_simp
    rw [after0_11]
    obtain ⟨q, hq, hv⟩ := h.leaves t
    obtain ⟨-, -, -, -, -, -, -, -, -, -, -, e11⟩ := places t
    have h0 : (y 0).val < 16384 := (y 0).2
    have h1 : (y 1).val < 8 := (y 1).2
    have e0 : win0_11.index t 0 = t.val := congrFun e11 0
    have e1 : win0_11.index t 1 = 0 := congrFun e11 1
    rw [e0, e1]
    refine (congrArg (outsAt0 m c t) (show y = ValueIdx.ix2 ⟨(y 0).val, h0⟩ ⟨(y 1).val, h1⟩ from
      funext fun a => by match a with | ⟨0, _⟩ => rfl | ⟨1, _⟩ => rfl)).trans ((hq ⟨(y 0).val, h0⟩ ⟨(y 1).val, h1⟩).trans ?_)
    have := hv ((y 0).val / 32) (by omega) ((y 0).val % 32) (by omega)
    rw [show (y 0).val / 32 * 32 + (y 0).val % 32 = (y 0).val by omega] at this
    show ((q (y 0).val (y 1).val : ℝ) : EReal) = _
    rw [this, show (t.val * 16384 + (y 0).val) / 16384 * 32 + (t.val * 16384 + (y 0).val) % 32 = t.val * 32 + (y 0).val % 32 by omega,
      show (t.val * 16384 + (y 0).val) % 16384 / 32 = (y 0).val / 32 by omega, show 0 * 8 + (y 1).val = (y 1).val by omega]
  intro i j
  rw [e]

end

end Cert.Tree

end
-- ==== Proof.RefModel.lean ====
/- The reference as a function of the number of nodes it works on: the tensors of a step of its loop and of a round of messages,
   written once for every step, and that the reference computes them. -/
module

public import Idealize.ShloMosaic.Lib.ShapeFacts
public import proofs.«01_k».proof.Proof.Gen.ReferenceIdeal.Run
public import proofs.«01_k».proof.Proof.KernelModel

@[expose] public section

noncomputable section

namespace Cert.Tree

open Idealize.ShloMosaic

variable {F : FTy → Type} [FloatOps F]

/-- The shape of a vector. -/
abbrev M1 (a : ℕ) : Shape := ⟨1, ![a]⟩

/-- The shape of a tensor of rank four. -/
abbrev M4 (a b c d : ℕ) : Shape := ⟨4, ![a, b, c, d]⟩

/-- The shape of a scalar. -/
abbrev M0 : Shape := ⟨0, ![]⟩

/-! ### Facts about shapes -/

/-- Two tensors joined along their middle axis. -/
theorem joins1 {a b b' c n : ℕ} (h : b + b' = n) : Shape.Concatenates [M3 a b c, M3 a b' c] (M3 a n c) 1 := by
  refine ⟨by simp, ?_, by simp [h]⟩
  intro s hs
  simp only [List.mem_cons, List.not_mem_nil, or_false] at hs
  rcases hs with rfl | rfl <;> exact ⟨rfl, fun x hx => by fin_cases x <;> first | exact absurd rfl hx | rfl⟩

/-- Two tensors joined along their last axis. -/
theorem joins2 {a b c c' n : ℕ} (h : c + c' = n) : Shape.Concatenates [M3 a b c, M3 a b c'] (M3 a b n) 2 := by
  refine ⟨by simp, ?_, by simp [h]⟩
  intro s hs
  simp only [List.mem_cons, List.not_mem_nil, or_false] at hs
  rcases hs with rfl | rfl <;> exact ⟨rfl, fun x hx => by fin_cases x <;> first | exact absurd rfl hx | rfl⟩

/-- Part of a tensor along its middle axis. -/
theorem slices3 {a b c b' o : ℕ} (h : o + b' ≤ b) : (M3 a b c).Slices ![0, o, 0] (M3 a b' c) :=
  ⟨rfl, fun x => by fin_cases x <;> simpa [Shape.size]⟩

/-- A scalar stretched over any shape. -/
theorem fills (t : Shape) : M0.BroadcastsInDim t ![] := ⟨fun x => x.elim0, fun x => x.elim0⟩

/-- A vector along the last axis of a tensor. -/
theorem lays1 (d : ℕ) : (M1 d).BroadcastsInDim (M3 1 1 d) ![2] :=
  ⟨fun x y _ => Subsingleton.elim x y, fun x => by fin_cases x; exact .inr rfl⟩

/-- A vector along the last axis of a matrix. -/
theorem lays2 (d : ℕ) : (M1 d).BroadcastsInDim (M2 1 d) ![1] :=
  ⟨fun x y _ => Subsingleton.elim x y, fun x => by fin_cases x; exact .inr rfl⟩

/-- A matrix along the first and the last axis of a tensor. -/
theorem lays3 (a d : ℕ) : (M2 a d).BroadcastsInDim (M3 a 1 d) ![0, 2] :=
  ⟨(by decide : Function.Injective (![0, 2] : Fin 2 → Fin 3)), fun x => by fin_cases x <;> exact .inr rfl⟩

/-- A tensor with one entry along its middle axis, stretched along it. -/
theorem stretches1 (a n d : ℕ) : (M3 a 1 d).BroadcastsInDim (M3 a n d) ![0, 1, 2] :=
  ⟨(by decide : Function.Injective (![0, 1, 2] : Fin 3 → Fin 3)), fun x => by fin_cases x <;> first | exact .inr rfl | exact .inl rfl⟩

/-- A row stretched over the other two axes of a tensor. -/
theorem stretches2 (a n d : ℕ) : (M3 1 1 d).BroadcastsInDim (M3 a n d) ![0, 1, 2] :=
  ⟨(by decide : Function.Injective (![0, 1, 2] : Fin 3 → Fin 3)), fun x => by fin_cases x <;> first | exact .inr rfl | exact .inl rfl⟩

/-- A row stretched over the rows of a matrix. -/
theorem stretches3 (a d : ℕ) : (M2 1 d).BroadcastsInDim (M2 a d) ![0, 1] :=
  ⟨(by decide : Function.Injective (![0, 1] : Fin 2 → Fin 2)), fun x => by fin_cases x <;> first | exact .inr rfl | exact .inl rfl⟩

/-- A tensor with a new axis of extent one. -/
theorem opens (a n d : ℕ) : (M3 a n d).BroadcastsInDim (M4 a n 1 d) ![0, 1, 3] :=
  ⟨(by decide : Function.Injective (![0, 1, 3] : Fin 3 → Fin 4)), fun x => by fin_cases x <;> exact .inr rfl⟩

/-- That axis stretched to two. -/
theorem doubles (a n d : ℕ) : (M4 a n 1 d).BroadcastsInDim (M4 a n 2 d) ![0, 1, 2, 3] :=
  ⟨(by decide : Function.Injective (![0, 1, 2, 3] : Fin 4 → Fin 4)), fun x => by fin_cases x <;> first | exact .inr rfl | exact .inl rfl⟩

/-- Pairs laid out one after the other. -/
theorem castsPairs (a n d m : ℕ) (h : n * 2 = m) : (M4 a n 2 d).ShapeCasts (M3 a m d) := by
  subst h; simp only [Shape.ShapeCasts, Shape.numel_rank3, Shape.numel]; simp [Fin.prod_univ_succ]; ring_nf; try simp

/-- Neighbours taken as pairs. -/
theorem castsNeighbours (a n d m : ℕ) (h : n * 2 = m) : (M3 a m d).ShapeCasts (M4 a n 2 d) := (castsPairs a n d m h).symm

/-- Rows cut in two. -/
theorem castsHalves (a b m : ℕ) (h : b * 2 = m) : (M3 a b 256).ShapeCasts (M3 a m 128) := by
  subst h; simp only [Shape.ShapeCasts, Shape.numel_rank3]; simp; ring

/-- A tensor's middle axis summed away. -/
theorem reducesMid (a n d : ℕ) : (M3 a n d).ReducesTo [1] (M2 a d) :=
  ⟨rfl, fun b => by fin_cases b <;> rfl⟩

/-- The axis of the pairs summed away. -/
theorem reducesPairs (a n d : ℕ) : (M4 a n 2 d).ReducesTo [2] (M3 a n d) :=
  ⟨rfl, fun b => by fin_cases b <;> rfl⟩

/-- A scalar has one entry. -/
theorem scalar_pos : 0 < M0.numel := Nat.one_pos

/-- A tensor's last axis against a matrix's first. -/
def dims3 (a n k d : ℕ) : DotDims (M3 a n k) (M2 k d) (M3 a n d) where
  lhsContracting := [2]
  rhsContracting := [0]
  lhsNonContracting := [0, 1]
  rhsNonContracting := [1]
  lhsBatch := []
  rhsBatch := []
  wf := ⟨rfl, by simp, rfl, by simp, by simp, by simp, (by decide : ([0, 1, 2] : List (Fin 3)).Perm (List.finRange 3)),
    (by decide : ([1, 0] : List (Fin 2)).Perm (List.finRange 2)), rfl, (by decide : 0 < 3), fun b => by fin_cases b <;> rfl⟩

/-! ### The arguments and the operations -/

/-- The reference's arguments. -/
structure Arguments (F : FTy → Type) where
  x : FVec F (M3 128 1 128) .f32
  preW1 : FVec F (M2 128 128) .f32
  preb1 : FVec F (M1 128) .f32
  preW2 : FVec F (M2 128 128) .f32
  preb2 : FVec F (M1 128) .f32
  postW1 : FVec F (M2 256 256) .f32
  postb1 : FVec F (M1 256) .f32
  postW2 : FVec F (M2 256 16) .f32
  postb2 : FVec F (M1 16) .f32
  brW1 : FVec F (M2 144 144) .f32
  brb1 : FVec F (M1 144) .f32
  brW2 : FVec F (M2 144 256) .f32
  brb2 : FVec F (M1 256) .f32
  ginW1 : FVec F (M2 144 144) .f32
  ginb1 : FVec F (M1 144) .f32
  ginW2 : FVec F (M2 144 128) .f32
  ginb2 : FVec F (M1 128) .f32

/-- A scalar over a shape. -/
def fill (t : Shape) (bits : BitVec 32) : FVec F t .f32 := broadcastInDim t ![] (fills t) (constant M0 .f32 bits)

/-- A linear layer on the last axis of a tensor. -/
def layer3 {n k d : ℕ} (v : FVec F (M3 128 n k) .f32) (w : FVec F (M2 k d) .f32) (b : FVec F (M1 d) .f32) : FVec F (M3 128 n d) .f32 :=
  addf (Host.dotGeneral (dims3 128 n k d) none v w)
    (broadcastInDim (M3 128 n d) ![0, 1, 2] (stretches2 128 n d) (broadcastInDim (M3 1 1 d) ![2] (lays1 d) b))

/-- A linear layer on the rows of a matrix. -/
def layer2 {k d : ℕ} (v : FVec F (M2 128 k) .f32) (w : FVec F (M2 k d) .f32) (b : FVec F (M1 d) .f32) : FVec F (M2 128 d) .f32 :=
  addf (Host.dotGeneral (DotDims.plain 128 k d) none v w)
    (broadcastInDim (M2 128 d) ![0, 1] (stretches3 128 d) (broadcastInDim (M2 1 d) ![1] (lays2 d) b))

/-- The leaky rectifier by cases. -/
def leaky {s : Shape} (v : FVec F s .f32) : FVec F s .f32 :=
  select (cmpf .oge v (fill s 0x00000000#32)) v (mulf (fill s 0x3C23D70A#32) v)

/-- The globals of each event at each node. -/
def spread (n : ℕ) (g : FVec F (M2 128 16) .f32) : FVec F (M3 128 n 16) .f32 :=
  broadcastInDim (M3 128 n 16) ![0, 1, 2] (stretches1 128 n 16) (broadcastInDim (M3 128 1 16) ![0, 2] (lays3 128 16) g)

/-- The nodes' features with their event's globals beside them. -/
def attach {n : ℕ} (v : FVec F (M3 128 n 128) .f32) (u : FVec F (M3 128 n 16) .f32) : FVec F (M3 128 n 144) .f32 :=
  concatenate (M3 128 n 144) 2 [⟨M3 128 n 128, v⟩, ⟨M3 128 n 16, u⟩] (joins2 rfl)

/-- The mean and the maximum of the nodes' features. -/
def pooling {n : ℕ} (bits : BitVec 32) (v : FVec F (M3 128 n 128) .f32) : FVec F (M2 128 256) .f32 :=
  concatenate (M2 128 256) 1
    [⟨M2 128 128, Host.divf (Host.reduceAdd v (constant M0 .f32 0x00000000#32) (reducesMid 128 n 128) scalar_pos) (fill (M2 128 128) bits)⟩,
     ⟨M2 128 128, Host.reduce FloatOps.maximumf v (constant M0 .f32 0xFF800000#32) (reducesMid 128 n 128) scalar_pos⟩] (beside2 rfl)

/-- The parents' features at each node. -/
def parents {n m N : ℕ} (hm : n * 2 = m) (hN : 1 + m = N) (h : FVec F (M3 128 N 144) .f32) : FVec F (M3 128 N 144) .f32 :=
  concatenate (M3 128 N 144) 1
    [⟨M3 128 1 144, fill (M3 128 1 144) 0x00000000#32⟩,
     ⟨M3 128 m 144, shapeCast (M3 128 m 144) (broadcastInDim (M4 128 n 2 144) ![0, 1, 2, 3] (doubles 128 n 144)
        (broadcastInDim (M4 128 n 1 144) ![0, 1, 3] (opens 128 n 144)
          (extractStridedSlice (M3 128 n 144) ![0, 0, 0] h (slices3 (by omega))))) (castsPairs 128 n 144 m hm)⟩] (joins1 hN)

/-- The sum of the children's features at each node. -/
def offspring {n m b N : ℕ} (hm : n * 2 = m) (hN : 1 + m = N) (hb : n + b = N) (h : FVec F (M3 128 N 144) .f32) :
    FVec F (M3 128 N 144) .f32 :=
  concatenate (M3 128 N 144) 1
    [⟨M3 128 n 144, Host.reduceAdd (shapeCast (M4 128 n 2 144) (extractStridedSlice (M3 128 m 144) ![0, 1, 0] h (slices3 (by omega)))
        (castsNeighbours 128 n 144 m hm)) (constant M0 .f32 0x00000000#32) (reducesPairs 128 n 144) scalar_pos⟩,
     ⟨M3 128 b 144, fill (M3 128 b 144) 0x00000000#32⟩] (joins1 hb)

/-- The tree with a new level: each node of the last level, as its children's features in one row, gives two. -/
def extend {n b c N : ℕ} (hc : b * 2 = c) (hN : n + c = N) (v : FVec F (M3 128 n 128) .f32) (u : FVec F (M3 128 b 256) .f32) :
    FVec F (M3 128 N 128) .f32 :=
  concatenate (M3 128 N 128) 1 [⟨M3 128 n 128, v⟩, ⟨M3 128 c 128, shapeCast (M3 128 c 128) u (castsHalves 128 b c hc)⟩] (joins1 hN)

variable (A : Arguments F)

/-- First layer of the network in front of the pooling. -/
def pre1 {n : ℕ} (v : FVec F (M3 128 n 128) .f32) : FVec F (M3 128 n 128) .f32 := layer3 v A.preW1 A.preb1

/-- What a node brings to the pooling, from that layer. -/
def brings {n : ℕ} (v : FVec F (M3 128 n 128) .f32) : FVec F (M3 128 n 128) .f32 := layer3 (leaky v) A.preW2 A.preb2

/-- First layer behind the pooling. -/
def post1 {n : ℕ} (bits : BitVec 32) (v : FVec F (M3 128 n 128) .f32) : FVec F (M2 128 256) .f32 := layer2 (pooling bits v) A.postW1 A.postb1

/-- The globals, from that layer. -/
def globals (v : FVec F (M2 128 256) .f32) : FVec F (M2 128 16) .f32 := layer2 (leaky v) A.postW2 A.postb2

/-- First layer of the branching network, on the last level's nodes. -/
def branch1 {b : ℕ} (v : FVec F (M3 128 b 128) .f32) (u : FVec F (M3 128 b 16) .f32) : FVec F (M3 128 b 144) .f32 :=
  layer3 (attach v u) A.brW1 A.brb1

/-- The grown tree with its globals. -/
def grown {n b c N : ℕ} (hc : b * 2 = c) (hN : n + c = N) (v : FVec F (M3 128 n 128) .f32) (u : FVec F (M3 128 b 144) .f32)
    (g : FVec F (M2 128 16) .f32) : FVec F (M3 128 N 144) .f32 :=
  attach (extend hc hN v (layer3 (leaky u) A.brW2 A.brb2)) (spread N g)

/-- First layer of the message network. -/
def message1 {n m b N : ℕ} (hm : n * 2 = m) (hN : 1 + m = N) (hb : n + b = N) (h : FVec F (M3 128 N 144) .f32) :
    FVec F (M3 128 N 144) .f32 :=
  layer3 (addf h (addf (parents hm hN h) (offspring hm hN hb h))) A.ginW1 A.ginb1

/-- The nodes' new features, from that layer. -/
def renewed {n : ℕ} (v : FVec F (M3 128 n 144) .f32) : FVec F (M3 128 n 128) .f32 := layer3 (leaky v) A.ginW2 A.ginb2

/-! ### A step and a round -/

/-- The numbers of nodes, as the mean divides by them. -/
def counts : List (BitVec 32) :=
  [0x3F800000#32, 0x40400000#32, 0x40E00000#32, 0x41700000#32, 0x41F80000#32, 0x427C0000#32, 0x42FE0000#32, 0x437F0000#32, 0x43FF8000#32,
    0x447FC000#32]

/-- The number of nodes after `t` steps, as the mean divides by it. -/
def count (t : ℕ) : BitVec 32 := counts.getD t 0#32

/-- The last level's nodes. -/
def lastLevel : (t : ℕ) → FVec F (M3 128 (2 ^ (t + 1) - 1) 128) .f32 → FVec F (M3 128 (2 ^ t) 128) .f32
  | 0, v => v
  | t + 1, v => extractStridedSlice (M3 128 (2 ^ (t + 1)) 128) ![0, 2 ^ (t + 1) - 1, 0] v (slices3 (by
      have := Nat.one_le_two_pow (n := t + 1); rw [pow_succ 2 (t + 1)]; omega))

/-- The globals at them. -/
def spreadLast : (t : ℕ) → FVec F (M2 128 16) .f32 → FVec F (M3 128 (2 ^ t) 16) .f32
  | 0, g => broadcastInDim (M3 128 1 16) ![0, 2] (lays3 128 16) g
  | t + 1, g => spread (2 ^ (t + 1)) g

/-- The globals of a tree of `n` nodes. -/
def globalsOf {n : ℕ} (bits : BitVec 32) (v : FVec F (M3 128 n 128) .f32) : FVec F (M2 128 16) .f32 :=
  globals A (post1 A bits (brings A (pre1 A v)))

/-- Each node of a level has two children. -/
theorem kids (t : ℕ) : 2 ^ t * 2 = 2 ^ (t + 1) := (pow_succ 2 t).symm

/-- The nodes with the next level added. -/
theorem nodes_grow (t : ℕ) : 2 ^ (t + 1) - 1 + 2 ^ (t + 1) = 2 ^ (t + 2) - 1 := by
  have := Nat.one_le_two_pow (n := t + 1); rw [pow_succ 2 (t + 1)]; omega

/-- The children of the inner nodes are all the nodes but the root. -/
theorem inner_pairs (t : ℕ) : (2 ^ (t + 1) - 1) * 2 = 2 ^ (t + 2) - 2 := by rw [pow_succ 2 (t + 1)]; omega

/-- The root and the others are all the nodes. -/
theorem root_and_rest (t : ℕ) : 1 + (2 ^ (t + 2) - 2) = 2 ^ (t + 2) - 1 := by
  have := Nat.one_le_two_pow (n := t + 1); rw [pow_succ 2 (t + 1)]; omega

/-- First layer of the message network on a tree whose last level is `t + 1`. -/
def messages (t : ℕ) (h : FVec F (M3 128 (2 ^ (t + 2) - 1) 144) .f32) : FVec F (M3 128 (2 ^ (t + 2) - 1) 144) .f32 :=
  message1 A (inner_pairs t) (root_and_rest t) (nodes_grow t) h

/-- The grown tree with its globals, from the tree and its globals. -/
def grownOf (t : ℕ) (v : FVec F (M3 128 (2 ^ (t + 1) - 1) 128) .f32) (g : FVec F (M2 128 16) .f32) :
    FVec F (M3 128 (2 ^ (t + 2) - 1) 144) .f32 :=
  grown A (kids t) (nodes_grow t) v (branch1 A (lastLevel t v) (spreadLast t g)) g

/-- A step of the loop. -/
def stepR (t : ℕ) (v : FVec F (M3 128 (2 ^ (t + 1) - 1) 128) .f32) : FVec F (M3 128 (2 ^ (t + 2) - 1) 128) .f32 :=
  renewed A (messages A t (grownOf A t v (globalsOf A (count t) v)))

/-- The tree after `t` steps. -/
def treeR : (t : ℕ) → FVec F (M3 128 (2 ^ (t + 1) - 1) 128) .f32
  | 0 => A.x
  | t + 1 => stepR A t (treeR t)

/-- A round of messages on the whole tree. -/
def roundR (v : FVec F (M3 128 1023 128) .f32) : FVec F (M3 128 1023 128) .f32 :=
  renewed A (messages A 8 (attach v (spread 1023 (globalsOf A (count 9) v))))

/-- The leaves' first features. -/
theorem leavesFit : (M3 128 1023 128).Slices ![0, 511, 0] (M3 128 512 3) := ⟨rfl, fun x => by fin_cases x <;> decide⟩

/-- The result: three features of the leaves after two more rounds. -/
def resultR : FVec F (M3 128 512 3) .f32 :=
  extractStridedSlice (M3 128 512 3) ![0, 511, 0] (roundR A (roundR A (treeR A 9))) leavesFit

/-! ### What the reference computes -/

section

open Cert.ReferenceIdeal Cert.ReferenceIdeal.Gen Cert.ReferenceIdeal.Value Idealize.ShloMosaic.TcCoe

variable (V : Valuation τ sig (Elt F))

/-- The reference's arguments from the buffers. -/
def argumentsOf : Arguments F where
  x := V (Proc.devRef .tc main_arg0)
  preW1 := V (Proc.devRef .tc main_arg1)
  preb1 := V (Proc.devRef .tc main_arg2)
  preW2 := V (Proc.devRef .tc main_arg3)
  preb2 := V (Proc.devRef .tc main_arg4)
  postW1 := V (Proc.devRef .tc main_arg5)
  postb1 := V (Proc.devRef .tc main_arg6)
  postW2 := V (Proc.devRef .tc main_arg7)
  postb2 := V (Proc.devRef .tc main_arg8)
  brW1 := V (Proc.devRef .tc main_arg9)
  brb1 := V (Proc.devRef .tc main_arg10)
  brW2 := V (Proc.devRef .tc main_arg11)
  brb2 := V (Proc.devRef .tc main_arg12)
  ginW1 := V (Proc.devRef .tc main_arg13)
  ginb1 := V (Proc.devRef .tc main_arg14)
  ginW2 := V (Proc.devRef .tc main_arg15)
  ginb2 := V (Proc.devRef .tc main_arg16)

/-- One more step. -/
theorem treeR_next {A : Arguments F} {t : ℕ} {v : FVec F (M3 128 (2 ^ (t + 1) - 1) 128) .f32} {u : FVec F (M3 128 (2 ^ (t + 2) - 1) 128) .f32}
    (h : v = treeR A t) (hu : u = stepR A t v) : u = treeR A (t + 1) := by rw [hu, h]; rfl

/-- The reference's tree after the loop. -/
theorem reference_tree : res_main_v708 V = treeR (argumentsOf V) 9 := by
  have h0 : (argumentsOf V).x = treeR (argumentsOf V) 0 := rfl
  have h1 := treeR_next (A := argumentsOf V) (t := 0) h0 (show res_main_v76 V = stepR (argumentsOf V) 0 ((argumentsOf V).x) from rfl)
  have h2 := treeR_next (A := argumentsOf V) (t := 1) h1 (show res_main_v155 V = stepR (argumentsOf V) 1 (res_main_v76 V) from rfl)
  have h3 := treeR_next (A := argumentsOf V) (t := 2) h2 (show res_main_v234 V = stepR (argumentsOf V) 2 (res_main_v155 V) from rfl)
  have h4 := treeR_next (A := argumentsOf V) (t := 3) h3 (show res_main_v313 V = stepR (argumentsOf V) 3 (res_main_v234 V) from rfl)
  have h5 := treeR_next (A := argumentsOf V) (t := 4) h4 (show res_main_v392 V = stepR (argumentsOf V) 4 (res_main_v313 V) from rfl)
  have h6 := treeR_next (A := argumentsOf V) (t := 5) h5 (show res_main_v471 V = stepR (argumentsOf V) 5 (res_main_v392 V) from rfl)
  have h7 := treeR_next (A := argumentsOf V) (t := 6) h6 (show res_main_v550 V = stepR (argumentsOf V) 6 (res_main_v471 V) from rfl)
  have h8 := treeR_next (A := argumentsOf V) (t := 7) h7 (show res_main_v629 V = stepR (argumentsOf V) 7 (res_main_v550 V) from rfl)
  have h9 := treeR_next (A := argumentsOf V) (t := 8) h8 (show res_main_v708 V = stepR (argumentsOf V) 8 (res_main_v629 V) from rfl)
  exact h9

/-- The reference's tree after the two rounds. -/
theorem reference_rounds :
    renewed (argumentsOf V) (res_main_v819 V) = roundR (argumentsOf V) (roundR (argumentsOf V) (treeR (argumentsOf V) 9)) := by
  have h : res_main_v768 V = roundR (argumentsOf V) (res_main_v708 V) := rfl
  have h' : renewed (argumentsOf V) (res_main_v819 V) = roundR (argumentsOf V) (res_main_v768 V) := rfl
  rw [h', h, reference_tree]

end

end Cert.Tree

end
-- ==== Proof.RefRep.lean ====
/- When a tensor over the extended reals holds given real numbers, and that each operation of the reference keeps it so. -/
module

public import Idealize.ShloMosaic.Lib.IdealHost
public import Idealize.ShloMosaic.Lib.StackMember
public import proofs.«01_k».proof.Proof.RefModel
public import proofs.«01_k».proof.Proof.Rep

@[expose] public section

noncomputable section

namespace Cert.Tree

open Idealize.ShloMosaic Idealize.ShloMosaic.ValueIdx Finset

/-- A tensor holds the real numbers `f`. -/
def Rep3 {a b c : ℕ} (v : FVec Ideal (M3 a b c) .f32) (f : ℕ → ℕ → ℕ → ℝ) : Prop :=
  ∀ (e : Fin a) (i : Fin b) (j : Fin c), v (ix3 e i j) = ((f e i j : ℝ) : EReal)

/-- A vector holds the real numbers `f`. -/
def Rep1 {a : ℕ} (v : FVec Ideal (M1 a) .f32) (f : ℕ → ℝ) : Prop := ∀ j : Fin a, v (ix1 j) = ((f j : ℝ) : EReal)

/-- The same, with equal values. -/
theorem Rep3.congr {a b c : ℕ} {v : FVec Ideal (M3 a b c) .f32} {f g : ℕ → ℕ → ℕ → ℝ} (h : Rep3 v f)
    (q : ∀ e < a, ∀ i < b, ∀ j < c, f e i j = g e i j) : Rep3 v g := fun e i j => (h e i j).trans (by rw [q e e.2 i i.2 j j.2])

/-! ### The reductions -/

/-- The maximum of finitely many real numbers, from the least extended real. -/
theorem sup_coe (f : ℕ → ℝ) (n : ℕ) :
    (univ : Finset (Fin (n + 1))).sup (fun k => ((f k : ℝ) : EReal)) = ((agg max f n : ℝ) : EReal) := by
  induction n with
  | zero => simp [agg]
  | succ n ih =>
    rw [Fin.univ_castSuccEmb, sup_cons, sup_map]
    have : ((fun k : Fin (n + 1 + 1) => ((f k : ℝ) : EReal)) ∘ Fin.castSuccEmb) = fun k : Fin (n + 1) => ((f k : ℝ) : EReal) := rfl
    rw [this, ih, sup_comm]
    exact (EReal.coe_strictMono.monotone.map_max).symm

/-- A sum as the value it combines to. -/
theorem sum_agg (f : ℕ → ℝ) (n : ℕ) : ∑ k ∈ range (n + 1), f k = agg (· + ·) f n := by
  induction n with
  | zero => simp [agg]
  | succ n ih => rw [sum_range_succ, ih]; rfl

/-- The word of minus infinity is minus infinity. -/
theorem ofBits_least : (Ideal.ofBits .f32 0xFF800000#32 : EReal) = ⊥ := by simp [Ideal.ofBits, Ideal.ieee]

/-- The middle axis of a tensor can be reduced. -/
theorem reducesMid' (a n d : ℕ) (ha : 0 < 2 := by decide) : (M3 a n d).Reduces [1] (M2 a d) :=
  ⟨rfl, ha, fun b => by fin_cases b <;> rfl⟩

/-- The axis of the pairs can be reduced. -/
theorem reducesPairs' (a n d : ℕ) (ha : 0 < 3 := by decide) : (M4 a n 2 d).Reduces [2] (M3 a n d) :=
  ⟨rfl, ha, fun b => by fin_cases b <;> rfl⟩

/-- Where a reduction over the middle axis reads. -/
theorem lift_mid {a n d : ℕ} (e : Fin a) (j : Fin d) (k : Fin n) : (reducesMid' a n d).lift (ix2 e j) k = ix3 e k j := by
  funext x; apply Fin.ext
  match x with
  | ⟨0, _⟩ => rfl
  | ⟨1, _⟩ => rfl
  | ⟨2, _⟩ => rfl

/-- Where a reduction over the pairs reads. -/
theorem lift_pairs {a n d : ℕ} (e : Fin a) (i : Fin n) (j : Fin d) (k : Fin 2) :
    (reducesPairs' a n d).lift (ix3 e i j) k = ix4 e i k j := by
  funext x; apply Fin.ext
  match x with
  | ⟨0, _⟩ => rfl
  | ⟨1, _⟩ => rfl
  | ⟨2, _⟩ => rfl
  | ⟨3, _⟩ => rfl

/-- The word of 0 is 0. -/
theorem zero_bits : (constant (F := Ideal) M0 .f32 0x00000000#32) (Shape.Idx.first scalar_pos) = 0 := Ideal.ofBits_zero_f32

section

variable {n : ℕ} {v : FVec Ideal (M3 128 n 128) .f32} {f : ℕ → ℕ → ℕ → ℝ}

/-- The sum over the nodes. -/
theorem Rep3.sumOver (hn : 0 < n) (h : Rep3 v f) :
    Rep (Host.reduceAdd v (constant M0 .f32 0x00000000#32) (reducesMid 128 n 128) scalar_pos) (fun e j => agg (· + ·) (fun i => f e i j) (n - 1)) :=
  fun e j => by
  rw [hostReduceAdd_apply, Ideal.hostReduceAdd_single _ (reducesMid' 128 n 128), zero_bits, zero_add]
  obtain ⟨n, rfl⟩ : ∃ m, n = m + 1 := ⟨n - 1, by omega⟩
  rw [Nat.add_sub_cancel]
  refine Eq.trans ?_ (congrArg _ (sum_agg (fun i => f e i j) n))
  rw [coe_sum_range]
  exact sum_congr rfl fun k _ => (congrArg v (lift_mid e j k)).trans (h e k j)

/-- The maximum over the nodes. -/
theorem Rep3.maxOver (hn : 0 < n) (h : Rep3 v f) :
    Rep (Host.reduce FloatOps.maximumf v (constant M0 .f32 0xFF800000#32) (reducesMid 128 n 128) scalar_pos)
      (fun e j => agg Max.max (fun i => f e i j) (n - 1)) := fun e j => by
  rw [Host.reduce_eq_fold_single FloatOps.maximumf v _ (reducesMid 128 n 128) (reducesMid' 128 n 128) scalar_pos]
  obtain ⟨n, rfl⟩ : ∃ m, n = m + 1 := ⟨n - 1, by omega⟩
  rw [Nat.add_sub_cancel]
  refine Eq.trans ?_ (sup_coe (fun i => f e i j) n)
  have h0 : (constant (F := Ideal) M0 .f32 0xFF800000#32) (Shape.Idx.first scalar_pos) = (⊥ : EReal) := ofBits_least
  rw [h0]
  refine Finset.fold_congr (op := FloatOps.maximumf (F := Ideal) (φ := .f32)) fun k _ => ?_
  exact (congrArg v (lift_mid e j k)).trans (h e k j)

end

/-! ### Pointwise operations -/

/-- An entry of a filled tensor. -/
theorem fill_apply {s : Shape} (bits : BitVec 32) (i : s.Idx) : fill (F := Ideal) s bits i = Ideal.ofBits .f32 bits := by
  unfold fill
  rw [broadcastInDim_apply _ _ _ i ix0 (fun a => a.elim0)]; rfl

/-- The leaky rectifier. -/
theorem leaky_apply {w : Params} (hs : (Scalar.ofBits .f32 0x3C23D70A#32 : Ideal .f32) = ((w.slope : ℝ) : EReal)) (h0 : 0 ≤ w.slope)
    (h1 : w.slope ≤ 1) {s : Shape} {v : FVec Ideal s .f32} {i : s.Idx} {y : ℝ} (h : v i = ((y : ℝ) : EReal)) :
    leaky v i = ((lr w y : ℝ) : EReal) := by
  have hm : mulf (fill s 0x3C23D70A#32) v i = ((w.slope * y : ℝ) : EReal) := by
    show fill (F := Ideal) s 0x3C23D70A#32 i * v i = _
    rw [fill_apply, h, EReal.coe_mul]; exact congrArg (· * _) hs
  have hc : cmpf .oge v (fill s 0x00000000#32) i = BitVec.ofBool (decide ((0 : ℝ) ≤ y)) := by
    show Ideal.cmp .oge (v i) (fill (F := Ideal) s 0x00000000#32 i) = _
    rw [fill_apply, h, Ideal.ofBits_zero_f32]
    show BitVec.ofBool (decide ((0 : EReal) ≤ ((y : ℝ) : EReal))) = _
    simp only [EReal.coe_nonneg]
  unfold leaky lr
  show (if cmpf .oge v (fill s 0x00000000#32) i = 1#1 then v i else mulf (fill s 0x3C23D70A#32) v i) = _
  rw [hc, hm, h]
  by_cases hy : 0 ≤ y
  · rw [if_pos (by simp [hy]), max_eq_left (by nlinarith)]
  · rw [if_neg (by simp [hy]), max_eq_right (by nlinarith)]

section

variable {a b c : ℕ} {v v' : FVec Ideal (M3 a b c) .f32} {f f' : ℕ → ℕ → ℕ → ℝ}

/-- The sum of two tensors. -/
theorem Rep3.addf (h : Rep3 v f) (h' : Rep3 v' f') : Rep3 (addf v v') (fun e i j => f e i j + f' e i j) := fun e i j => by
  show v (ix3 e i j) + v' (ix3 e i j) = _
  rw [h, h', ← EReal.coe_add]

/-- A matrix with a number for each pair divided by a whole number. -/
theorem Rep.div {v : FVec Ideal (M2 a b) .f32} {f : ℕ → ℕ → ℝ} {bits : BitVec 32} {n : ℕ} (h : Rep v f)
    (hb : (Ideal.ofBits .f32 bits : EReal) = ((n : ℝ) : EReal)) (hn : 0 < n) :
    Rep (Host.divf v (fill (M2 a b) bits)) (fun i j => f i j * (n : ℝ)⁻¹) := fun i j => by
  rw [hostDivf_apply, fill_apply, h, hb]
  refine (Ideal.div_coe (y := (n : ℝ)) (by exact_mod_cast hn.ne') _).trans ?_
  rw [one_div, ← EReal.coe_mul]

/-! ### Layout -/

/-- Two tensors joined along their middle axis. -/
theorem Rep3.join1 {m n : ℕ} {v' : FVec Ideal (M3 a m c) .f32} (h : Rep3 v f) (h' : Rep3 v' f')
    (hc : Shape.Concatenates [M3 a b c, M3 a m c] (M3 a n c) 1) :
    Rep3 (concatenate (M3 a n c) 1 [⟨M3 a b c, v⟩, ⟨M3 a m c, v'⟩] hc) (fun e i j => if i < b then f e i j else f' e (i - b) j) :=
  fun e i j => by
  have hm : b + m = n := by have := hc.2.2; simpa using this
  by_cases hi : i.val < b
  · rw [concatenate_pair_apply_left 1 v v' hc (ix3 e i j) rfl (ix3 e ⟨i, hi⟩ j)
      (fun x => by match x with | ⟨0, _⟩ => rfl | ⟨1, _⟩ => rfl | ⟨2, _⟩ => rfl), h]
    exact congrArg _ (if_pos hi).symm
  · rw [concatenate_pair_apply_right 1 v v' hc (ix3 e i j) rfl rfl (ix3 e ⟨i - b, by omega⟩ j)
      (fun x hx => by match x with | ⟨0, _⟩ => rfl | ⟨1, _⟩ => exact absurd rfl hx | ⟨2, _⟩ => rfl)
      (by show (i.val - b) + b = i.val; omega), h']
    exact congrArg _ (if_neg hi).symm

/-- Two tensors joined along their last axis. -/
theorem Rep3.join2 {m n : ℕ} {v' : FVec Ideal (M3 a b m) .f32} (h : Rep3 v f) (h' : Rep3 v' f')
    (hc : Shape.Concatenates [M3 a b c, M3 a b m] (M3 a b n) 2) :
    Rep3 (concatenate (M3 a b n) 2 [⟨M3 a b c, v⟩, ⟨M3 a b m, v'⟩] hc) (fun e i j => if j < c then f e i j else f' e i (j - c)) :=
  fun e i j => by
  have hm : c + m = n := by have := hc.2.2; simpa using this
  by_cases hi : j.val < c
  · rw [concatenate_pair_apply_left 2 v v' hc (ix3 e i j) rfl (ix3 e i ⟨j, hi⟩)
      (fun x => by match x with | ⟨0, _⟩ => rfl | ⟨1, _⟩ => rfl | ⟨2, _⟩ => rfl), h]
    exact congrArg _ (if_pos hi).symm
  · rw [concatenate_pair_apply_right 2 v v' hc (ix3 e i j) rfl rfl (ix3 e i ⟨j - c, by omega⟩)
      (fun x hx => by match x with | ⟨0, _⟩ => rfl | ⟨1, _⟩ => rfl | ⟨2, _⟩ => exact absurd rfl hx)
      (by show (j.val - c) + c = j.val; omega), h']
    exact congrArg _ (if_neg hi).symm

/-- Part of a tensor along its middle axis. -/
theorem Rep3.slice {o m : ℕ} (h : Rep3 v f) (hs : (M3 a b c).Slices ![0, o, 0] (M3 a m c)) :
    Rep3 (extractStridedSlice (M3 a m c) ![0, o, 0] v hs) (fun e i j => f e (o + i) j) := fun e i j => by
  have h1 : o + m ≤ b := hs.2 1
  rw [extractStridedSlice_apply _ v hs (ix3 e i j) (ix3 e ⟨o + i, by omega⟩ j) (fun x => by
    match x with
    | ⟨0, _⟩ => exact (Nat.zero_add _).symm
    | ⟨1, _⟩ => rfl
    | ⟨2, _⟩ => exact (Nat.zero_add _).symm), h]

/-- The zero tensor. -/
theorem Rep3.zero : Rep3 (fill (M3 a b c) 0x00000000#32) (fun _ _ _ => 0) := fun e i j => by
  rw [fill_apply, Ideal.ofBits_zero_f32]; rfl

/-- A vector along the last axis of a tensor. -/
theorem Rep1.bias3 {b : FVec Ideal (M1 c) .f32} {g : ℕ → ℝ} (n : ℕ) (h : Rep1 b g) :
    Rep3 (broadcastInDim (M3 128 n c) ![0, 1, 2] (stretches2 128 n c) (broadcastInDim (M3 1 1 c) ![2] (lays1 c) b))
      (fun _ _ j => g j) := fun e i j => by
  rw [broadcastInDim_apply _ (stretches2 128 n c) _ (ix3 e i j) (ix3 0 0 j) (fun x => by
      match x with
      | ⟨0, _⟩ => rfl
      | ⟨1, _⟩ => rfl
      | ⟨2, _⟩ => show j.val = if c = 1 then 0 else j.val; split <;> omega),
    broadcastInDim_apply _ (lays1 c) _ (ix3 0 0 j) (ix1 j) (fun x => by
      match x with
      | ⟨0, _⟩ => show j.val = if c = 1 then 0 else j.val; split <;> omega)]
  exact h j

/-- A vector along the rows of a matrix. -/
theorem Rep1.bias2 {b : FVec Ideal (M1 c) .f32} {g : ℕ → ℝ} (h : Rep1 b g) :
    Rep (broadcastInDim (M2 128 c) ![0, 1] (stretches3 128 c) (broadcastInDim (M2 1 c) ![1] (lays2 c) b))
      (fun _ j => g j) := fun e j => by
  rw [broadcastInDim_apply _ (stretches3 128 c) _ (ix2 e j) (ix2 0 j) (fun x => by
      match x with
      | ⟨0, _⟩ => rfl
      | ⟨1, _⟩ => show j.val = if c = 1 then 0 else j.val; split <;> omega),
    broadcastInDim_apply _ (lays2 c) _ (ix2 0 j) (ix1 j) (fun x => by
      match x with
      | ⟨0, _⟩ => show j.val = if c = 1 then 0 else j.val; split <;> omega)]
  exact h j

/-- A tensor's last axis against a matrix's first. -/
theorem Rep3.product {k d : ℕ} {v : FVec Ideal (M3 a b k) .f32} {u : FVec Ideal (M2 k d) .f32} {g : ℕ → ℕ → ℝ} (h : Rep3 v f)
    (hu : Rep u g) : Rep3 (Host.dotGeneral (dims3 a b k d) none v u) (fun e i => dot k (f e i) g) := fun e i j => by
  show FloatOps.dotGeneral _ none _ v u (ix3 e i j) = _
  rw [Ideal.dotGeneral_apply, ← Equiv.sum_comp (contrEquiv1 (dims3 a b k d) k rfl rfl).symm]
  unfold dot
  rw [coe_sum_range]
  refine sum_congr rfl fun q _ => ?_
  have hq := contrEquiv1_symm_val (dims3 a b k d) k rfl rfl q
  have hl : (dims3 a b k d).lhsIdx (ix3 e i j) ((contrEquiv1 _ k rfl rfl).symm q) = ix3 e i q := by
    funext x; apply Fin.ext
    match x with
    | ⟨0, _⟩ => rfl
    | ⟨1, _⟩ => rfl
    | ⟨2, _⟩ => exact hq
  have hr : (dims3 a b k d).rhsIdx (ix3 e i j) ((contrEquiv1 _ k rfl rfl).symm q) = ix2 q j := by
    funext x; apply Fin.ext
    match x with
    | ⟨0, _⟩ => exact hq
    | ⟨1, _⟩ => rfl
  rw [hl, hr, h, hu, ← EReal.coe_mul]

/-- A linear layer on a tensor. -/
theorem Rep3.layer {n k d : ℕ} {v : FVec Ideal (M3 128 n k) .f32} {u : FVec Ideal (M2 k d) .f32} {b : FVec Ideal (M1 d) .f32}
    {g : ℕ → ℕ → ℝ} {q : ℕ → ℝ} (h : Rep3 v f) (hu : Rep u g) (hb : Rep1 b q) :
    Rep3 (layer3 v u b) (fun e i j => dot k (f e i) g j + q j) := (h.product hu).addf (hb.bias3 n)

/-- A linear layer on a matrix. -/
theorem Rep.layer {k d : ℕ} {v : FVec Ideal (M2 128 k) .f32} {u : FVec Ideal (M2 k d) .f32} {b : FVec Ideal (M1 d) .f32}
    {f g : ℕ → ℕ → ℝ} {q : ℕ → ℝ} (h : Rep v f) (hu : Rep u g) (hb : Rep1 b q) :
    Rep (layer2 v u b) (fun e j => dot k (f e) g j + q j) := by
  refine Rep.addf (f := fun e j => dot k (f e) g j) (fun e j => ?_) hb.bias2
  rw [StackMember.dotGeneral_plain_apply]
  unfold dot
  rw [coe_sum_range]
  exact sum_congr rfl fun k _ => by rw [h, hu, ← EReal.coe_mul]

/-- The globals at each node. -/
theorem Rep.spread {g : FVec Ideal (M2 128 16) .f32} {u : ℕ → ℕ → ℝ} (n : ℕ) (h : Rep g u) : Rep3 (spread n g) (fun e _ q => u e q) :=
  fun e i j => by
  unfold Tree.spread
  rw [broadcastInDim_apply _ (stretches1 128 n 16) _ (ix3 e i j) (ix3 e 0 j) (fun x => by
      match x with
      | ⟨0, _⟩ => rfl
      | ⟨1, _⟩ => rfl
      | ⟨2, _⟩ => rfl),
    broadcastInDim_apply _ (lays3 128 16) _ (ix3 e 0 j) (ix2 e j) (fun x => by
      match x with
      | ⟨0, _⟩ => rfl
      | ⟨1, _⟩ => rfl)]
  exact h e j

/-- The globals, one copy for each node of the last level. -/
theorem Rep.spreadLast {g : FVec Ideal (M2 128 16) .f32} {u : ℕ → ℕ → ℝ} (t : ℕ) (h : Rep g u) :
    Rep3 (spreadLast t g) (fun e _ q => u e q) := by
  cases t with
  | zero =>
    intro e i j
    show broadcastInDim (M3 128 1 16) ![0, 2] (lays3 128 16) g (ix3 e i j) = _
    rw [broadcastInDim_apply _ (lays3 128 16) _ (ix3 e i j) (ix2 e j) (fun x => by
      match x with
      | ⟨0, _⟩ => rfl
      | ⟨1, _⟩ => rfl)]
    exact h e j
  | succ t => exact h.spread _

/-- The nodes of the last level. -/
theorem Rep3.lastLevel {t : ℕ} {v : FVec Ideal (M3 128 (2 ^ (t + 1) - 1) 128) .f32} (h : Rep3 v f) :
    Rep3 (lastLevel t v) (fun e i j => f e (2 ^ t - 1 + i) j) := by
  cases t with
  | zero => exact fun e i j => (h e i j).trans (congrArg (fun q : ℕ => ((f e q j : ℝ) : EReal)) (Nat.zero_add i.val).symm)
  | succ t => exact h.slice (slices3 (by have := Nat.one_le_two_pow (n := t + 1); rw [pow_succ 2 (t + 1)]; omega))

/-- The new level's nodes. -/
theorem Rep3.halves {m : ℕ} {v : FVec Ideal (M3 128 b 256) .f32} (hm : b * 2 = m) (h : Rep3 v f) :
    Rep3 (shapeCast (M3 128 m 128) v (castsHalves 128 b m hm)) (fun e i j => f e (i / 2) (128 * (i % 2) + j)) := fun e i j => by
  have hi := i.2
  have h2 : i.val % 2 < 2 := Nat.mod_lt _ (by decide)
  rw [shapeCast_apply v (castsHalves 128 b m hm) (ix3 e i j) (ix3 e ⟨i / 2, by omega⟩ ⟨128 * (i % 2) + j, by omega⟩) (by
    rw [Shape.rowMajor_val_three, Shape.rowMajor_val_three]
    show (e.val * b + i.val / 2) * 256 + (128 * (i.val % 2) + j.val) = (e.val * m + i.val) * 128 + j.val
    subst hm
    have := Nat.div_add_mod i.val 2
    generalize i.val / 2 = p at *
    generalize i.val % 2 = r at *
    rw [← this]; ring)]
  exact h _ _ _

/-- The inner nodes' features, at each of their children. -/
theorem Rep3.twice {n m : ℕ} {v : FVec Ideal (M3 128 n 144) .f32} (hm : n * 2 = m) (h : Rep3 v f) :
    Rep3 (shapeCast (M3 128 m 144) (broadcastInDim (M4 128 n 2 144) ![0, 1, 2, 3] (doubles 128 n 144)
        (broadcastInDim (M4 128 n 1 144) ![0, 1, 3] (opens 128 n 144) v)) (castsPairs 128 n 144 m hm)) (fun e i j => f e (i / 2) j) :=
  fun e i j => by
  have hi := i.2
  have h2 : i.val % 2 < 2 := Nat.mod_lt _ (by decide)
  have hn : i.val / 2 < n := by omega
  rw [shapeCast_apply _ (castsPairs 128 n 144 m hm) (ix3 e i j) (ix4 e ⟨i / 2, hn⟩ ⟨i % 2, h2⟩ j) (by
    rw [Shape.rowMajor_val_three, Shape.rowMajor_val_four]
    show ((e.val * n + i.val / 2) * 2 + i.val % 2) * 144 + j.val = (e.val * m + i.val) * 144 + j.val
    subst hm
    have := Nat.div_add_mod i.val 2
    generalize i.val / 2 = p at *
    generalize i.val % 2 = r at *
    rw [← this]; ring)]
  rw [broadcastInDim_apply _ (doubles 128 n 144) _ _ (ix4 e ⟨i / 2, hn⟩ 0 j) (fun x => by
      match x with
      | ⟨0, _⟩ => rfl
      | ⟨1, _⟩ => show i.val / 2 = if n = 1 then 0 else i.val / 2; split <;> omega
      | ⟨2, _⟩ => rfl
      | ⟨3, _⟩ => rfl),
    broadcastInDim_apply _ (opens 128 n 144) _ _ (ix3 e ⟨i / 2, hn⟩ j) (fun x => by
      match x with
      | ⟨0, _⟩ => rfl
      | ⟨1, _⟩ => show i.val / 2 = if n = 1 then 0 else i.val / 2; split <;> omega
      | ⟨2, _⟩ => rfl)]
  exact h _ _ _

/-- The sum of each pair of neighbours. -/
theorem Rep3.pairs {n m : ℕ} {v : FVec Ideal (M3 128 m 144) .f32} (hm : n * 2 = m) (h : Rep3 v f) :
    Rep3 (Host.reduceAdd (shapeCast (M4 128 n 2 144) v (castsNeighbours 128 n 144 m hm)) (constant M0 .f32 0x00000000#32)
      (reducesPairs 128 n 144) scalar_pos) (fun e i j => f e (2 * i) j + f e (2 * i + 1) j) := fun e i j => by
  rw [hostReduceAdd_apply, Ideal.hostReduceAdd_single _ (reducesPairs' 128 n 144), zero_bits, zero_add]
  have key : ∀ k : Fin 2, shapeCast (M4 128 n 2 144) v (castsNeighbours 128 n 144 m hm) ((reducesPairs' 128 n 144).lift (ix3 e i j) k)
      = ((f e (2 * i + k) j : ℝ) : EReal) := fun k => by
    have hi := i.2
    have hk := k.2
    rw [lift_pairs, shapeCast_apply v (castsNeighbours 128 n 144 m hm) _ (ix3 e ⟨2 * i + k, by omega⟩ j) (by
      rw [Shape.rowMajor_val_three, Shape.rowMajor_val_four]
      show (e.val * m + (2 * i.val + k.val)) * 144 + j.val = ((e.val * n + i.val) * 2 + k.val) * 144 + j.val
      subst hm; ring)]
    exact h _ _ _
  refine (Fin.sum_univ_two (f := fun k : Fin 2 => shapeCast (M4 128 n 2 144) v (castsNeighbours 128 n 144 m hm)
    ((reducesPairs' 128 n 144).lift (ix3 e i j) k))).trans ?_
  rw [key, key, ← EReal.coe_add]; rfl

end

end Cert.Tree

end
-- ==== Proof.RefValue.lean ====
/- The reference's tree, level by level, is the model's. -/
module

public import proofs.«01_k».proof.Proof.RefRep

@[expose] public section

noncomputable section

namespace Cert.Tree

open Idealize.ShloMosaic Idealize.ShloMosaic.ValueIdx Finset

/-- The nodes in the order of a heap, each level from the left, have the features `y`: the first `T` levels. -/
def Heap (T : ℕ) (f : ℕ → ℕ → ℕ → ℝ) (y : ℕ → Nodes) : Prop :=
  ∀ e < 128, ∀ l < T, ∀ p < 2 ^ l, f e (2 ^ l - 1 + p) = y e l (rev l p)

/-- The reference's arguments have the values `w` and `x`, its other biases being zero. -/
structure Telling (A : Arguments Ideal) (w : Params) (x : ℕ → ℕ → ℝ) : Prop where
  slope : (Scalar.ofBits .f32 0x3C23D70A#32 : Ideal .f32) = ((w.slope : ℝ) : EReal)
  slope_nonneg : 0 ≤ w.slope
  slope_le : w.slope ≤ 1
  x : Rep3 A.x (fun e _ => x e)
  preW1 : Rep A.preW1 w.preW1
  preb1 : Rep1 A.preb1 (fun _ => 0)
  preW2 : Rep A.preW2 w.preW2
  preb2 : Rep1 A.preb2 (fun _ => 0)
  postW1 : Rep A.postW1 w.postW1
  postb1 : Rep1 A.postb1 w.postb1
  postW2 : Rep A.postW2 w.postW2
  postb2 : Rep1 A.postb2 w.postb2
  brW1 : Rep A.brW1 w.brW1
  brb1 : Rep1 A.brb1 w.brb1
  brW2 : Rep A.brW2 w.brW2
  brb2 : Rep1 A.brb2 (fun _ => 0)
  ginW1 : Rep A.ginW1 w.ginW1
  ginb1 : Rep1 A.ginb1 (fun _ => 0)
  ginW2 : Rep A.ginW2 w.ginW2
  ginb2 : Rep1 A.ginb2 (fun _ => 0)

/-- A level has a node. -/
theorem one_le_pow2 (l : ℕ) : 1 ≤ 2 ^ l := Nat.one_le_two_pow

/-- All nodes combined, in the order of a heap, are the levels combined one after the other. -/
theorem Heap.pool (op : ℝ → ℝ → ℝ) [Std.Associative op] [Std.Commutative op] {f : ℕ → ℕ → ℕ → ℝ} {y : ℕ → Nodes} {e : ℕ} (he : e < 128)
    (j : ℕ) (t : ℕ) (h : Heap (t + 1) f y) : agg op (fun i => f e i j) (2 ^ (t + 1) - 1 - 1) = poolS op (y e) j t := by
  induction t with
  | zero =>
    have := h e he 0 (by decide) 0 (by decide)
    exact congrFun this j
  | succ t ih =>
    have h1 := one_le_pow2 t
    have hn : 2 ^ (t + 1 + 1) - 1 - 1 = (2 ^ (t + 1) - 1 - 1) + 1 + (2 ^ (t + 1) - 1) := by
      rw [pow_succ 2 (t + 1), pow_succ 2 t]; omega
    rw [hn, agg_append, ih (fun e he l hl => h e he l (by omega))]
    refine congrArg (op _) (Eq.trans ?_ (agg_rev op (t + 1) (fun r => y e (t + 1) r j)))
    refine agg_congr op _ fun p hp => ?_
    have hi : 2 ^ (t + 1) - 1 - 1 + 1 + p = 2 ^ (t + 1) - 1 + p := by rw [pow_succ 2 t]; omega
    rw [hi, h e he (t + 1) (by omega) p (by omega)]

/-- A tree whose features are all mapped. -/
theorem Heap.map {T : ℕ} {f : ℕ → ℕ → ℕ → ℝ} {y : ℕ → Nodes} (h : Heap T f y) (F : (ℕ → ℝ) → ℕ → ℝ) :
    Heap T (fun e i => F (f e i)) (fun e l r => F (y e l r)) := fun e he l hl p hp => by
  show F (f e (2 ^ l - 1 + p)) = _
  rw [h e he l hl p hp]

section

variable {A : Arguments Ideal} {w : Params} {x : ℕ → ℕ → ℝ} (hA : Telling A w x)

include hA

/-- The activation of a tensor. -/
theorem Rep3.leaky {a b c : ℕ} {v : FVec Ideal (M3 a b c) .f32} {f : ℕ → ℕ → ℕ → ℝ} (h : Rep3 v f) :
    Rep3 (leaky v) (fun e i j => lr w (f e i j)) := fun e i j => leaky_apply hA.slope hA.slope_nonneg hA.slope_le (h e i j)

/-- The activation of a matrix. -/
theorem Rep.leaky {a b : ℕ} {v : FVec Ideal (M2 a b) .f32} {f : ℕ → ℕ → ℝ} (h : Rep v f) :
    Rep (leaky v) (fun e j => lr w (f e j)) := fun e j => leaky_apply hA.slope hA.slope_nonneg hA.slope_le (h e j)

/-- What the nodes bring to the pooling. -/
theorem Rep3.brings {n : ℕ} {v : FVec Ideal (M3 128 n 128) .f32} {f : ℕ → ℕ → ℕ → ℝ} (h : Rep3 v f) :
    Rep3 (brings A (pre1 A v)) (fun e i => dot 128 (fun h => lr w (dot 128 (f e i) w.preW1 h)) w.preW2) := by
  refine ((Rep3.leaky hA (h.layer hA.preW1 hA.preb1)).layer hA.preW2 hA.preb2).congr fun e _ i _ j _ => ?_
  simp only [add_zero]

/-- The globals of a tree. -/
theorem Rep3.globals {t : ℕ} {bits : BitVec 32} {v : FVec Ideal (M3 128 (2 ^ (t + 1) - 1) 128) .f32} {f : ℕ → ℕ → ℕ → ℝ} {y : ℕ → Nodes}
    (hb : (Ideal.ofBits .f32 bits : EReal) = (((2 ^ (t + 1) - 1 : ℕ) : ℝ) : EReal)) (h : Rep3 v f) (hy : Heap (t + 1) f y) :
    Rep (globalsOf A bits v) (fun e => glob w (y e) t) := by
  have hn : 0 < 2 ^ (t + 1) - 1 := by have := one_le_pow2 t; rw [pow_succ]; omega
  have hx := Rep3.brings hA h
  have hp := ((hx.sumOver hn).div hb hn).beside (hx.maxOver hn) (beside2 rfl)
  have hp' : Rep (pooling bits (Tree.brings A (pre1 A v))) (fun e => pooledS w (y e) t) := hp.congr fun e he j _ => by
    have hf := hy.map (fun a => dot 128 (fun h => lr w (dot 128 a w.preW1 h)) w.preW2)
    unfold pooledS
    split
    · exact congrArg (· * _) (hf.pool (· + ·) he j t)
    · exact hf.pool max he (j - 128) t
  exact (Rep.leaky hA (hp'.layer hA.postW1 hA.postb1)).layer hA.postW2 hA.postb2

end

/-- The last level from the left, in its halves' order. -/
theorem rev_mod (t p : ℕ) : rev (t + 1) p % 2 ^ t = rev t (p / 2) := by
  rw [rev, Nat.add_mul_mod_self_right, Nat.mod_eq_of_lt (rev_lt _ _)]

/-- The top bit of the reversal is the lowest bit. -/
theorem rev_div (t p : ℕ) : rev (t + 1) p / 2 ^ t = p % 2 := by
  rw [rev, Nat.add_mul_div_right _ _ (one_le_pow2 t), Nat.div_eq_of_lt (rev_lt _ _), Nat.zero_add]

/-- The reversed place of a left child. -/
theorem rev_left (t p : ℕ) : rev (t + 1) (2 * p) = rev t p := by
  rw [rev, Nat.mul_div_cancel_left _ (by decide), Nat.mul_mod_right, Nat.zero_mul, Nat.add_zero]

/-- The reversed place of a right child. -/
theorem rev_right (t p : ℕ) : rev (t + 1) (2 * p + 1) = rev t p + 2 ^ t := by
  have e1 : (2 * p + 1) / 2 = p := by omega
  have e3 : (2 * p + 1) % 2 = 1 := by omega
  rw [rev, e1, e3, Nat.one_mul]

/-- Features and globals side by side. -/
def withG (f : ℕ → ℕ → ℕ → ℝ) (u : ℕ → ℕ → ℝ) : ℕ → ℕ → ℕ → ℝ := fun e i j => if j < 128 then f e i j else u e (j - 128)

/-- Such a row through a matrix. -/
theorem dot_both (a u : ℕ → ℝ) (v : ℕ → ℕ → ℝ) (h : ℕ) :
    dot 144 (fun q => if q < 128 then a q else u (q - 128)) v h = dot 128 a v h + dot 16 u (fun q => v (128 + q)) h := by
  rw [show 144 = 128 + 16 from rfl, dot_add]
  exact congrArg₂ (· + ·) (dot_congr _ _ fun k hk => if_pos hk)
    (dot_congr _ _ fun k _ => by rw [if_neg (by omega), Nat.add_sub_cancel_left])

section

variable {A : Arguments Ideal} {w : Params} {x : ℕ → ℕ → ℝ} (hA : Telling A w x)

include hA

/-- The grown tree with its globals. -/
theorem Rep3.grown {t : ℕ} {v : FVec Ideal (M3 128 (2 ^ (t + 1) - 1) 128) .f32} {g : FVec Ideal (M2 128 16) .f32}
    {f : ℕ → ℕ → ℕ → ℝ} {u : ℕ → ℕ → ℝ} {y : ℕ → Nodes} (h : Rep3 v f) (hy : Heap (t + 1) f y) (hg : Rep g u) :
    ∃ F, Rep3 (grownOf A t v g) (withG F u) ∧ Heap (t + 2) F (fun e => grow w (u e) (y e) t) := by
  have hb : Rep3 (branch1 A (Tree.lastLevel t v) (Tree.spreadLast t g))
      (fun e i h => dot 128 (y e t (rev t i)) w.brW1 h + gbS w (u e) h) := by
    refine ((h.lastLevel.join2 (hg.spreadLast t) (joins2 rfl)).layer hA.brW1 hA.brb1).congr fun e he i hi k _ => ?_
    show dot 144 (fun q => if q < 128 then f e (2 ^ t - 1 + i) q else u e (q - 128)) w.brW1 k + w.brb1 k = _
    rw [dot_both, hy e he t (by omega) i hi, add_assoc]; rfl
  have hc := (Rep3.leaky hA hb).layer hA.brW2 hA.brb2
  refine ⟨_, (h.join1 (hc.halves (kids t)) (joins1 (nodes_grow t))).join2 (hg.spread _) (joins2 rfl), fun e he l hl p hp => ?_⟩
  have h1 := one_le_pow2 t
  by_cases hlt : l = t + 1
  · subst hlt
    funext j
    rw [if_neg (by omega), Nat.add_sub_cancel_left]
    refine Eq.trans ?_ (if_pos rfl).symm
    show _ = branchS w (u e) (y e) t (rev (t + 1) p % 2 ^ t) (128 * (rev (t + 1) p / 2 ^ t) + j)
    rw [rev_mod, rev_div, add_zero]; rfl
  · have hle : 2 ^ l ≤ 2 ^ t := Nat.pow_le_pow_right (by decide) (by omega)
    have h2 := one_le_pow2 l
    funext j
    rw [if_pos (by rw [pow_succ]; omega), hy e he l (by omega) p hp]
    exact (if_neg hlt).symm

/-- A round of messages on a tree whose last level is `t + 1`. -/
theorem Rep3.renewed {t : ℕ} {h : FVec Ideal (M3 128 (2 ^ (t + 2) - 1) 144) .f32} {F : ℕ → ℕ → ℕ → ℝ} {u : ℕ → ℕ → ℝ} {y : ℕ → Nodes}
    (hh : Rep3 h (withG F u)) (hy : Heap (t + 2) F y) :
    ∃ f, Rep3 (renewed A (messages A t h)) f ∧ Heap (t + 2) f (fun e => ginS w (u e) (t + 1) (y e)) := by
  have hn := inner_pairs t
  have hN := root_and_rest t
  have hG := nodes_grow t
  have hp : Rep3 (parents hn hN h) (fun e i j => if i < 1 then 0 else withG F u e (0 + (i - 1) / 2) j) :=
    Rep3.join1 Rep3.zero ((hh.slice (slices3 (by omega))).twice hn) _
  have hc : Rep3 (offspring hn hN hG h)
      (fun e i j => if i < 2 ^ (t + 1) - 1 then withG F u e (1 + 2 * i) j + withG F u e (1 + (2 * i + 1)) j else 0) :=
    Rep3.join1 ((hh.slice (slices3 (by omega))).pairs hn) Rep3.zero _
  refine ⟨_, (Rep3.leaky hA ((hh.addf (hp.addf hc)).layer hA.ginW1 hA.ginb1)).layer hA.ginW2 hA.ginb2, fun e he l hl p hp => ?_⟩
  unfold ginS
  funext j
  rw [add_zero]
  refine dot_congr _ _ fun k _ => congrArg (lr w) ?_
  rw [add_zero]
  have h1 := one_le_pow2 t
  have h2 := one_le_pow2 l
  have key : ∀ q, withG F u e (2 ^ l - 1 + p) q + ((if 2 ^ l - 1 + p < 1 then 0 else withG F u e (0 + (2 ^ l - 1 + p - 1) / 2) q)
      + (if 2 ^ l - 1 + p < 2 ^ (t + 1) - 1 then withG F u e (1 + 2 * (2 ^ l - 1 + p)) q + withG F u e (1 + (2 * (2 ^ l - 1 + p) + 1)) q else 0))
      = if q < 128 then aggS (t + 1) (y e) l (rev l p) q else mult (t + 1) l * u e (q - 128) := fun q => by
    have hroot : (2 ^ l - 1 + p < 1) ↔ l = 0 := by
      rcases l with _ | l
      · simp at hp ⊢; exact hp
      · rw [pow_succ] at *; have := one_le_pow2 l; simp; omega
    have hinner : (2 ^ l - 1 + p < 2 ^ (t + 1) - 1) ↔ l < t + 1 := by
      rcases Nat.lt_or_ge l (t + 1) with hlt | hge
      · have : 2 ^ (l + 1) ≤ 2 ^ (t + 1) := Nat.pow_le_pow_right (by decide) hlt
        rw [pow_succ] at this; simp only [hlt, iff_true]; omega
      · have : 2 ^ (t + 1) ≤ 2 ^ l := Nat.pow_le_pow_right (by decide) hge
        omega
    simp only [hroot, hinner]
    by_cases hq : q < 128
    · have self := congrFun (hy e he l (by omega) p hp) q
      simp only [withG, if_pos hq]
      rw [self]
      have up : l ≠ 0 → F e (0 + (2 ^ l - 1 + p - 1) / 2) q = y e (l - 1) (rev l p % 2 ^ (l - 1)) q := fun hl0 => by
        obtain ⟨l, rfl⟩ : ∃ m, l = m + 1 := ⟨l - 1, by omega⟩
        rw [Nat.add_sub_cancel, rev_mod]
        rw [pow_succ] at hp
        have e1 : 0 + (2 ^ (l + 1) - 1 + p - 1) / 2 = 2 ^ l - 1 + p / 2 := by
          have := one_le_pow2 l; rw [pow_succ]; omega
        rw [e1, hy e he l (by omega) (p / 2) (by omega)]
      have down : l < t + 1 → F e (1 + 2 * (2 ^ l - 1 + p)) q = y e (l + 1) (rev l p) q
          ∧ F e (1 + (2 * (2 ^ l - 1 + p) + 1)) q = y e (l + 1) (rev l p + 2 ^ l) q := fun hlt => by
        have e1 : 1 + 2 * (2 ^ l - 1 + p) = 2 ^ (l + 1) - 1 + 2 * p := by rw [pow_succ]; omega
        have e2 : 1 + (2 * (2 ^ l - 1 + p) + 1) = 2 ^ (l + 1) - 1 + (2 * p + 1) := by rw [pow_succ]; omega
        rw [e1, e2, hy e he (l + 1) (by omega) (2 * p) (by rw [pow_succ]; omega),
          hy e he (l + 1) (by omega) (2 * p + 1) (by rw [pow_succ]; omega), rev_left, rev_right]
        exact ⟨rfl, rfl⟩
      unfold aggS upS
      by_cases hl0 : l = 0
      · by_cases hlt : l < t + 1
        · simp only [if_pos hl0, if_pos hlt, (down hlt).1, (down hlt).2]; ring
        · omega
      · by_cases hlt : l < t + 1
        · simp only [if_neg hl0, if_pos hlt, (down hlt).1, (down hlt).2, up hl0]; ring
        · simp only [if_neg hl0, if_neg hlt, up hl0]; ring
    · simp only [withG, if_neg hq]
      unfold mult
      by_cases hl0 : l = 0
      · have hlt : l < t + 1 := by omega
        simp only [if_pos hl0, if_pos hlt]; ring
      · by_cases hlt : l < t + 1
        · simp only [if_neg hl0, if_pos hlt]; ring
        · simp only [if_neg hl0, if_neg hlt]; ring
  rw [dot_congr w.ginW1 k (b := fun q => if q < 128 then aggS (t + 1) (y e) l (rev l p) q else mult (t + 1) l * u e (q - 128))
    fun q _ => key q]
  rw [dot_both (aggS (t + 1) (y e) l (rev l p)) (fun q => mult (t + 1) l * u e q), smul_dot]; rfl

/-- The word of the number of nodes is that number. -/
theorem count_eq (t : ℕ) (ht : t ≤ 9) : (Ideal.ofBits .f32 (count t) : EReal) = (((2 ^ (t + 1) - 1 : ℕ) : ℝ) : EReal) := by
  clear hA
  interval_cases t <;> simp [count, counts, Ideal.ofBits, Ideal.ieee, -EReal.coe_mul] <;> norm_num

/-- The reference's tree after `t` steps. -/
theorem Rep3.tree (t : ℕ) (ht : t ≤ 9) : ∃ f, Rep3 (treeR A t) f ∧ Heap (t + 1) f (fun e => treeS w (x e) t) := by
  induction t with
  | zero => exact ⟨_, hA.x, fun e _ l hl p _ => rfl⟩
  | succ t ih =>
    obtain ⟨f, hf, hy⟩ := ih (by omega)
    have hg := Rep3.globals hA (count_eq hA t (by omega)) hf hy
    obtain ⟨F, hF, hY⟩ := Rep3.grown hA hf hy hg
    exact Rep3.renewed hA hF hY

/-- The reference's tree after a round. -/
theorem Rep3.round {v : FVec Ideal (M3 128 1023 128) .f32} {f : ℕ → ℕ → ℕ → ℝ} {y : ℕ → Nodes} (h : Rep3 v f) (hy : Heap 10 f y) :
    ∃ f, Rep3 (roundR A v) f ∧ Heap 10 f (fun e => roundS w (y e)) :=
  Rep3.renewed hA (h.join2 ((Rep3.globals hA (t := 9) (count_eq hA 9 (le_refl _)) h hy).spread 1023) (joins2 rfl)) hy

/-- The reference's result. -/
theorem Rep3.result : Rep3 (resultR A) (fun e p => resultS w (x e) (rev 9 p)) := by
  obtain ⟨f, hf, hy⟩ := Rep3.tree hA 9 (le_refl _)
  obtain ⟨f', hf', hy'⟩ := Rep3.round hA hf hy
  obtain ⟨f'', hf'', hy''⟩ := Rep3.round hA hf' hy'
  intro e p j
  unfold resultR
  have hp := p.2
  have hj := j.2
  rw [extractStridedSlice_apply _ _ leavesFit (ix3 e p j) (ix3 e ⟨511 + p, by omega⟩ ⟨j, by omega⟩) (fun x => by
    match x with
    | ⟨0, _⟩ => exact (Nat.zero_add _).symm
    | ⟨1, _⟩ => rfl
    | ⟨2, _⟩ => exact (Nat.zero_add _).symm), hf'']
  exact congrArg _ (congrFun (hy'' e e.2 9 (by decide) p (by omega)) j)

end

end Cert.Tree

end
-- ==== Proof.Pre.lean ====
/- What the precondition says of the arguments: every entry is a real number, and five of the biases are zero. -/
module

public import Idealize.ShloMosaic.Lib.ReduceAll
public import proofs.«01_k».proof.Proof.Gen.Pre_real_and_unbiased
public import proofs.«01_k».proof.Proof.RefValue

@[expose] public section

noncomputable section

namespace Cert.Tree

open Idealize.ShloMosaic Idealize.ShloMosaic.ValueIdx

/-- Every entry passes a test. -/
def allPass {s : Shape} {axes : List (Fin s.rank)} (h : s.ReducesTo axes M0) (p : IVec s 1) : IVec M0 1 :=
  Host.reduce IntOp.andi p (constantI M0 1 1#1) h scalar_pos

/-- Every entry is zero. -/
def allZero {s : Shape} {axes : List (Fin s.rank)} (h : s.ReducesTo axes M0) (v : FVec Ideal s .f32) : IVec M0 1 :=
  allPass h (cmpf .oeq v (fill s 0x00000000#32))

/-- Every entry is a real number. -/
def allReal {s : Shape} {axes : List (Fin s.rank)} (h : s.ReducesTo axes M0) (v : FVec Ideal s .f32) : IVec M0 1 :=
  allPass h (cmpf .olt (Host.absf v) (fill s 0x7F800000#32))

/-- A flag that is one tells its proposition. -/
theorem one_of_bool {p : Prop} [Decidable p] (h : BitVec.ofBool (decide p) = 1#1) : p := by
  by_contra hp
  rw [decide_eq_false hp] at h
  exact absurd h (by decide)

/-- A conjunction of flags is one only if both are. -/
theorem both_one : ∀ {a b : BitVec 1}, a &&& b = 1#1 → a = 1#1 ∧ b = 1#1 := by decide

section

variable {s : Shape} {axes : List (Fin s.rank)} {h : s.ReducesTo axes M0} {v : FVec Ideal s .f32} {i : M0.Idx}

/-- If all pass then each passes. -/
theorem pass_of {p : IVec s 1} (e : allPass h p i = 1#1) (j : s.Idx) : p j = 1#1 :=
  haveI : Subsingleton M0.Idx := ⟨fun a b => funext fun x => x.elim0⟩
  Host.reduce_andi_all p _ h scalar_pos i e j

/-- Where all are zero, each is zero. -/
theorem zero_of (e : allZero h v i = 1#1) (j : s.Idx) : v j = ((0 : ℝ) : EReal) := by
  have := pass_of e j
  have h1 : Ideal.cmp .oeq (v j) (fill (F := Ideal) s 0x00000000#32 j) = 1#1 := this
  rw [fill_apply, Ideal.ofBits_zero_f32] at h1
  exact (one_of_bool h1).trans EReal.coe_zero.symm

/-- The word of infinity is infinity. -/
theorem ofBits_greatest : (Ideal.ofBits .f32 0x7F800000#32 : EReal) = ⊤ := by simp [Ideal.ofBits, Ideal.ieee]

/-- Where all are finite, each is a real number. -/
theorem real_of (e : allReal h v i = 1#1) (j : s.Idx) : v j = (((v j : EReal).toReal : ℝ) : EReal) := by
  have := pass_of e j
  have h1 : Ideal.cmp .olt (max (v j : EReal) (-(v j : EReal))) (fill (F := Ideal) s 0x7F800000#32 j) = 1#1 := this
  rw [fill_apply, ofBits_greatest] at h1
  have h2 : max (v j : EReal) (-(v j : EReal)) < ⊤ := one_of_bool h1
  rw [max_lt_iff] at h2
  refine (EReal.coe_toReal h2.1.ne fun hb => ?_).symm
  rw [hb] at h2
  exact absurd h2.2 (by simp)

end

/-- A matrix's entries as real numbers. -/
def entries2 {a b : ℕ} (v : FVec Ideal (M2 a b) .f32) : ℕ → ℕ → ℝ := fun i j =>
  if h : i < a ∧ j < b then (v (ix2 ⟨i, h.1⟩ ⟨j, h.2⟩) : EReal).toReal else 0

/-- A vector's entries as real numbers. -/
def entries1 {a : ℕ} (v : FVec Ideal (M1 a) .f32) : ℕ → ℝ := fun j => if h : j < a then (v (ix1 ⟨j, h⟩) : EReal).toReal else 0

/-- The entries of a tensor with one entry along its middle axis as real numbers. -/
def entries3 {a c : ℕ} (v : FVec Ideal (M3 a 1 c) .f32) : ℕ → ℕ → ℝ := fun e j =>
  if h : e < a ∧ j < c then (v (ix3 ⟨e, h.1⟩ 0 ⟨j, h.2⟩) : EReal).toReal else 0

/-- A matrix whose entries are finite holds real numbers. -/
theorem rep_entries2 {a b : ℕ} {axes} {h : (M2 a b).ReducesTo axes M0} {v : FVec Ideal (M2 a b) .f32} {i : M0.Idx}
    (e : allReal h v i = 1#1) : Rep v (entries2 v) := fun r j => by
  unfold entries2
  rw [dif_pos ⟨r.2, j.2⟩]; exact real_of e _

/-- A vector whose entries are finite holds real numbers. -/
theorem rep_entries1 {a : ℕ} {axes} {h : (M1 a).ReducesTo axes M0} {v : FVec Ideal (M1 a) .f32} {i : M0.Idx}
    (e : allReal h v i = 1#1) : Rep1 v (entries1 v) := fun j => by
  unfold entries1
  rw [dif_pos j.2]; exact real_of e _

/-- A tensor whose entries are finite holds real numbers. -/
theorem rep_entries3 {a c : ℕ} {axes} {h : (M3 a 1 c).ReducesTo axes M0} {v : FVec Ideal (M3 a 1 c) .f32} {i : M0.Idx}
    (e : allReal h v i = 1#1) : Rep3 v (fun e _ => entries3 v e) := fun r k j => by
  obtain rfl : k = 0 := Subsingleton.elim _ _
  show _ = ((entries3 v r j : ℝ) : EReal)
  unfold entries3
  rw [dif_pos ⟨r.2, j.2⟩]; exact real_of e _

/-- The values of the weights. -/
def paramsOf (A : Arguments Ideal) : Params where
  slope := 10737418 / 2 ^ 30
  preW1 := entries2 A.preW1
  preW2 := entries2 A.preW2
  postW1 := entries2 A.postW1
  postb1 := entries1 A.postb1
  postW2 := entries2 A.postW2
  postb2 := entries1 A.postb2
  brW1 := entries2 A.brW1
  brb1 := entries1 A.brb1
  brW2 := entries2 A.brW2
  ginW1 := entries2 A.ginW1
  ginW2 := entries2 A.ginW2

/-- The slope's word is the rational number it rounds to. -/
theorem slope_bits : (Scalar.ofBits .f32 0x3C23D70A#32 : Ideal .f32) = (((10737418 / 2 ^ 30 : ℝ) : ℝ) : EReal) := by
  show Ideal.ofBits .f32 0x3C23D70A#32 = _
  simp [Ideal.ofBits, Ideal.ieee, -EReal.coe_mul]
  norm_num

/-- Under the precondition every argument has the values read off it. -/
theorem telling (A : Arguments Ideal)
    (h : Cert.Pre_real_and_unbiased.fn (F := Ideal) A.x A.preW1 A.preb1 A.preW2 A.preb2 A.postW1 A.postb1 A.postW2 A.postb2 A.brW1 A.brb1 A.brW2
      A.brb2 A.ginW1 A.ginb1 A.ginW2 A.ginb2 = fun _ => 1#1) : Telling A (paramsOf A) (entries3 A.x) := by
  have r1 {a : ℕ} : (M1 a).ReducesTo [0] M0 := ⟨rfl, fun b => b.elim0⟩
  have r2 {a b : ℕ} : (M2 a b).ReducesTo [0, 1] M0 := ⟨rfl, fun b => b.elim0⟩
  have r3 {a b c : ℕ} : (M3 a b c).ReducesTo [0, 1, 2] M0 := ⟨rfl, fun b => b.elim0⟩
  have e := congrFun h ix0
  have e' : (((((((((((((((((allZero r1 A.preb1 ix0 &&& allZero r1 A.preb2 ix0) &&& allZero r1 A.brb2 ix0) &&& allZero r1 A.ginb1 ix0)
      &&& allZero r1 A.ginb2 ix0) &&& allReal r3 A.x ix0) &&& allReal r2 A.preW1 ix0) &&& allReal r2 A.preW2 ix0)
      &&& allReal r2 A.postW1 ix0) &&& allReal r1 A.postb1 ix0) &&& allReal r2 A.postW2 ix0) &&& allReal r1 A.postb2 ix0)
      &&& allReal r2 A.brW1 ix0) &&& allReal r1 A.brb1 ix0) &&& allReal r2 A.brW2 ix0) &&& allReal r2 A.ginW1 ix0)
      &&& allReal r2 A.ginW2 ix0)) = 1#1 := e
  obtain ⟨e', hginW2⟩ := both_one e'
  obtain ⟨e', hginW1⟩ := both_one e'
  obtain ⟨e', hbrW2⟩ := both_one e'
  obtain ⟨e', hbrb1⟩ := both_one e'
  obtain ⟨e', hbrW1⟩ := both_one e'
  obtain ⟨e', hpostb2⟩ := both_one e'
  obtain ⟨e', hpostW2⟩ := both_one e'
  obtain ⟨e', hpostb1⟩ := both_one e'
  obtain ⟨e', hpostW1⟩ := both_one e'
  obtain ⟨e', hpreW2⟩ := both_one e'
  obtain ⟨e', hpreW1⟩ := both_one e'
  obtain ⟨e', hx⟩ := both_one e'
  obtain ⟨e', hginb2⟩ := both_one e'
  obtain ⟨e', hginb1⟩ := both_one e'
  obtain ⟨e', hbrb2⟩ := both_one e'
  obtain ⟨hpreb1, hpreb2⟩ := both_one e'
  exact {
    slope := slope_bits
    slope_nonneg := by show (0 : ℝ) ≤ 10737418 / 2 ^ 30; norm_num
    slope_le := by show (10737418 / 2 ^ 30 : ℝ) ≤ 1; norm_num
    x := rep_entries3 hx
    preW1 := rep_entries2 hpreW1
    preb1 := fun j => zero_of hpreb1 _
    preW2 := rep_entries2 hpreW2
    preb2 := fun j => zero_of hpreb2 _
    postW1 := rep_entries2 hpostW1
    postb1 := rep_entries1 hpostb1
    postW2 := rep_entries2 hpostW2
    postb2 := rep_entries1 hpostb2
    brW1 := rep_entries2 hbrW1
    brb1 := rep_entries1 hbrb1
    brW2 := rep_entries2 hbrW2
    brb2 := fun j => zero_of hbrb2 _
    ginW1 := rep_entries2 hginW1
    ginb1 := fun j => zero_of hginb1 _
    ginW2 := rep_entries2 hginW2
    ginb2 := fun j => zero_of hginb2 _ }

end Cert.Tree

end
-- ==== Proof.Entry.lean ====
/- What the kernel's input arrays hold, from the arguments: the operations before the kernel runs. -/
module

public import proofs.«01_k».proof.Proof.Block
public import proofs.«01_k».proof.Proof.Pre

@[expose] public section

set_option maxRecDepth 65536

noncomputable section

namespace Cert.Tree

open Idealize.ShloMosaic Idealize.ShloMosaic.TcCoe Cert.KernelIdeal Cert.KernelIdeal.Gen Finset

/-- The kernel's arguments by name. -/
def kernelArguments (m : (ℓ : Loc nD τ sig) → Buf (Elt Ideal) ℓ) (c : Dev nD) : Arguments Ideal where
  x := m ((c : Thread nD τ).loc main_arg0)
  preW1 := m ((c : Thread nD τ).loc main_arg1)
  preb1 := m ((c : Thread nD τ).loc main_arg2)
  preW2 := m ((c : Thread nD τ).loc main_arg3)
  preb2 := m ((c : Thread nD τ).loc main_arg4)
  postW1 := m ((c : Thread nD τ).loc main_arg5)
  postb1 := m ((c : Thread nD τ).loc main_arg6)
  postW2 := m ((c : Thread nD τ).loc main_arg7)
  postb2 := m ((c : Thread nD τ).loc main_arg8)
  brW1 := m ((c : Thread nD τ).loc main_arg9)
  brb1 := m ((c : Thread nD τ).loc main_arg10)
  brW2 := m ((c : Thread nD τ).loc main_arg11)
  brb2 := m ((c : Thread nD τ).loc main_arg12)
  ginW1 := m ((c : Thread nD τ).loc main_arg13)
  ginb1 := m ((c : Thread nD τ).loc main_arg14)
  ginW2 := m ((c : Thread nD τ).loc main_arg15)
  ginb2 := m ((c : Thread nD τ).loc main_arg16)

variable {m : (ℓ : Loc nD τ sig) → Buf (Elt Ideal) ℓ} {c : Dev nD} {w : Params} {x : ℕ → ℕ → ℝ}

/-- A vector against a matrix's first axis. -/
theorem Rep1.product {v : FVec Ideal (M1 16) .f32} {u : FVec Ideal (M2 16 144) .f32} {f : ℕ → ℝ} {g : ℕ → ℕ → ℝ} (h : Rep1 v f) (hu : Rep u g) :
    Rep1 (Host.dotGeneral dot_S16_S16x144_S144_0_0_n_1_n_n none v u) (dot 16 f g) := fun j => by
  show FloatOps.dotGeneral _ none _ v u (ValueIdx.ix1 j) = _
  rw [Ideal.dotGeneral_apply, ← Equiv.sum_comp (ValueIdx.contrEquiv1 dot_S16_S16x144_S144_0_0_n_1_n_n 16 rfl rfl).symm]
  unfold dot
  rw [coe_sum_range]
  refine sum_congr rfl fun q _ => ?_
  have hq := ValueIdx.contrEquiv1_symm_val dot_S16_S16x144_S144_0_0_n_1_n_n 16 rfl rfl q
  have hl : dot_S16_S16x144_S144_0_0_n_1_n_n.lhsIdx (ValueIdx.ix1 j) ((ValueIdx.contrEquiv1 _ 16 rfl rfl).symm q) = ValueIdx.ix1 q := by
    funext a; apply Fin.ext
    match a with
    | ⟨0, _⟩ => exact hq
  have hr : dot_S16_S16x144_S144_0_0_n_1_n_n.rhsIdx (ValueIdx.ix1 j) ((ValueIdx.contrEquiv1 _ 16 rfl rfl).symm q) = ValueIdx.ix2 q j := by
    funext a; apply Fin.ext
    match a with
    | ⟨0, _⟩ => exact hq
    | ⟨1, _⟩ => rfl
  rw [hl, hr]
  exact (congrArg₂ (· * ·) (h q) (hu q j)).trans (EReal.coe_mul _ _).symm

/-- A matrix against a matrix. -/
theorem Rep.product {a k d : ℕ} {v : FVec Ideal (M2 a k) .f32} {u : FVec Ideal (M2 k d) .f32} {f g : ℕ → ℕ → ℝ} (h : Rep v f) (hu : Rep u g)
    : Rep (Host.dotGeneral (DotDims.plain a k d) none v u) (fun i => dot k (f i) g) := fun i j => by
  rw [StackMember.dotGeneral_plain_apply]
  unfold dot
  rw [coe_sum_range]
  exact sum_congr rfl fun q _ => by rw [h, hu, ← EReal.coe_mul]

/-- The sum of two vectors. -/
theorem Rep1.addf {a : ℕ} {v v' : FVec Ideal (M1 a) .f32} {f f' : ℕ → ℝ} (h : Rep1 v f) (h' : Rep1 v' f') :
    Rep1 (addf v v') (fun j => f j + f' j) := fun j => by
  show v (ValueIdx.ix1 j) + v' (ValueIdx.ix1 j) = _
  rw [h, h', ← EReal.coe_add]

/-- One vector after the other. -/
theorem Rep1.beside {a b n : ℕ} {v : FVec Ideal (M1 a) .f32} {v' : FVec Ideal (M1 b) .f32} {f f' : ℕ → ℝ} (h : Rep1 v f) (h' : Rep1 v' f')
    (hc : Shape.Concatenates [M1 a, M1 b] (M1 n) 0) :
    Rep1 (concatenate (M1 n) 0 [⟨M1 a, v⟩, ⟨M1 b, v'⟩] hc) (fun j => if j < a then f j else f' (j - a)) := fun j => by
  have hm : a + b = n := by have := hc.2.2; simpa using this
  by_cases hj : j.val < a
  · rw [concatenate_pair_apply_left 0 v v' hc (ValueIdx.ix1 j) rfl (ValueIdx.ix1 ⟨j, hj⟩)
      (fun x => by match x with | ⟨0, _⟩ => rfl), h]; simp only [if_pos hj]
  · rw [concatenate_pair_apply_right 0 v v' hc (ValueIdx.ix1 j) rfl rfl (ValueIdx.ix1 ⟨j - a, by omega⟩)
      (fun x hx => by match x with | ⟨0, _⟩ => exact absurd rfl hx) (by show j.val - a + a = j.val; omega), h']; simp only [if_neg hj]

/-- A vector as a matrix of one row. -/
theorem Rep1.asRow {b : ℕ} {v : FVec Ideal (M1 b) .f32} {f : ℕ → ℝ} (h : Rep1 v f) (hs : (M1 b).ShapeCasts (M2 1 b)) :
    Rep (shapeCast (M2 1 b) v hs) (fun _ => f) := fun i j => by
  obtain rfl : i = 0 := Subsingleton.elim _ _
  rw [shapeCast_apply v hs (ValueIdx.ix2 0 j) (ValueIdx.ix1 j) (by
    rw [Shape.rowMajor_val_one, Shape.rowMajor_val_two]
    show j.val = 0 * b + j.val
    omega)]
  exact h j

/-- A tensor with one entry along its middle axis as a matrix. -/
theorem Rep3.asMatrix {a b : ℕ} {v : FVec Ideal (M3 a 1 b) .f32} {f : ℕ → ℕ → ℝ} (h : Rep3 v (fun e _ => f e)) (hs : (M3 a 1 b).ShapeCasts (M2 a b)) :
    Rep (shapeCast (M2 a b) v hs) f := fun i j => by
  rw [shapeCast_apply v hs (ValueIdx.ix2 i j) (ValueIdx.ix3 i 0 j) (by
    rw [Shape.rowMajor_val_three, Shape.rowMajor_val_two]
    show (i.val * 1 + 0) * b + j.val = i.val * b + j.val
    rw [Nat.mul_one, Nat.add_zero])]
  exact h i 0 j

section

variable (m c)

/-- The root's input array is the random vector, one row for each event. -/
theorem entry_root : V m c main_v0 = shapeCast S128x128 (kernelArguments m c).x shapeCasts_S128x1x128_S128x128 := by
  unfold V V0 hostOps0
  simp only [List.flatten_cons, List.flatten_nil, List.append_nil]
  after_results
  rfl

/-- The first bias of the pooling network, as a row. -/
theorem entry_postb1 : V m c main_v13 = shapeCast S1x256 (kernelArguments m c).postb1 shapeCasts_S256_S1x256 := by
  unfold V V0 hostOps0
  simp only [List.flatten_cons, List.flatten_nil, List.append_nil]
  after_results
  rfl

/-- The second weights of the pooling network, joined with the parts of the branching and of the message passing that read the globals. -/
theorem entry_postWcat : V m c main_v5 = concatenate S256x288 1
    [⟨S256x144, Host.dotGeneral dot_S256x16_S16x144_S256x144_1_0_0_1_n_n none (kernelArguments m c).postW2
      (extractStridedSlice S16x144 ![128, 0] (kernelArguments m c).brW1 slices_S144x144_S16x144_128_0)⟩,
    ⟨S256x144, Host.dotGeneral dot_S256x16_S16x144_S256x144_1_0_0_1_n_n none (kernelArguments m c).postW2
      (extractStridedSlice S16x144 ![128, 0] (kernelArguments m c).ginW1 slices_S144x144_S16x144_128_0)⟩]
    concatenates_S256x144_S256x144_S256x288_d1 := by
  unfold V V0 hostOps0
  simp only [List.flatten_cons, List.flatten_nil, List.append_nil]
  after_results
  rfl

/-- The biases that go with them, as a row. -/
theorem entry_postbcat : V m c main_v14 = shapeCast S1x288 (concatenate S288 0
    [⟨S144, addf (Host.dotGeneral dot_S16_S16x144_S144_0_0_n_1_n_n none (kernelArguments m c).postb2
      (extractStridedSlice S16x144 ![128, 0] (kernelArguments m c).brW1 slices_S144x144_S16x144_128_0)) (kernelArguments m c).brb1⟩,
    ⟨S144, addf (Host.dotGeneral dot_S16_S16x144_S144_0_0_n_1_n_n none (kernelArguments m c).postb2
      (extractStridedSlice S16x144 ![128, 0] (kernelArguments m c).ginW1 slices_S144x144_S16x144_128_0)) (kernelArguments m c).ginb1⟩]
    concatenates_S144_S144_S288_d0) shapeCasts_S288_S1x288 := by
  unfold V V0 hostOps0
  simp only [List.flatten_cons, List.flatten_nil, List.append_nil]
  after_results
  rfl

/-- The branching's first weights: the rows that read a node. -/
theorem entry_brW1 : V m c main_v15 = extractStridedSlice S128x144 ![0, 0] (kernelArguments m c).brW1 slices_S144x144_S128x144_0_0 := by
  unfold V V0 hostOps0
  simp only [List.flatten_cons, List.flatten_nil, List.append_nil]
  after_results
  rfl

/-- The message passing's first weights: the rows that read a node. -/
theorem entry_ginW1 : V m c main_v16 = extractStridedSlice S128x144 ![0, 0] (kernelArguments m c).ginW1 slices_S144x144_S128x144_0_0 := by
  unfold V V0 hostOps0
  simp only [List.flatten_cons, List.flatten_nil, List.append_nil]
  after_results
  rfl

end

/-- What the kernel's input arrays hold, from what its arguments hold. -/
theorem Telling.entering (h : Telling (kernelArguments m c) w x) : Entering m c w x where
  slope := h.slope
  root := by rw [entry_root]; exact h.x.asMatrix _
  preW1 := by rw [V_main_arg1]; exact h.preW1
  preW2 := by rw [V_main_arg3]; exact h.preW2
  postW1 := by rw [V_main_arg5]; exact h.postW1
  postb1 := by rw [entry_postb1]; exact h.postb1.asRow _
  postWcat := by
    rw [entry_postWcat]
    exact (Rep.beside (h.postW2.product (h.brW1.slice slices_S144x144_S16x144_128_0)) (h.postW2.product (h.ginW1.slice slices_S144x144_S16x144_128_0))
      concatenates_S256x144_S256x144_S256x288_d1).congr fun i _ j _ => by simp only [dot, Nat.zero_add]
  postbcat := by
    rw [entry_postbcat]
    exact ((((h.postb2.product (h.brW1.slice slices_S144x144_S16x144_128_0)).addf h.brb1).beside
      ((h.postb2.product (h.ginW1.slice slices_S144x144_S16x144_128_0)).addf h.ginb1) concatenates_S144_S144_S288_d0).asRow _).congr
      fun i _ j _ => by simp only [dot, Nat.zero_add, add_zero]
  brW1x := by rw [entry_brW1]; exact (h.brW1.slice _).congr fun i _ j _ => by simp only [Nat.zero_add]
  brW2 := by rw [V_main_arg11]; exact h.brW2
  ginW1x := by rw [entry_ginW1]; exact (h.ginW1.slice _).congr fun i _ j _ => by simp only [Nat.zero_add]
  ginW2 := by rw [V_main_arg15]; exact h.ginW2

end Cert.Tree

end
-- ==== Proof.Order.lean ====
/- The order of the results: the kernel keeps a level's nodes in the order of their bits reversed. -/
module

public import proofs.«01_k».proof.Proof.Entry
public import proofs.«01_k».proof.Proof.RefValue

@[expose] public section

set_option maxRecDepth 65536

noncomputable section

namespace Cert.Tree

open Idealize.ShloMosaic Idealize.ShloMosaic.TcCoe Cert.KernelIdeal Cert.KernelIdeal.Gen

/-- The table of positions is the reversal of nine bits. -/
theorem table : ∀ p : Fin 512, lit0 p = BitVec.ofNat 32 (rev 9 p) := by decide +kernel

/-- The reversal of nine bits is a number of nine bits. -/
theorem rev_small : ∀ p < 512, rev 9 p < 512 := by decide +kernel

/-- A small number read off its word. -/
theorem word_small {n : ℕ} (h : n < 512) : (BitVec.ofNat 32 n).toInt.toNat = n := by
  have : (BitVec.ofNat 32 n).toNat = n := by rw [BitVec.toNat_ofNat]; omega
  rw [BitVec.toInt_eq_toNat_of_lt (by omega), this]; rfl

/-- The places that the gather starts at: a row from the table, and column 0. -/
def starts : IVec S512x2 32 :=
  concatenate S512x2 1
    [⟨S512x1, broadcastInDim S512x1 ![0] bcast_S512_S512x1_0
      (select (constantI S512 1 0#1) (addi (fun i => lit0 (S512.rowMajor i)) (broadcastInDim S512 ![] bcast_S_S512 (constantI S_ 32 512#32)))
        (fun i => lit0 (S512.rowMajor i)))⟩,
    ⟨S512x1, broadcastInDim S512x1 ![] bcast_S_S512x1 (constantI S_ 32 0#32)⟩] concatenates_S512x1_S512x1_S512x2_d1

/-- The row that a result is read from. -/
theorem starts_row (p : Fin 512) : starts (ValueIdx.ix2 p 0) = BitVec.ofNat 32 (rev 9 p) := by
  unfold starts
  rw [concatenate_pair_apply_left 1 _ _ concatenates_S512x1_S512x1_S512x2_d1 (ValueIdx.ix2 p 0) rfl (ValueIdx.ix2 p 0)
      (fun x => by match x with | ⟨0, _⟩ => rfl | ⟨1, _⟩ => rfl),
    broadcastInDim_apply _ bcast_S512_S512x1_0 _ (ValueIdx.ix2 p 0) (ValueIdx.ix1 p) (fun x => by match x with | ⟨0, _⟩ => rfl)]
  refine Eq.trans ?_ (table p)
  exact congrArg lit0 (Fin.ext (Shape.rowMajor_val_one (ValueIdx.ix1 p)))

/-- The column that a result is read from. -/
theorem starts_column (p : Fin 512) : starts (ValueIdx.ix2 p 1) = 0#32 := by
  unfold starts
  rw [concatenate_pair_apply_right 1 _ _ concatenates_S512x1_S512x1_S512x2_d1 (ValueIdx.ix2 p 1) rfl rfl (ValueIdx.ix2 p 0)
      (fun x hx => by match x with | ⟨0, _⟩ => rfl | ⟨1, _⟩ => exact absurd rfl hx) rfl,
    broadcastInDim_apply _ bcast_S_S512x1 _ (ValueIdx.ix2 p 0) ValueIdx.ix0 (fun x => x.elim0)]
  rfl

/-- The gather's dimension numbers. -/
abbrev taking : GatherDims S4x512x32x8 S512x2 S4x512x32x3 := gather_S4x512x32x8_S512x2_S4x512x32x3_023_1_n_n_13_1_41323

/-- The index of a start: the result's row, and which of the two numbers. -/
theorem taking_start (g : Fin 4) (p : Fin 512) (e : Fin 32) (k : Fin 3) (q : Fin 2) (h : q.val < taking.startIndexMap.length) :
    taking.siIdx (ValueIdx.ix4 g p e k) ⟨q, h⟩ = ValueIdx.ix2 p q := by
  funext b; refine Fin.ext ?_
  match b with
  | ⟨0, _⟩ => rfl
  | ⟨1, _⟩ => rfl

/-- Along an axis that the starts do not name, the gather starts at 0. -/
theorem taking_kept (j : S4x512x32x3.Idx) (a : Fin 4) (h : a ∉ taking.startIndexMap) : taking.start j starts a = 0 := by
  unfold GatherDims.start
  exact dif_neg h

/-- Along the rows the gather starts at the table's entry. -/
theorem taking_row (g : Fin 4) (p : Fin 512) (e : Fin 32) (k : Fin 3) : taking.start (ValueIdx.ix4 g p e k) starts (1 : Fin 4) = rev 9 p := by
  unfold GatherDims.start
  rw [dif_pos (by decide)]
  refine (congrArg (fun i => min (starts i).toInt.toNat _) (taking_start g p e k 0 _)).trans ?_
  show min (starts (ValueIdx.ix2 p 0)).toInt.toNat (512 - 1) = rev 9 p
  have := rev_small p p.2
  rw [starts_row, word_small this]; omega

/-- Along the columns the gather starts at 0. -/
theorem taking_column (g : Fin 4) (p : Fin 512) (e : Fin 32) (k : Fin 3) : taking.start (ValueIdx.ix4 g p e k) starts (3 : Fin 4) = 0 := by
  unfold GatherDims.start
  rw [dif_pos (by decide)]
  refine (congrArg (fun i => min (starts i).toInt.toNat _) (taking_start g p e k 1 _)).trans ?_
  rw [starts_column]
  exact Nat.zero_min _

/-- The gather reads the row that the table names. -/
theorem taken {v : FVec Ideal S4x512x32x8 .f32} (g : Fin 4) (p : Fin 512) (e : Fin 32) (k : Fin 3) :
    Host.gather taking v starts (ValueIdx.ix4 g p e k) = v (ValueIdx.ix4 g ⟨rev 9 p, rev_small p p.2⟩ e ⟨k, by omega⟩) := by
  unfold Host.gather
  congr 1
  funext a
  refine Fin.ext ?_
  show taking.start _ starts a + taking.batchCoord _ a + taking.offCoord _ a = _
  rw [GatherDims.batchCoord_eq_zero _ _ _ List.not_mem_nil, Nat.add_zero]
  match a with
  | ⟨0, _⟩ => exact (congrArg (· + _) (taking_kept _ 0 (by decide))).trans (Nat.zero_add _)
  | ⟨1, _⟩ => exact (congrArg₂ (· + ·) (taking_row g p e k) (GatherDims.offCoord_eq_zero taking _ (1 : Fin 4) (by decide))).trans (Nat.add_zero _)
  | ⟨2, _⟩ => exact (congrArg (· + _) (taking_kept _ 2 (by decide))).trans (Nat.zero_add _)
  | ⟨3, _⟩ => exact (congrArg (· + _) (taking_column g p e k)).trans (Nat.zero_add _)

/-- The kernel's result from its result array: the leaves in order, three features each. -/
def arranged (v : FVec Ideal S65536x8 .f32) : FVec Ideal S128x512x3 .f32 :=
  shapeCast S128x512x3 (transpose S4x32x512x3 [0, 2, 1, 3] (Host.gather taking (shapeCast S4x512x32x8 v shapeCasts_S65536x8_S4x512x32x8) starts)
    transposes_S4x512x32x3_S4x32x512x3_0_2_1_3) shapeCasts_S4x32x512x3_S128x512x3

/-- An entry of the result is the entry of the result array at its event and its reversed leaf. -/
theorem arranged_apply {v : FVec Ideal S65536x8 .f32} (e : Fin 128) (p : Fin 512) (k : Fin 3) :
    arranged v (ValueIdx.ix3 e p k) = v (ValueIdx.ix2 ⟨e / 32 * 16384 + rev 9 p * 32 + e % 32, by have := rev_small p p.2; omega⟩ ⟨k, by omega⟩) := by
  unfold arranged
  have hr := rev_small p p.2
  have h0 : e.val / 32 < 4 := by omega
  have h1 : e.val % 32 < 32 := by omega
  rw [shapeCast_apply _ shapeCasts_S4x32x512x3_S128x512x3 (ValueIdx.ix3 e p k) (ValueIdx.ix4 ⟨e / 32, h0⟩ ⟨e % 32, h1⟩ p k) (by
      rw [Shape.rowMajor_val_three, Shape.rowMajor_val_four]
      show ((e.val / 32 * 32 + e.val % 32) * 512 + p.val) * 3 + k.val = (e.val * 512 + p.val) * 3 + k.val
      omega),
    transpose_apply _ _ _ (ValueIdx.ix4 ⟨e / 32, h0⟩ ⟨e % 32, h1⟩ p k) (ValueIdx.ix4 ⟨e / 32, h0⟩ p ⟨e % 32, h1⟩ k) (fun b => match b with
      | ⟨0, _⟩ => rfl | ⟨1, _⟩ => rfl | ⟨2, _⟩ => rfl | ⟨3, _⟩ => rfl),
    taken,
    shapeCast_apply v shapeCasts_S65536x8_S4x512x32x8 (ValueIdx.ix4 ⟨e / 32, h0⟩ ⟨rev 9 p, hr⟩ ⟨e % 32, h1⟩ ⟨k, by omega⟩)
      (ValueIdx.ix2 ⟨e / 32 * 16384 + rev 9 p * 32 + e % 32, by omega⟩ ⟨k, by omega⟩) (by
      rw [Shape.rowMajor_val_two, Shape.rowMajor_val_four]
      show (e.val / 32 * 16384 + rev 9 p * 32 + e.val % 32) * 8 + k.val = ((e.val / 32 * 512 + rev 9 p) * 32 + e.val % 32) * 8 + k.val
      omega)]

variable (m : (ℓ : Loc nD τ sig) → Buf (Elt Ideal) ℓ) (c : Dev nD)

/-- The table of positions as the kernel starts. -/
theorem entry_table : V0 m c (Proc.devRef .tc main_c) = fun i => lit0 (S512.rowMajor i) := by
  unfold V0 hostOps0
  simp only [List.flatten_cons, List.flatten_nil, List.append_nil]
  after_results
  rfl

/-- The flags of the table are all zero as the kernel starts. -/
theorem entry_flags : V0 m c (Proc.devRef .tc main_c_0) = constantI S512 1 0#1 := by
  unfold V0 hostOps0
  simp only [List.flatten_cons, List.flatten_nil, List.append_nil]
  after_results

/-- What the operations after the kernel leave in the result. -/
theorem result_arranged : Pipeline.afterTail₀ cfgs (dats m) 0 (V0 m) [hostOps1] c main_v27 = arranged ((dats m 0 c).arrAt 11 (cfgs 0).N) := by
  have ht : Pipeline.withArrays (cfgs 0).spec c (V0 m c) (fun w => (dats m 0 c).arrAt w (cfgs 0).N) (Proc.devRef .tc main_c) = fun i => lit0 (S512.rowMajor i) :=
    (Pipeline.withArrays_of_ne _ c (V0 m c) _ main_c (by exact (by decide : ∀ w, Pipeline.arrRef spec0 w ≠ main_c))).trans (entry_table m c)
  have hf : Pipeline.withArrays (cfgs 0).spec c (V0 m c) (fun w => (dats m 0 c).arrAt w (cfgs 0).N) (Proc.devRef .tc main_c_0) = constantI S512 1 0#1 :=
    (Pipeline.withArrays_of_ne _ c (V0 m c) _ main_c_0 (by exact (by decide : ∀ w, Pipeline.arrRef spec0 w ≠ main_c_0))).trans (entry_flags m c)
  have ho : Pipeline.withArrays (cfgs 0).spec c (V0 m c) (fun w => (dats m 0 c).arrAt w (cfgs 0).N) (Proc.devRef .tc main_v17)
      = (dats m 0 c).arrAt 11 (cfgs 0).N :=
    Pipeline.withArrays_arr (cfgs 0).spec (by exact (by decide : Function.Injective (Pipeline.arrRef spec0))) c (V0 m c) _ 11
  unfold Pipeline.afterTail₀ hostOps1
  simp only [List.flatten_cons, List.flatten_nil, List.append_nil]
  after_results
  rw [ht, hf, ho]
  rfl

/-- The kernel leaves in its result what the reference computes of the same arguments. -/
theorem Telling.kernel_result {w : Params} {x : ℕ → ℕ → ℝ} (h : Telling (kernelArguments m c) w x) :
    Pipeline.afterTail₀ cfgs (dats m) 0 (V0 m) [hostOps1] c main_v27 = resultR (kernelArguments m c) := by
  rw [result_arranged]
  funext i
  obtain ⟨e, p, k, rfl⟩ : ∃ (e : Fin 128) (p : Fin 512) (k : Fin 3), i = ValueIdx.ix3 e p k := ⟨i 0, i 1, i 2, ValueIdx.eq_ix3 i⟩
  have hr := rev_small p p.2
  refine (arranged_apply e p k).trans ((h.entering.array _ _).trans ?_)
  refine Eq.trans ?_ (Rep3.result h e p k).symm
  have h1 : (e.val / 32 * 16384 + rev 9 p * 32 + e.val % 32) / 16384 * 32 + (e.val / 32 * 16384 + rev 9 p * 32 + e.val % 32) % 32 = e.val := by omega
  have h2 : (e.val / 32 * 16384 + rev 9 p * 32 + e.val % 32) % 16384 / 32 = rev 9 p := by omega
  show ((resultS w (x ((e.val / 32 * 16384 + rev 9 p * 32 + e.val % 32) / 16384 * 32 + (e.val / 32 * 16384 + rev 9 p * 32 + e.val % 32) % 32))
    ((e.val / 32 * 16384 + rev 9 p * 32 + e.val % 32) % 16384 / 32) k.val : ℝ) : EReal) = _
  rw [h1, h2]

end Cert.Tree

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_real_and_unbiased
public import proofs.«01_k».proof.Proof.Order
public import Idealize.ShloMosaic.Lib.Quiescent
public import Idealize.ShloMosaic.Lib.Claim
public import Idealize.ShloMosaic.Adequacy
public import Idealize.ShloMosaic.Init

@[expose] public section

set_option maxRecDepth 65536

noncomputable section

namespace Cert.Proof

open Idealize.ShloMosaic Idealize.ShloMosaic.StableHlo Idealize.SL.Sem Cert.Tree

/-- The idealized reference runs to its end with its arguments unchanged and no semaphore counted. -/
theorem frame_reference : Cert.quiescent_ReferenceIdeal (hReferenceIdeal := Cert.ReferenceIdeal.Gen.facts) := fun m ρ _ =>
  (θ_run _ _ _).mono (fun _ h => ⟨fun c => (h c).2, sem_eq_zero_of_no_sems rfl _⟩) (Cert.ReferenceIdeal.Value.run m ρ)

/-- Each named constant is the rational it names over the ideal values, and its printed bits over the bits. -/
theorem constants : Cert.preserves_Kernel_KernelIdeal :=
  ⟨IdealRules.named_const.statement _ _ _ _ _ rfl, IdealRules.named_const.statement _ _ _ _ _ rfl,
   IdealRules.named_const.statement _ _ _ _ _ rfl, IdealRules.named_const.statement _ _ _ _ _ rfl,
   IdealRules.named_const.statement _ _ _ _ _ rfl, IdealRules.named_const.statement _ _ _ _ _ rfl,
   IdealRules.named_const.statement _ _ _ _ _ rfl, IdealRules.named_const.statement _ _ _ _ _ rfl,
   IdealRules.named_const.statement _ _ _ _ _ rfl⟩

/-- What the reference's run leaves in its result, from its arguments by name. -/
theorem reference_result (V : Valuation Cert.ReferenceIdeal.τ Cert.ReferenceIdeal.sig (Elt Ideal)) :
    extractStridedSlice (M3 128 512 3) ![0, 511, 0] (renewed (argumentsOf V) (Cert.ReferenceIdeal.Value.res_main_v819 V)) leavesFit
      = resultR (argumentsOf V) := by
  rw [reference_rounds V, resultR]

/-- Over the ideal values, from real arguments with the biases at zero, the kernel and the reference end with the same result. -/
theorem algebraic : Cert.algebraic_KernelIdeal_ReferenceIdeal_pre_real_and_unbiased (hKernelIdeal := Cert.KernelIdeal.Gen.facts)
    (hReferenceIdeal := Cert.ReferenceIdeal.Gen.facts) (hPre_real_and_unbiased := Cert.Pre_real_and_unbiased.Gen.facts) :=
  fun m g m' g' hpre hagree => by
  have hA (c : Dev Cert.KernelIdeal.nD) : argumentsOf (launchContents m' c) = kernelArguments m c := by
    unfold argumentsOf kernelArguments
    rw [Arguments.mk.injEq]
    exact hagree c
  refine ⟨fun c => resultR (kernelArguments m c), ?_, ?_⟩
  · refine θ_run_mono (θ_run_and (Cert.KernelIdeal.Gen.run_main m g) (Cert.KernelIdeal.Gen.unchanged m g)) fun r h c => ⟨?_, h.2 c⟩
    exact ((h.1 c).2 Cert.KernelIdeal.main_v27 (by decide)).trans (Telling.kernel_result m c (telling (kernelArguments m c) (hpre c)))
  · refine θ_run_mono (Cert.ReferenceIdeal.Value.run m' g') fun r h c => ⟨?_, (h c).2⟩
    exact (h c).1.trans ((reference_result (launchContents m' c)).trans (congrArg resultR (hA c)))

/-- The certificate's claim. -/
theorem claim : Cert.Claim :=
  ⟨Cert.Kernel.Gen.facts, Cert.KernelIdeal.Gen.facts, Cert.ReferenceIdeal.Gen.facts, Cert.Pre_real_and_unbiased.Gen.facts,
   fun m ρ _ => Cert.Kernel.Gen.frame m ρ, fun m ρ _ => Cert.KernelIdeal.Gen.frame m ρ, fun m ρ _ => Cert.KernelIdeal.Gen.frame m ρ,
   frame_reference, fun m ρ _ => frame_reference m ρ trivial, constants, algebraic⟩

end Cert.Proof

end
